-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1000000x32 : Shape := ⟨2, ![1000000, 32]⟩
abbrev S100000x32 : Shape := ⟨2, ![100000, 32]⟩
abbrev S64x64 : Shape := ⟨2, ![64, 64]⟩
abbrev S64 : Shape := ⟨1, ![64]⟩
abbrev S64x16 : Shape := ⟨2, ![64, 16]⟩
abbrev S16 : Shape := ⟨1, ![16]⟩
abbrev S64x8 : Shape := ⟨2, ![64, 8]⟩
abbrev S8 : Shape := ⟨1, ![8]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S1000000x32 .f32) (main_arg3 : FVec F S100000x32 .f32) (main_arg4 : FVec F S64x64 .f32) (main_arg5 : FVec F S64 .f32) (main_arg6 : FVec F S64x16 .f32) (main_arg7 : FVec F S16 .f32) (main_arg8 : FVec F S64x8 .f32) (main_arg9 : FVec F S8 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 1000000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 100000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  main_v14
-- ==== Kernel.lean ====
abbrev S16384 : Shape := ⟨1, ![16384]⟩
abbrev S1000000x32 : Shape := ⟨2, ![1000000, 32]⟩
abbrev S100000x32 : Shape := ⟨2, ![100000, 32]⟩
abbrev S64x64 : Shape := ⟨2, ![64, 64]⟩
abbrev S64 : Shape := ⟨1, ![64]⟩
abbrev S64x16 : Shape := ⟨2, ![64, 16]⟩
abbrev S16 : Shape := ⟨1, ![16]⟩
abbrev S64x8 : Shape := ⟨2, ![64, 8]⟩
abbrev S8 : Shape := ⟨1, ![8]⟩
abbrev S125000x8x32 : Shape := ⟨3, ![125000, 8, 32]⟩
abbrev S12500x8x32 : Shape := ⟨3, ![12500, 8, 32]⟩
abbrev S4096x128 : Shape := ⟨2, ![4096, 128]⟩
abbrev S512 : Shape := ⟨1, ![512]⟩
abbrev S128x32 : Shape := ⟨2, ![128, 32]⟩
abbrev S128x128 : Shape := ⟨2, ![128, 128]⟩
abbrev S_ : Shape := ⟨0, ![]⟩
abbrev S1 : Shape := ⟨1, ![1]⟩
abbrev S8x32 : Shape := ⟨2, ![8, 32]⟩
abbrev S1x8x32 : Shape := ⟨3, ![1, 8, 32]⟩
abbrev S1x64 : Shape := ⟨2, ![1, 64]⟩
abbrev S1x16 : Shape := ⟨2, ![1, 16]⟩
abbrev S1x8 : Shape := ⟨2, ![1, 8]⟩
abbrev S4096x64 : Shape := ⟨2, ![4096, 64]⟩
abbrev S4096x32 : Shape := ⟨2, ![4096, 32]⟩
abbrev S512x128 : Shape := ⟨2, ![512, 128]⟩
abbrev S512x64 : Shape := ⟨2, ![512, 64]⟩
abbrev S512x32 : Shape := ⟨2, ![512, 32]⟩
abbrev S32x64 : Shape := ⟨2, ![32, 64]⟩
abbrev S512x16 : Shape := ⟨2, ![512, 16]⟩
abbrev S512x8 : Shape := ⟨2, ![512, 8]⟩
abbrev S16384x16 : Shape := ⟨2, ![16384, 16]⟩
abbrev S16384x8 : Shape := ⟨2, ![16384, 8]⟩

abbrev nBuf : Table → Nat
  | .hbm => 21
  | .local .tc .vmem => 14
  | .local .scVector .vmem => 8
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S100000x32, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S64x8, .f32⟩
  | .hbm, ⟨9, _⟩ => ⟨S8, .f32⟩
  | .hbm, ⟨10, _⟩ => ⟨S125000x8x32, .f32⟩
  | .hbm, ⟨11, _⟩ => ⟨S12500x8x32, .f32⟩
  | .hbm, ⟨12, _⟩ => ⟨S4096x128, .f32⟩
  | .hbm, ⟨13, _⟩ => ⟨S4096x128, .f32⟩
  | .hbm, ⟨14, _⟩ => ⟨S1x64, .f32⟩
  | .hbm, ⟨15, _⟩ => ⟨S1x16, .f32⟩
  | .hbm, ⟨16, _⟩ => ⟨S1x8, .f32⟩
  | .hbm, ⟨17, _⟩ => ⟨S4096x64, .f32⟩
  | .hbm, ⟨18, _⟩ => ⟨S4096x32, .f32⟩
  | .hbm, ⟨19, _⟩ => ⟨S16384x16, .f32⟩
  | .hbm, ⟨20, _⟩ => ⟨S16384x8, .f32⟩
  | .local .tc .vmem, ⟨0, _⟩ => ⟨S512x128, .f32⟩
  | .local .tc .vmem, ⟨1, _⟩ => ⟨S512x128, .f32⟩
  | .local .tc .vmem, ⟨2, _⟩ => ⟨S512x128, .f32⟩
  | .local .tc .vmem, ⟨3, _⟩ => ⟨S512x128, .f32⟩
  | .local .tc .vmem, ⟨4, _⟩ => ⟨S64x64, .f32⟩
  | .local .tc .vmem, ⟨5, _⟩ => ⟨S1x64, .f32⟩
  | .local .tc .vmem, ⟨6, _⟩ => ⟨S64x16, .f32⟩
  | .local .tc .vmem, ⟨7, _⟩ => ⟨S1x16, .f32⟩
  | .local .tc .vmem, ⟨8, _⟩ => ⟨S64x8, .f32⟩
  | .local .tc .vmem, ⟨9, _⟩ => ⟨S1x8, .f32⟩
  | .local .tc .vmem, ⟨10, _⟩ => ⟨S512x64, .f32⟩
  | .local .tc .vmem, ⟨11, _⟩ => ⟨S512x64, .f32⟩
  | .local .tc .vmem, ⟨12, _⟩ => ⟨S512x32, .f32⟩
  | .local .tc .vmem, ⟨13, _⟩ => ⟨S512x32, .f32⟩
  | .local .scVector .vmem, ⟨0, _⟩ => ⟨S512, .i32⟩
  | .local .scVector .vmem, ⟨1, _⟩ => ⟨S512, .i32⟩
  | .local .scVector .vmem, ⟨2, _⟩ => ⟨S128x32, .f32⟩
  | .local .scVector .vmem, ⟨3, _⟩ => ⟨S128x32, .f32⟩
  | .local .scVector .vmem, ⟨4, _⟩ => ⟨S128x32, .f32⟩
  | .local .scVector .vmem, ⟨5, _⟩ => ⟨S128x32, .f32⟩
  | .local .scVector .vmem, ⟨6, _⟩ => ⟨S128x128, .f32⟩
  | .local .scVector .vmem, ⟨7, _⟩ => ⟨S128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v7 : Ref sig .tc := ⟨.hbm, 19, rfl⟩
abbrev main_v8 : Ref sig .tc := ⟨.hbm, 20, rfl⟩
abbrev main_arg0_scv : Ref sig .scVector := ⟨.hbm, 0, rfl⟩
abbrev main_arg1_scv : Ref sig .scVector := ⟨.hbm, 1, rfl⟩
abbrev main_v0_scv : Ref sig .scVector := ⟨.hbm, 10, rfl⟩
abbrev main_v1_scv : Ref sig .scVector := ⟨.hbm, 11, rfl⟩
abbrev main_v2_0_scv : Ref sig .scVector := ⟨.hbm, 12, rfl⟩
abbrev main_v2_1_scv : Ref sig .scVector := ⟨.hbm, 13, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg8_1 : Ref sig .tc := ⟨.vmem, 11, rfl⟩
abbrev cc1_stg9_0 : Ref sig .tc := ⟨.vmem, 12, rfl⟩
abbrev cc1_stg9_1 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc1_sem9_0 : DmaSem sig := 20
abbrev cc1_sem9_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  v2
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := v2
  ![v3.toNat]
def k0_off2 (v8 : BitVec 32) : Fin 3 → Nat :=
  let c0_i32_1 : BitVec 32 := 0#32
  let c0_i32_2 : BitVec 32 := 0#32
  ![v8.toNat, 0, 0]

def k0_chk1 (v8 : BitVec 32) : Prop :=
  (∀ a, (k0_off2 v8) a + S1x8x32.size a ≤ S125000x8x32.size a)
theorem k0_off2_inb : ∀ (v8 : BitVec 32) (k0_hw1 : k0_chk1 v8), ∀ a, (k0_off2 v8) a + S1x8x32.size a ≤ S125000x8x32.size a := fun v8 k0_hw1 => k0_hw1

def k0_off3 (v16 : BitVec 32) : Fin 3 → Nat :=
  let c0_i32_8 : BitVec 32 := 0#32
  let c0_i32_9 : BitVec 32 := 0#32
  ![v16.toNat, 0, 0]

def k0_chk2 (v16 : BitVec 32) : Prop :=
  (∀ a, (k0_off3 v16) a + S1x8x32.size a ≤ S125000x8x32.size a)
theorem k0_off3_inb : ∀ (v16 : BitVec 32) (k0_hw2 : k0_chk2 v16), ∀ a, (k0_off3 v16) a + S1x8x32.size a ≤ S125000x8x32.size a := fun v16 k0_hw2 => k0_hw2

def k0_off4 (v24 : BitVec 32) : Fin 3 → Nat :=
  let c0_i32_15 : BitVec 32 := 0#32
  let c0_i32_16 : BitVec 32 := 0#32
  ![v24.toNat, 0, 0]

def k0_chk3 (v24 : BitVec 32) : Prop :=
  (∀ a, (k0_off4 v24) a + S1x8x32.size a ≤ S125000x8x32.size a)
theorem k0_off4_inb : ∀ (v24 : BitVec 32) (k0_hw3 : k0_chk3 v24), ∀ a, (k0_off4 v24) a + S1x8x32.size a ≤ S125000x8x32.size a := fun v24 k0_hw3 => k0_hw3

def k0_off5 (v32 : BitVec 32) : Fin 3 → Nat :=
  let c0_i32_22 : BitVec 32 := 0#32
  let c0_i32_23 : BitVec 32 := 0#32
  ![v32.toNat, 0, 0]

def k0_chk4 (v32 : BitVec 32) : Prop :=
  (∀ a, (k0_off5 v32) a + S1x8x32.size a ≤ S125000x8x32.size a)
theorem k0_off5_inb : ∀ (v32 : BitVec 32) (k0_hw4 : k0_chk4 v32), ∀ a, (k0_off5 v32) a + S1x8x32.size a ≤ S125000x8x32.size a := fun v32 k0_hw4 => k0_hw4

def k0_off6 (v40 : BitVec 32) : Fin 3 → Nat :=
  let c0_i32_29 : BitVec 32 := 0#32
  let c0_i32_30 : BitVec 32 := 0#32
  ![v40.toNat, 0, 0]

def k0_chk5 (v40 : BitVec 32) : Prop :=
  (∀ a, (k0_off6 v40) a + S1x8x32.size a ≤ S125000x8x32.size a)
theorem k0_off6_inb : ∀ (v40 : BitVec 32) (k0_hw5 : k0_chk5 v40), ∀ a, (k0_off6 v40) a + S1x8x32.size a ≤ S125000x8x32.size a := fun v40 k0_hw5 => k0_hw5

def k0_off7 (v48 : BitVec 32) : Fin 3 → Nat :=
  let c0_i32_36 : BitVec 32 := 0#32
  let c0_i32_37 : BitVec 32 := 0#32
  ![v48.toNat, 0, 0]

def k0_chk6 (v48 : BitVec 32) : Prop :=
  (∀ a, (k0_off7 v48) a + S1x8x32.size a ≤ S125000x8x32.size a)
theorem k0_off7_inb : ∀ (v48 : BitVec 32) (k0_hw6 : k0_chk6 v48), ∀ a, (k0_off7 v48) a + S1x8x32.size a ≤ S125000x8x32.size a := fun v48 k0_hw6 => k0_hw6

def k0_off8 (v56 : BitVec 32) : Fin 3 → Nat :=
  let c0_i32_43 : BitVec 32 := 0#32
  let c0_i32_44 : BitVec 32 := 0#32
  ![v56.toNat, 0, 0]

def k0_chk7 (v56 : BitVec 32) : Prop :=
  (∀ a, (k0_off8 v56) a + S1x8x32.size a ≤ S125000x8x32.size a)
theorem k0_off8_inb : ∀ (v56 : BitVec 32) (k0_hw7 : k0_chk7 v56), ∀ a, (k0_off8 v56) a + S1x8x32.size a ≤ S125000x8x32.size a := fun v56 k0_hw7 => k0_hw7

def k0_off9 (v64 : BitVec 32) : Fin 3 → Nat :=
  let c0_i32_50 : BitVec 32 := 0#32
  let c0_i32_51 : BitVec 32 := 0#32
  ![v64.toNat, 0, 0]

def k0_chk8 (v64 : BitVec 32) : Prop :=
  (∀ a, (k0_off9 v64) a + S1x8x32.size a ≤ S125000x8x32.size a)
theorem k0_off9_inb : ∀ (v64 : BitVec 32) (k0_hw8 : k0_chk8 v64), ∀ a, (k0_off9 v64) a + S1x8x32.size a ≤ S125000x8x32.size a := fun v64 k0_hw8 => k0_hw8

def k0_off10 (v72 : BitVec 32) : Fin 3 → Nat :=
  let c0_i32_57 : BitVec 32 := 0#32
  let c0_i32_58 : BitVec 32 := 0#32
  ![v72.toNat, 0, 0]

def k0_chk9 (v72 : BitVec 32) : Prop :=
  (∀ a, (k0_off10 v72) a + S1x8x32.size a ≤ S125000x8x32.size a)
theorem k0_off10_inb : ∀ (v72 : BitVec 32) (k0_hw9 : k0_chk9 v72), ∀ a, (k0_off10 v72) a + S1x8x32.size a ≤ S125000x8x32.size a := fun v72 k0_hw9 => k0_hw9

def k0_off11 (v80 : BitVec 32) : Fin 3 → Nat :=
  let c0_i32_64 : BitVec 32 := 0#32
  let c0_i32_65 : BitVec 32 := 0#32
  ![v80.toNat, 0, 0]

def k0_chk10 (v80 : BitVec 32) : Prop :=
  (∀ a, (k0_off11 v80) a + S1x8x32.size a ≤ S125000x8x32.size a)
theorem k0_off11_inb : ∀ (v80 : BitVec 32) (k0_hw10 : k0_chk10 v80), ∀ a, (k0_off11 v80) a + S1x8x32.size a ≤ S125000x8x32.size a := fun v80 k0_hw10 => k0_hw10

def k0_off12 (v88 : BitVec 32) : Fin 3 → Nat :=
  let c0_i32_71 : BitVec 32 := 0#32
  let c0_i32_72 : BitVec 32 := 0#32
  ![v88.toNat, 0, 0]

def k0_chk11 (v88 : BitVec 32) : Prop :=
  (∀ a, (k0_off12 v88) a + S1x8x32.size a ≤ S125000x8x32.size a)
theorem k0_off12_inb : ∀ (v88 : BitVec 32) (k0_hw11 : k0_chk11 v88), ∀ a, (k0_off12 v88) a + S1x8x32.size a ≤ S125000x8x32.size a := fun v88 k0_hw11 => k0_hw11

def k0_off13 (v96 : BitVec 32) : Fin 3 → Nat :=
  let c0_i32_78 : BitVec 32 := 0#32
  let c0_i32_79 : BitVec 32 := 0#32
  ![v96.toNat, 0, 0]

def k0_chk12 (v96 : BitVec 32) : Prop :=
  (∀ a, (k0_off13 v96) a + S1x8x32.size a ≤ S125000x8x32.size a)
theorem k0_off13_inb : ∀ (v96 : BitVec 32) (k0_hw12 : k0_chk12 v96), ∀ a, (k0_off13 v96) a + S1x8x32.size a ≤ S125000x8x32.size a := fun v96 k0_hw12 => k0_hw12

def k0_off14 (v104 : BitVec 32) : Fin 3 → Nat :=
  let c0_i32_85 : BitVec 32 := 0#32
  let c0_i32_86 : BitVec 32 := 0#32
  ![v104.toNat, 0, 0]

def k0_chk13 (v104 : BitVec 32) : Prop :=
  (∀ a, (k0_off14 v104) a + S1x8x32.size a ≤ S125000x8x32.size a)
theorem k0_off14_inb : ∀ (v104 : BitVec 32) (k0_hw13 : k0_chk13 v104), ∀ a, (k0_off14 v104) a + S1x8x32.size a ≤ S125000x8x32.size a := fun v104 k0_hw13 => k0_hw13

def k0_off15 (v112 : BitVec 32) : Fin 3 → Nat :=
  let c0_i32_92 : BitVec 32 := 0#32
  let c0_i32_93 : BitVec 32 := 0#32
  ![v112.toNat, 0, 0]

def k0_chk14 (v112 : BitVec 32) : Prop :=
  (∀ a, (k0_off15 v112) a + S1x8x32.size a ≤ S125000x8x32.size a)
theorem k0_off15_inb : ∀ (v112 : BitVec 32) (k0_hw14 : k0_chk14 v112), ∀ a, (k0_off15 v112) a + S1x8x32.size a ≤ S125000x8x32.size a := fun v112 k0_hw14 => k0_hw14

def k0_off16 (v120 : BitVec 32) : Fin 3 → Nat :=
  let c0_i32_99 : BitVec 32 := 0#32
  let c0_i32_100 : BitVec 32 := 0#32
  ![v120.toNat, 0, 0]

def k0_chk15 (v120 : BitVec 32) : Prop :=
  (∀ a, (k0_off16 v120) a + S1x8x32.size a ≤ S125000x8x32.size a)
theorem k0_off16_inb : ∀ (v120 : BitVec 32) (k0_hw15 : k0_chk15 v120), ∀ a, (k0_off16 v120) a + S1x8x32.size a ≤ S125000x8x32.size a := fun v120 k0_hw15 => k0_hw15

def k0_off17 (v128 : BitVec 32) : Fin 3 → Nat :=
  let c0_i32_106 : BitVec 32 := 0#32
  let c0_i32_107 : BitVec 32 := 0#32
  ![v128.toNat, 0, 0]

def k0_chk16 (v128 : BitVec 32) : Prop :=
  (∀ a, (k0_off17 v128) a + S1x8x32.size a ≤ S125000x8x32.size a)
theorem k0_off17_inb : ∀ (v128 : BitVec 32) (k0_hw16 : k0_chk16 v128), ∀ a, (k0_off17 v128) a + S1x8x32.size a ≤ S125000x8x32.size a := fun v128 k0_hw16 => k0_hw16

def k0_off18 (v139 : BitVec 32) : Fin 3 → Nat :=
  let c0_i32_116 : BitVec 32 := 0#32
  let c0_i32_117 : BitVec 32 := 0#32
  ![v139.toNat, 0, 0]

def k0_chk17 (v139 : BitVec 32) : Prop :=
  (∀ a, (k0_off18 v139) a + S1x8x32.size a ≤ S12500x8x32.size a)
theorem k0_off18_inb : ∀ (v139 : BitVec 32) (k0_hw17 : k0_chk17 v139), ∀ a, (k0_off18 v139) a + S1x8x32.size a ≤ S12500x8x32.size a := fun v139 k0_hw17 => k0_hw17

def k0_off19 (v147 : BitVec 32) : Fin 3 → Nat :=
  let c0_i32_124 : BitVec 32 := 0#32
  let c0_i32_125 : BitVec 32 := 0#32
  ![v147.toNat, 0, 0]

def k0_chk18 (v147 : BitVec 32) : Prop :=
  (∀ a, (k0_off19 v147) a + S1x8x32.size a ≤ S12500x8x32.size a)
theorem k0_off19_inb : ∀ (v147 : BitVec 32) (k0_hw18 : k0_chk18 v147), ∀ a, (k0_off19 v147) a + S1x8x32.size a ≤ S12500x8x32.size a := fun v147 k0_hw18 => k0_hw18

def k0_off20 (v155 : BitVec 32) : Fin 3 → Nat :=
  let c0_i32_132 : BitVec 32 := 0#32
  let c0_i32_133 : BitVec 32 := 0#32
  ![v155.toNat, 0, 0]

def k0_chk19 (v155 : BitVec 32) : Prop :=
  (∀ a, (k0_off20 v155) a + S1x8x32.size a ≤ S12500x8x32.size a)
theorem k0_off20_inb : ∀ (v155 : BitVec 32) (k0_hw19 : k0_chk19 v155), ∀ a, (k0_off20 v155) a + S1x8x32.size a ≤ S12500x8x32.size a := fun v155 k0_hw19 => k0_hw19

def k0_off21 (v163 : BitVec 32) : Fin 3 → Nat :=
  let c0_i32_140 : BitVec 32 := 0#32
  let c0_i32_141 : BitVec 32 := 0#32
  ![v163.toNat, 0, 0]

def k0_chk20 (v163 : BitVec 32) : Prop :=
  (∀ a, (k0_off21 v163) a + S1x8x32.size a ≤ S12500x8x32.size a)
theorem k0_off21_inb : ∀ (v163 : BitVec 32) (k0_hw20 : k0_chk20 v163), ∀ a, (k0_off21 v163) a + S1x8x32.size a ≤ S12500x8x32.size a := fun v163 k0_hw20 => k0_hw20

def k0_off22 (v171 : BitVec 32) : Fin 3 → Nat :=
  let c0_i32_148 : BitVec 32 := 0#32
  let c0_i32_149 : BitVec 32 := 0#32
  ![v171.toNat, 0, 0]

def k0_chk21 (v171 : BitVec 32) : Prop :=
  (∀ a, (k0_off22 v171) a + S1x8x32.size a ≤ S12500x8x32.size a)
theorem k0_off22_inb : ∀ (v171 : BitVec 32) (k0_hw21 : k0_chk21 v171), ∀ a, (k0_off22 v171) a + S1x8x32.size a ≤ S12500x8x32.size a := fun v171 k0_hw21 => k0_hw21

def k0_off23 (v179 : BitVec 32) : Fin 3 → Nat :=
  let c0_i32_156 : BitVec 32 := 0#32
  let c0_i32_157 : BitVec 32 := 0#32
  ![v179.toNat, 0, 0]

def k0_chk22 (v179 : BitVec 32) : Prop :=
  (∀ a, (k0_off23 v179) a + S1x8x32.size a ≤ S12500x8x32.size a)
theorem k0_off23_inb : ∀ (v179 : BitVec 32) (k0_hw22 : k0_chk22 v179), ∀ a, (k0_off23 v179) a + S1x8x32.size a ≤ S12500x8x32.size a := fun v179 k0_hw22 => k0_hw22

def k0_off24 (v187 : BitVec 32) : Fin 3 → Nat :=
  let c0_i32_164 : BitVec 32 := 0#32
  let c0_i32_165 : BitVec 32 := 0#32
  ![v187.toNat, 0, 0]

def k0_chk23 (v187 : BitVec 32) : Prop :=
  (∀ a, (k0_off24 v187) a + S1x8x32.size a ≤ S12500x8x32.size a)
theorem k0_off24_inb : ∀ (v187 : BitVec 32) (k0_hw23 : k0_chk23 v187), ∀ a, (k0_off24 v187) a + S1x8x32.size a ≤ S12500x8x32.size a := fun v187 k0_hw23 => k0_hw23

def k0_off25 (v195 : BitVec 32) : Fin 3 → Nat :=
  let c0_i32_172 : BitVec 32 := 0#32
  let c0_i32_173 : BitVec 32 := 0#32
  ![v195.toNat, 0, 0]

def k0_chk24 (v195 : BitVec 32) : Prop :=
  (∀ a, (k0_off25 v195) a + S1x8x32.size a ≤ S12500x8x32.size a)
theorem k0_off25_inb : ∀ (v195 : BitVec 32) (k0_hw24 : k0_chk24 v195), ∀ a, (k0_off25 v195) a + S1x8x32.size a ≤ S12500x8x32.size a := fun v195 k0_hw24 => k0_hw24

def k0_off26 (v203 : BitVec 32) : Fin 3 → Nat :=
  let c0_i32_180 : BitVec 32 := 0#32
  let c0_i32_181 : BitVec 32 := 0#32
  ![v203.toNat, 0, 0]

def k0_chk25 (v203 : BitVec 32) : Prop :=
  (∀ a, (k0_off26 v203) a + S1x8x32.size a ≤ S12500x8x32.size a)
theorem k0_off26_inb : ∀ (v203 : BitVec 32) (k0_hw25 : k0_chk25 v203), ∀ a, (k0_off26 v203) a + S1x8x32.size a ≤ S12500x8x32.size a := fun v203 k0_hw25 => k0_hw25

def k0_off27 (v211 : BitVec 32) : Fin 3 → Nat :=
  let c0_i32_188 : BitVec 32 := 0#32
  let c0_i32_189 : BitVec 32 := 0#32
  ![v211.toNat, 0, 0]

def k0_chk26 (v211 : BitVec 32) : Prop :=
  (∀ a, (k0_off27 v211) a + S1x8x32.size a ≤ S12500x8x32.size a)
theorem k0_off27_inb : ∀ (v211 : BitVec 32) (k0_hw26 : k0_chk26 v211), ∀ a, (k0_off27 v211) a + S1x8x32.size a ≤ S12500x8x32.size a := fun v211 k0_hw26 => k0_hw26

def k0_off28 (v219 : BitVec 32) : Fin 3 → Nat :=
  let c0_i32_196 : BitVec 32 := 0#32
  let c0_i32_197 : BitVec 32 := 0#32
  ![v219.toNat, 0, 0]

def k0_chk27 (v219 : BitVec 32) : Prop :=
  (∀ a, (k0_off28 v219) a + S1x8x32.size a ≤ S12500x8x32.size a)
theorem k0_off28_inb : ∀ (v219 : BitVec 32) (k0_hw27 : k0_chk27 v219), ∀ a, (k0_off28 v219) a + S1x8x32.size a ≤ S12500x8x32.size a := fun v219 k0_hw27 => k0_hw27

def k0_off29 (v227 : BitVec 32) : Fin 3 → Nat :=
  let c0_i32_204 : BitVec 32 := 0#32
  let c0_i32_205 : BitVec 32 := 0#32
  ![v227.toNat, 0, 0]

def k0_chk28 (v227 : BitVec 32) : Prop :=
  (∀ a, (k0_off29 v227) a + S1x8x32.size a ≤ S12500x8x32.size a)
theorem k0_off29_inb : ∀ (v227 : BitVec 32) (k0_hw28 : k0_chk28 v227), ∀ a, (k0_off29 v227) a + S1x8x32.size a ≤ S12500x8x32.size a := fun v227 k0_hw28 => k0_hw28

def k0_off30 (v235 : BitVec 32) : Fin 3 → Nat :=
  let c0_i32_212 : BitVec 32 := 0#32
  let c0_i32_213 : BitVec 32 := 0#32
  ![v235.toNat, 0, 0]

def k0_chk29 (v235 : BitVec 32) : Prop :=
  (∀ a, (k0_off30 v235) a + S1x8x32.size a ≤ S12500x8x32.size a)
theorem k0_off30_inb : ∀ (v235 : BitVec 32) (k0_hw29 : k0_chk29 v235), ∀ a, (k0_off30 v235) a + S1x8x32.size a ≤ S12500x8x32.size a := fun v235 k0_hw29 => k0_hw29

def k0_off31 (v243 : BitVec 32) : Fin 3 → Nat :=
  let c0_i32_220 : BitVec 32 := 0#32
  let c0_i32_221 : BitVec 32 := 0#32
  ![v243.toNat, 0, 0]

def k0_chk30 (v243 : BitVec 32) : Prop :=
  (∀ a, (k0_off31 v243) a + S1x8x32.size a ≤ S12500x8x32.size a)
theorem k0_off31_inb : ∀ (v243 : BitVec 32) (k0_hw30 : k0_chk30 v243), ∀ a, (k0_off31 v243) a + S1x8x32.size a ≤ S12500x8x32.size a := fun v243 k0_hw30 => k0_hw30

def k0_off32 (v251 : BitVec 32) : Fin 3 → Nat :=
  let c0_i32_228 : BitVec 32 := 0#32
  let c0_i32_229 : BitVec 32 := 0#32
  ![v251.toNat, 0, 0]

def k0_chk31 (v251 : BitVec 32) : Prop :=
  (∀ a, (k0_off32 v251) a + S1x8x32.size a ≤ S12500x8x32.size a)
theorem k0_off32_inb : ∀ (v251 : BitVec 32) (k0_hw31 : k0_chk31 v251), ∀ a, (k0_off32 v251) a + S1x8x32.size a ≤ S12500x8x32.size a := fun v251 k0_hw31 => k0_hw31

def k0_off33 (v259 : BitVec 32) : Fin 3 → Nat :=
  let c0_i32_236 : BitVec 32 := 0#32
  let c0_i32_237 : BitVec 32 := 0#32
  ![v259.toNat, 0, 0]

def k0_chk32 (v259 : BitVec 32) : Prop :=
  (∀ a, (k0_off33 v259) a + S1x8x32.size a ≤ S12500x8x32.size a)
theorem k0_off33_inb : ∀ (v259 : BitVec 32) (k0_hw32 : k0_chk32 v259), ∀ a, (k0_off33 v259) a + S1x8x32.size a ≤ S12500x8x32.size a := fun v259 k0_hw32 => k0_hw32

@[reducible] def k0_t1_loop : Scf.Loop 32 :=
  let c0_i32_243 : BitVec 32 := 0#32
  let c16_i32_244 : BitVec 32 := 16#32
  let v266 : BitVec 32 := Scalar.addi c0_i32_243 c16_i32_244
  let c1_i32 : BitVec 32 := 1#32
  ⟨c0_i32_243, v266, c1_i32⟩
def k0_cond1 (k0_t1 : Fin k0_t1_loop.trips) : BitVec 1 :=
  let c0_i32_243 : BitVec 32 := 0#32
  let c1_i32 : BitVec 32 := 1#32
  let arg20 : BitVec 32 := Scf.iv c0_i32_243 c1_i32 k0_t1
  let c2_i32_252 : BitVec 32 := 2#32
  let v285 : BitVec 32 := Scalar.muli arg20 c2_i32_252
  let c0_i32_253 : BitVec 32 := 0#32
  let v286 : BitVec 32 := Scalar.addi v285 c0_i32_253
  let c1_i32_254 : BitVec 32 := 1#32
  let v287 : BitVec 32 := Scalar.addi v286 c1_i32_254
  let c32_i32_255 : BitVec 32 := 32#32
  let v288 : BitVec 1 := Scalar.cmpi .slt v287 c32_i32_255
  let v289 : BitVec 32 := Scalar.extui v288
  let c0_i32_256 : BitVec 32 := 0#32
  let v290 : BitVec 1 := Scalar.cmpi .ne v289 c0_i32_256
  v290

def k0_off34 (k0_t1 : Fin k0_t1_loop.trips) : Fin 1 → Nat :=
  let c0_i32_243 : BitVec 32 := 0#32
  let c1_i32 : BitVec 32 := 1#32
  let arg20 : BitVec 32 := Scf.iv c0_i32_243 c1_i32 k0_t1
  let c2_i32_252 : BitVec 32 := 2#32
  let v285 : BitVec 32 := Scalar.muli arg20 c2_i32_252
  let c0_i32_253 : BitVec 32 := 0#32
  let v286 : BitVec 32 := Scalar.addi v285 c0_i32_253
  let c1_i32_254 : BitVec 32 := 1#32
  let v287 : BitVec 32 := Scalar.addi v286 c1_i32_254
  let c16_i32_1098 : BitVec 32 := 16#32
  let v1265 : BitVec 32 := Scalar.muli v287 c16_i32_1098
  let v1266 : Index := Scalar.indexCast v1265
  ![v1266.toNat]
def k0_off35 (v1271 : BitVec 32) : Fin 3 → Nat :=
  let c0_i32_1102 : BitVec 32 := 0#32
  let c0_i32_1103 : BitVec 32 := 0#32
  ![v1271.toNat, 0, 0]

def k0_chk33 (k0_t1 : Fin k0_t1_loop.trips) (v1271 : BitVec 32) : Prop :=
  (∀ (k0_h1 : k0_cond1 k0_t1 = 1#1), ∀ a, (k0_off35 v1271) a + S1x8x32.size a ≤ S125000x8x32.size a)
theorem k0_off35_inb : ∀ (k0_t1 : Fin k0_t1_loop.trips) (v1271 : BitVec 32) (k0_hw33 : k0_chk33 k0_t1 v1271), ∀ (k0_h1 : k0_cond1 k0_t1 = 1#1), ∀ a, (k0_off35 v1271) a + S1x8x32.size a ≤ S125000x8x32.size a := fun k0_t1 v1271 k0_hw33 k0_h1 => k0_hw33 k0_h1

def k0_off36 (v1279 : BitVec 32) : Fin 3 → Nat :=
  let c0_i32_1110 : BitVec 32 := 0#32
  let c0_i32_1111 : BitVec 32 := 0#32
  ![v1279.toNat, 0, 0]

def k0_chk34 (k0_t1 : Fin k0_t1_loop.trips) (v1279 : BitVec 32) : Prop :=
  (∀ (k0_h1 : k0_cond1 k0_t1 = 1#1), ∀ a, (k0_off36 v1279) a + S1x8x32.size a ≤ S125000x8x32.size a)
theorem k0_off36_inb : ∀ (k0_t1 : Fin k0_t1_loop.trips) (v1279 : BitVec 32) (k0_hw34 : k0_chk34 k0_t1 v1279), ∀ (k0_h1 : k0_cond1 k0_t1 = 1#1), ∀ a, (k0_off36 v1279) a + S1x8x32.size a ≤ S125000x8x32.size a := fun k0_t1 v1279 k0_hw34 k0_h1 => k0_hw34 k0_h1

def k0_off37 (v1287 : BitVec 32) : Fin 3 → Nat :=
  let c0_i32_1118 : BitVec 32 := 0#32
  let c0_i32_1119 : BitVec 32 := 0#32
  ![v1287.toNat, 0, 0]

def k0_chk35 (k0_t1 : Fin k0_t1_loop.trips) (v1287 : BitVec 32) : Prop :=
  (∀ (k0_h1 : k0_cond1 k0_t1 = 1#1), ∀ a, (k0_off37 v1287) a + S1x8x32.size a ≤ S125000x8x32.size a)
theorem k0_off37_inb : ∀ (k0_t1 : Fin k0_t1_loop.trips) (v1287 : BitVec 32) (k0_hw35 : k0_chk35 k0_t1 v1287), ∀ (k0_h1 : k0_cond1 k0_t1 = 1#1), ∀ a, (k0_off37 v1287) a + S1x8x32.size a ≤ S125000x8x32.size a := fun k0_t1 v1287 k0_hw35 k0_h1 => k0_hw35 k0_h1

def k0_off38 (v1295 : BitVec 32) : Fin 3 → Nat :=
  let c0_i32_1126 : BitVec 32 := 0#32
  let c0_i32_1127 : BitVec 32 := 0#32
  ![v1295.toNat, 0, 0]

def k0_chk36 (k0_t1 : Fin k0_t1_loop.trips) (v1295 : BitVec 32) : Prop :=
  (∀ (k0_h1 : k0_cond1 k0_t1 = 1#1), ∀ a, (k0_off38 v1295) a + S1x8x32.size a ≤ S125000x8x32.size a)
theorem k0_off38_inb : ∀ (k0_t1 : Fin k0_t1_loop.trips) (v1295 : BitVec 32) (k0_hw36 : k0_chk36 k0_t1 v1295), ∀ (k0_h1 : k0_cond1 k0_t1 = 1#1), ∀ a, (k0_off38 v1295) a + S1x8x32.size a ≤ S125000x8x32.size a := fun k0_t1 v1295 k0_hw36 k0_h1 => k0_hw36 k0_h1

def k0_off39 (v1303 : BitVec 32) : Fin 3 → Nat :=
  let c0_i32_1134 : BitVec 32 := 0#32
  let c0_i32_1135 : BitVec 32 := 0#32
  ![v1303.toNat, 0, 0]

def k0_chk37 (k0_t1 : Fin k0_t1_loop.trips) (v1303 : BitVec 32) : Prop :=
  (∀ (k0_h1 : k0_cond1 k0_t1 = 1#1), ∀ a, (k0_off39 v1303) a + S1x8x32.size a ≤ S125000x8x32.size a)
theorem k0_off39_inb : ∀ (k0_t1 : Fin k0_t1_loop.trips) (v1303 : BitVec 32) (k0_hw37 : k0_chk37 k0_t1 v1303), ∀ (k0_h1 : k0_cond1 k0_t1 = 1#1), ∀ a, (k0_off39 v1303) a + S1x8x32.size a ≤ S125000x8x32.size a := fun k0_t1 v1303 k0_hw37 k0_h1 => k0_hw37 k0_h1

def k0_off40 (v1311 : BitVec 32) : Fin 3 → Nat :=
  let c0_i32_1142 : BitVec 32 := 0#32
  let c0_i32_1143 : BitVec 32 := 0#32
  ![v1311.toNat, 0, 0]

def k0_chk38 (k0_t1 : Fin k0_t1_loop.trips) (v1311 : BitVec 32) : Prop :=
  (∀ (k0_h1 : k0_cond1 k0_t1 = 1#1), ∀ a, (k0_off40 v1311) a + S1x8x32.size a ≤ S125000x8x32.size a)
theorem k0_off40_inb : ∀ (k0_t1 : Fin k0_t1_loop.trips) (v1311 : BitVec 32) (k0_hw38 : k0_chk38 k0_t1 v1311), ∀ (k0_h1 : k0_cond1 k0_t1 = 1#1), ∀ a, (k0_off40 v1311) a + S1x8x32.size a ≤ S125000x8x32.size a := fun k0_t1 v1311 k0_hw38 k0_h1 => k0_hw38 k0_h1

def k0_off41 (v1319 : BitVec 32) : Fin 3 → Nat :=
  let c0_i32_1150 : BitVec 32 := 0#32
  let c0_i32_1151 : BitVec 32 := 0#32
  ![v1319.toNat, 0, 0]

def k0_chk39 (k0_t1 : Fin k0_t1_loop.trips) (v1319 : BitVec 32) : Prop :=
  (∀ (k0_h1 : k0_cond1 k0_t1 = 1#1), ∀ a, (k0_off41 v1319) a + S1x8x32.size a ≤ S125000x8x32.size a)
theorem k0_off41_inb : ∀ (k0_t1 : Fin k0_t1_loop.trips) (v1319 : BitVec 32) (k0_hw39 : k0_chk39 k0_t1 v1319), ∀ (k0_h1 : k0_cond1 k0_t1 = 1#1), ∀ a, (k0_off41 v1319) a + S1x8x32.size a ≤ S125000x8x32.size a := fun k0_t1 v1319 k0_hw39 k0_h1 => k0_hw39 k0_h1

def k0_off42 (v1327 : BitVec 32) : Fin 3 → Nat :=
  let c0_i32_1158 : BitVec 32 := 0#32
  let c0_i32_1159 : BitVec 32 := 0#32
  ![v1327.toNat, 0, 0]

def k0_chk40 (k0_t1 : Fin k0_t1_loop.trips) (v1327 : BitVec 32) : Prop :=
  (∀ (k0_h1 : k0_cond1 k0_t1 = 1#1), ∀ a, (k0_off42 v1327) a + S1x8x32.size a ≤ S125000x8x32.size a)
theorem k0_off42_inb : ∀ (k0_t1 : Fin k0_t1_loop.trips) (v1327 : BitVec 32) (k0_hw40 : k0_chk40 k0_t1 v1327), ∀ (k0_h1 : k0_cond1 k0_t1 = 1#1), ∀ a, (k0_off42 v1327) a + S1x8x32.size a ≤ S125000x8x32.size a := fun k0_t1 v1327 k0_hw40 k0_h1 => k0_hw40 k0_h1

def k0_off43 (v1335 : BitVec 32) : Fin 3 → Nat :=
  let c0_i32_1166 : BitVec 32 := 0#32
  let c0_i32_1167 : BitVec 32 := 0#32
  ![v1335.toNat, 0, 0]

def k0_chk41 (k0_t1 : Fin k0_t1_loop.trips) (v1335 : BitVec 32) : Prop :=
  (∀ (k0_h1 : k0_cond1 k0_t1 = 1#1), ∀ a, (k0_off43 v1335) a + S1x8x32.size a ≤ S125000x8x32.size a)
theorem k0_off43_inb : ∀ (k0_t1 : Fin k0_t1_loop.trips) (v1335 : BitVec 32) (k0_hw41 : k0_chk41 k0_t1 v1335), ∀ (k0_h1 : k0_cond1 k0_t1 = 1#1), ∀ a, (k0_off43 v1335) a + S1x8x32.size a ≤ S125000x8x32.size a := fun k0_t1 v1335 k0_hw41 k0_h1 => k0_hw41 k0_h1

def k0_off44 (v1343 : BitVec 32) : Fin 3 → Nat :=
  let c0_i32_1174 : BitVec 32 := 0#32
  let c0_i32_1175 : BitVec 32 := 0#32
  ![v1343.toNat, 0, 0]

def k0_chk42 (k0_t1 : Fin k0_t1_loop.trips) (v1343 : BitVec 32) : Prop :=
  (∀ (k0_h1 : k0_cond1 k0_t1 = 1#1), ∀ a, (k0_off44 v1343) a + S1x8x32.size a ≤ S125000x8x32.size a)
theorem k0_off44_inb : ∀ (k0_t1 : Fin k0_t1_loop.trips) (v1343 : BitVec 32) (k0_hw42 : k0_chk42 k0_t1 v1343), ∀ (k0_h1 : k0_cond1 k0_t1 = 1#1), ∀ a, (k0_off44 v1343) a + S1x8x32.size a ≤ S125000x8x32.size a := fun k0_t1 v1343 k0_hw42 k0_h1 => k0_hw42 k0_h1

def k0_off45 (v1351 : BitVec 32) : Fin 3 → Nat :=
  let c0_i32_1182 : BitVec 32 := 0#32
  let c0_i32_1183 : BitVec 32 := 0#32
  ![v1351.toNat, 0, 0]

def k0_chk43 (k0_t1 : Fin k0_t1_loop.trips) (v1351 : BitVec 32) : Prop :=
  (∀ (k0_h1 : k0_cond1 k0_t1 = 1#1), ∀ a, (k0_off45 v1351) a + S1x8x32.size a ≤ S125000x8x32.size a)
theorem k0_off45_inb : ∀ (k0_t1 : Fin k0_t1_loop.trips) (v1351 : BitVec 32) (k0_hw43 : k0_chk43 k0_t1 v1351), ∀ (k0_h1 : k0_cond1 k0_t1 = 1#1), ∀ a, (k0_off45 v1351) a + S1x8x32.size a ≤ S125000x8x32.size a := fun k0_t1 v1351 k0_hw43 k0_h1 => k0_hw43 k0_h1

def k0_off46 (v1359 : BitVec 32) : Fin 3 → Nat :=
  let c0_i32_1190 : BitVec 32 := 0#32
  let c0_i32_1191 : BitVec 32 := 0#32
  ![v1359.toNat, 0, 0]

def k0_chk44 (k0_t1 : Fin k0_t1_loop.trips) (v1359 : BitVec 32) : Prop :=
  (∀ (k0_h1 : k0_cond1 k0_t1 = 1#1), ∀ a, (k0_off46 v1359) a + S1x8x32.size a ≤ S125000x8x32.size a)
theorem k0_off46_inb : ∀ (k0_t1 : Fin k0_t1_loop.trips) (v1359 : BitVec 32) (k0_hw44 : k0_chk44 k0_t1 v1359), ∀ (k0_h1 : k0_cond1 k0_t1 = 1#1), ∀ a, (k0_off46 v1359) a + S1x8x32.size a ≤ S125000x8x32.size a := fun k0_t1 v1359 k0_hw44 k0_h1 => k0_hw44 k0_h1

def k0_off47 (v1367 : BitVec 32) : Fin 3 → Nat :=
  let c0_i32_1198 : BitVec 32 := 0#32
  let c0_i32_1199 : BitVec 32 := 0#32
  ![v1367.toNat, 0, 0]

def k0_chk45 (k0_t1 : Fin k0_t1_loop.trips) (v1367 : BitVec 32) : Prop :=
  (∀ (k0_h1 : k0_cond1 k0_t1 = 1#1), ∀ a, (k0_off47 v1367) a + S1x8x32.size a ≤ S125000x8x32.size a)
theorem k0_off47_inb : ∀ (k0_t1 : Fin k0_t1_loop.trips) (v1367 : BitVec 32) (k0_hw45 : k0_chk45 k0_t1 v1367), ∀ (k0_h1 : k0_cond1 k0_t1 = 1#1), ∀ a, (k0_off47 v1367) a + S1x8x32.size a ≤ S125000x8x32.size a := fun k0_t1 v1367 k0_hw45 k0_h1 => k0_hw45 k0_h1

def k0_off48 (v1375 : BitVec 32) : Fin 3 → Nat :=
  let c0_i32_1206 : BitVec 32 := 0#32
  let c0_i32_1207 : BitVec 32 := 0#32
  ![v1375.toNat, 0, 0]

def k0_chk46 (k0_t1 : Fin k0_t1_loop.trips) (v1375 : BitVec 32) : Prop :=
  (∀ (k0_h1 : k0_cond1 k0_t1 = 1#1), ∀ a, (k0_off48 v1375) a + S1x8x32.size a ≤ S125000x8x32.size a)
theorem k0_off48_inb : ∀ (k0_t1 : Fin k0_t1_loop.trips) (v1375 : BitVec 32) (k0_hw46 : k0_chk46 k0_t1 v1375), ∀ (k0_h1 : k0_cond1 k0_t1 = 1#1), ∀ a, (k0_off48 v1375) a + S1x8x32.size a ≤ S125000x8x32.size a := fun k0_t1 v1375 k0_hw46 k0_h1 => k0_hw46 k0_h1

def k0_off49 (v1383 : BitVec 32) : Fin 3 → Nat :=
  let c0_i32_1214 : BitVec 32 := 0#32
  let c0_i32_1215 : BitVec 32 := 0#32
  ![v1383.toNat, 0, 0]

def k0_chk47 (k0_t1 : Fin k0_t1_loop.trips) (v1383 : BitVec 32) : Prop :=
  (∀ (k0_h1 : k0_cond1 k0_t1 = 1#1), ∀ a, (k0_off49 v1383) a + S1x8x32.size a ≤ S125000x8x32.size a)
theorem k0_off49_inb : ∀ (k0_t1 : Fin k0_t1_loop.trips) (v1383 : BitVec 32) (k0_hw47 : k0_chk47 k0_t1 v1383), ∀ (k0_h1 : k0_cond1 k0_t1 = 1#1), ∀ a, (k0_off49 v1383) a + S1x8x32.size a ≤ S125000x8x32.size a := fun k0_t1 v1383 k0_hw47 k0_h1 => k0_hw47 k0_h1

def k0_off50 (v1391 : BitVec 32) : Fin 3 → Nat :=
  let c0_i32_1222 : BitVec 32 := 0#32
  let c0_i32_1223 : BitVec 32 := 0#32
  ![v1391.toNat, 0, 0]

def k0_chk48 (k0_t1 : Fin k0_t1_loop.trips) (v1391 : BitVec 32) : Prop :=
  (∀ (k0_h1 : k0_cond1 k0_t1 = 1#1), ∀ a, (k0_off50 v1391) a + S1x8x32.size a ≤ S125000x8x32.size a)
theorem k0_off50_inb : ∀ (k0_t1 : Fin k0_t1_loop.trips) (v1391 : BitVec 32) (k0_hw48 : k0_chk48 k0_t1 v1391), ∀ (k0_h1 : k0_cond1 k0_t1 = 1#1), ∀ a, (k0_off50 v1391) a + S1x8x32.size a ≤ S125000x8x32.size a := fun k0_t1 v1391 k0_hw48 k0_h1 => k0_hw48 k0_h1

def k0_off51 (k0_t1 : Fin k0_t1_loop.trips) : Fin 1 → Nat :=
  let c0_i32_243 : BitVec 32 := 0#32
  let c1_i32 : BitVec 32 := 1#32
  let arg20 : BitVec 32 := Scf.iv c0_i32_243 c1_i32 k0_t1
  let c2_i32_252 : BitVec 32 := 2#32
  let v285 : BitVec 32 := Scalar.muli arg20 c2_i32_252
  let c0_i32_253 : BitVec 32 := 0#32
  let v286 : BitVec 32 := Scalar.addi v285 c0_i32_253
  let c1_i32_254 : BitVec 32 := 1#32
  let v287 : BitVec 32 := Scalar.addi v286 c1_i32_254
  let c16_i32_1228 : BitVec 32 := 16#32
  let v1398 : BitVec 32 := Scalar.muli v287 c16_i32_1228
  let v1399 : Index := Scalar.indexCast v1398
  ![v1399.toNat]
def k0_off52 (v1404 : BitVec 32) : Fin 3 → Nat :=
  let c0_i32_1232 : BitVec 32 := 0#32
  let c0_i32_1233 : BitVec 32 := 0#32
  ![v1404.toNat, 0, 0]

def k0_chk49 (k0_t1 : Fin k0_t1_loop.trips) (v1404 : BitVec 32) : Prop :=
  (∀ (k0_h1 : k0_cond1 k0_t1 = 1#1), ∀ a, (k0_off52 v1404) a + S1x8x32.size a ≤ S12500x8x32.size a)
theorem k0_off52_inb : ∀ (k0_t1 : Fin k0_t1_loop.trips) (v1404 : BitVec 32) (k0_hw49 : k0_chk49 k0_t1 v1404), ∀ (k0_h1 : k0_cond1 k0_t1 = 1#1), ∀ a, (k0_off52 v1404) a + S1x8x32.size a ≤ S12500x8x32.size a := fun k0_t1 v1404 k0_hw49 k0_h1 => k0_hw49 k0_h1

def k0_off53 (v1412 : BitVec 32) : Fin 3 → Nat :=
  let c0_i32_1240 : BitVec 32 := 0#32
  let c0_i32_1241 : BitVec 32 := 0#32
  ![v1412.toNat, 0, 0]

def k0_chk50 (k0_t1 : Fin k0_t1_loop.trips) (v1412 : BitVec 32) : Prop :=
  (∀ (k0_h1 : k0_cond1 k0_t1 = 1#1), ∀ a, (k0_off53 v1412) a + S1x8x32.size a ≤ S12500x8x32.size a)
theorem k0_off53_inb : ∀ (k0_t1 : Fin k0_t1_loop.trips) (v1412 : BitVec 32) (k0_hw50 : k0_chk50 k0_t1 v1412), ∀ (k0_h1 : k0_cond1 k0_t1 = 1#1), ∀ a, (k0_off53 v1412) a + S1x8x32.size a ≤ S12500x8x32.size a := fun k0_t1 v1412 k0_hw50 k0_h1 => k0_hw50 k0_h1

def k0_off54 (v1420 : BitVec 32) : Fin 3 → Nat :=
  let c0_i32_1248 : BitVec 32 := 0#32
  let c0_i32_1249 : BitVec 32 := 0#32
  ![v1420.toNat, 0, 0]

def k0_chk51 (k0_t1 : Fin k0_t1_loop.trips) (v1420 : BitVec 32) : Prop :=
  (∀ (k0_h1 : k0_cond1 k0_t1 = 1#1), ∀ a, (k0_off54 v1420) a + S1x8x32.size a ≤ S12500x8x32.size a)
theorem k0_off54_inb : ∀ (k0_t1 : Fin k0_t1_loop.trips) (v1420 : BitVec 32) (k0_hw51 : k0_chk51 k0_t1 v1420), ∀ (k0_h1 : k0_cond1 k0_t1 = 1#1), ∀ a, (k0_off54 v1420) a + S1x8x32.size a ≤ S12500x8x32.size a := fun k0_t1 v1420 k0_hw51 k0_h1 => k0_hw51 k0_h1

def k0_off55 (v1428 : BitVec 32) : Fin 3 → Nat :=
  let c0_i32_1256 : BitVec 32 := 0#32
  let c0_i32_1257 : BitVec 32 := 0#32
  ![v1428.toNat, 0, 0]

def k0_chk52 (k0_t1 : Fin k0_t1_loop.trips) (v1428 : BitVec 32) : Prop :=
  (∀ (k0_h1 : k0_cond1 k0_t1 = 1#1), ∀ a, (k0_off55 v1428) a + S1x8x32.size a ≤ S12500x8x32.size a)
theorem k0_off55_inb : ∀ (k0_t1 : Fin k0_t1_loop.trips) (v1428 : BitVec 32) (k0_hw52 : k0_chk52 k0_t1 v1428), ∀ (k0_h1 : k0_cond1 k0_t1 = 1#1), ∀ a, (k0_off55 v1428) a + S1x8x32.size a ≤ S12500x8x32.size a := fun k0_t1 v1428 k0_hw52 k0_h1 => k0_hw52 k0_h1

def k0_off56 (v1436 : BitVec 32) : Fin 3 → Nat :=
  let c0_i32_1264 : BitVec 32 := 0#32
  let c0_i32_1265 : BitVec 32 := 0#32
  ![v1436.toNat, 0, 0]

def k0_chk53 (k0_t1 : Fin k0_t1_loop.trips) (v1436 : BitVec 32) : Prop :=
  (∀ (k0_h1 : k0_cond1 k0_t1 = 1#1), ∀ a, (k0_off56 v1436) a + S1x8x32.size a ≤ S12500x8x32.size a)
theorem k0_off56_inb : ∀ (k0_t1 : Fin k0_t1_loop.trips) (v1436 : BitVec 32) (k0_hw53 : k0_chk53 k0_t1 v1436), ∀ (k0_h1 : k0_cond1 k0_t1 = 1#1), ∀ a, (k0_off56 v1436) a + S1x8x32.size a ≤ S12500x8x32.size a := fun k0_t1 v1436 k0_hw53 k0_h1 => k0_hw53 k0_h1

def k0_off57 (v1444 : BitVec 32) : Fin 3 → Nat :=
  let c0_i32_1272 : BitVec 32 := 0#32
  let c0_i32_1273 : BitVec 32 := 0#32
  ![v1444.toNat, 0, 0]

def k0_chk54 (k0_t1 : Fin k0_t1_loop.trips) (v1444 : BitVec 32) : Prop :=
  (∀ (k0_h1 : k0_cond1 k0_t1 = 1#1), ∀ a, (k0_off57 v1444) a + S1x8x32.size a ≤ S12500x8x32.size a)
theorem k0_off57_inb : ∀ (k0_t1 : Fin k0_t1_loop.trips) (v1444 : BitVec 32) (k0_hw54 : k0_chk54 k0_t1 v1444), ∀ (k0_h1 : k0_cond1 k0_t1 = 1#1), ∀ a, (k0_off57 v1444) a + S1x8x32.size a ≤ S12500x8x32.size a := fun k0_t1 v1444 k0_hw54 k0_h1 => k0_hw54 k0_h1

def k0_off58 (v1452 : BitVec 32) : Fin 3 → Nat :=
  let c0_i32_1280 : BitVec 32 := 0#32
  let c0_i32_1281 : BitVec 32 := 0#32
  ![v1452.toNat, 0, 0]

def k0_chk55 (k0_t1 : Fin k0_t1_loop.trips) (v1452 : BitVec 32) : Prop :=
  (∀ (k0_h1 : k0_cond1 k0_t1 = 1#1), ∀ a, (k0_off58 v1452) a + S1x8x32.size a ≤ S12500x8x32.size a)
theorem k0_off58_inb : ∀ (k0_t1 : Fin k0_t1_loop.trips) (v1452 : BitVec 32) (k0_hw55 : k0_chk55 k0_t1 v1452), ∀ (k0_h1 : k0_cond1 k0_t1 = 1#1), ∀ a, (k0_off58 v1452) a + S1x8x32.size a ≤ S12500x8x32.size a := fun k0_t1 v1452 k0_hw55 k0_h1 => k0_hw55 k0_h1

def k0_off59 (v1460 : BitVec 32) : Fin 3 → Nat :=
  let c0_i32_1288 : BitVec 32 := 0#32
  let c0_i32_1289 : BitVec 32 := 0#32
  ![v1460.toNat, 0, 0]

def k0_chk56 (k0_t1 : Fin k0_t1_loop.trips) (v1460 : BitVec 32) : Prop :=
  (∀ (k0_h1 : k0_cond1 k0_t1 = 1#1), ∀ a, (k0_off59 v1460) a + S1x8x32.size a ≤ S12500x8x32.size a)
theorem k0_off59_inb : ∀ (k0_t1 : Fin k0_t1_loop.trips) (v1460 : BitVec 32) (k0_hw56 : k0_chk56 k0_t1 v1460), ∀ (k0_h1 : k0_cond1 k0_t1 = 1#1), ∀ a, (k0_off59 v1460) a + S1x8x32.size a ≤ S12500x8x32.size a := fun k0_t1 v1460 k0_hw56 k0_h1 => k0_hw56 k0_h1

def k0_off60 (v1468 : BitVec 32) : Fin 3 → Nat :=
  let c0_i32_1296 : BitVec 32 := 0#32
  let c0_i32_1297 : BitVec 32 := 0#32
  ![v1468.toNat, 0, 0]

def k0_chk57 (k0_t1 : Fin k0_t1_loop.trips) (v1468 : BitVec 32) : Prop :=
  (∀ (k0_h1 : k0_cond1 k0_t1 = 1#1), ∀ a, (k0_off60 v1468) a + S1x8x32.size a ≤ S12500x8x32.size a)
theorem k0_off60_inb : ∀ (k0_t1 : Fin k0_t1_loop.trips) (v1468 : BitVec 32) (k0_hw57 : k0_chk57 k0_t1 v1468), ∀ (k0_h1 : k0_cond1 k0_t1 = 1#1), ∀ a, (k0_off60 v1468) a + S1x8x32.size a ≤ S12500x8x32.size a := fun k0_t1 v1468 k0_hw57 k0_h1 => k0_hw57 k0_h1

def k0_off61 (v1476 : BitVec 32) : Fin 3 → Nat :=
  let c0_i32_1304 : BitVec 32 := 0#32
  let c0_i32_1305 : BitVec 32 := 0#32
  ![v1476.toNat, 0, 0]

def k0_chk58 (k0_t1 : Fin k0_t1_loop.trips) (v1476 : BitVec 32) : Prop :=
  (∀ (k0_h1 : k0_cond1 k0_t1 = 1#1), ∀ a, (k0_off61 v1476) a + S1x8x32.size a ≤ S12500x8x32.size a)
theorem k0_off61_inb : ∀ (k0_t1 : Fin k0_t1_loop.trips) (v1476 : BitVec 32) (k0_hw58 : k0_chk58 k0_t1 v1476), ∀ (k0_h1 : k0_cond1 k0_t1 = 1#1), ∀ a, (k0_off61 v1476) a + S1x8x32.size a ≤ S12500x8x32.size a := fun k0_t1 v1476 k0_hw58 k0_h1 => k0_hw58 k0_h1

def k0_off62 (v1484 : BitVec 32) : Fin 3 → Nat :=
  let c0_i32_1312 : BitVec 32 := 0#32
  let c0_i32_1313 : BitVec 32 := 0#32
  ![v1484.toNat, 0, 0]

def k0_chk59 (k0_t1 : Fin k0_t1_loop.trips) (v1484 : BitVec 32) : Prop :=
  (∀ (k0_h1 : k0_cond1 k0_t1 = 1#1), ∀ a, (k0_off62 v1484) a + S1x8x32.size a ≤ S12500x8x32.size a)
theorem k0_off62_inb : ∀ (k0_t1 : Fin k0_t1_loop.trips) (v1484 : BitVec 32) (k0_hw59 : k0_chk59 k0_t1 v1484), ∀ (k0_h1 : k0_cond1 k0_t1 = 1#1), ∀ a, (k0_off62 v1484) a + S1x8x32.size a ≤ S12500x8x32.size a := fun k0_t1 v1484 k0_hw59 k0_h1 => k0_hw59 k0_h1

def k0_off63 (v1492 : BitVec 32) : Fin 3 → Nat :=
  let c0_i32_1320 : BitVec 32 := 0#32
  let c0_i32_1321 : BitVec 32 := 0#32
  ![v1492.toNat, 0, 0]

def k0_chk60 (k0_t1 : Fin k0_t1_loop.trips) (v1492 : BitVec 32) : Prop :=
  (∀ (k0_h1 : k0_cond1 k0_t1 = 1#1), ∀ a, (k0_off63 v1492) a + S1x8x32.size a ≤ S12500x8x32.size a)
theorem k0_off63_inb : ∀ (k0_t1 : Fin k0_t1_loop.trips) (v1492 : BitVec 32) (k0_hw60 : k0_chk60 k0_t1 v1492), ∀ (k0_h1 : k0_cond1 k0_t1 = 1#1), ∀ a, (k0_off63 v1492) a + S1x8x32.size a ≤ S12500x8x32.size a := fun k0_t1 v1492 k0_hw60 k0_h1 => k0_hw60 k0_h1

def k0_off64 (v1500 : BitVec 32) : Fin 3 → Nat :=
  let c0_i32_1328 : BitVec 32 := 0#32
  let c0_i32_1329 : BitVec 32 := 0#32
  ![v1500.toNat, 0, 0]

def k0_chk61 (k0_t1 : Fin k0_t1_loop.trips) (v1500 : BitVec 32) : Prop :=
  (∀ (k0_h1 : k0_cond1 k0_t1 = 1#1), ∀ a, (k0_off64 v1500) a + S1x8x32.size a ≤ S12500x8x32.size a)
theorem k0_off64_inb : ∀ (k0_t1 : Fin k0_t1_loop.trips) (v1500 : BitVec 32) (k0_hw61 : k0_chk61 k0_t1 v1500), ∀ (k0_h1 : k0_cond1 k0_t1 = 1#1), ∀ a, (k0_off64 v1500) a + S1x8x32.size a ≤ S12500x8x32.size a := fun k0_t1 v1500 k0_hw61 k0_h1 => k0_hw61 k0_h1

def k0_off65 (v1508 : BitVec 32) : Fin 3 → Nat :=
  let c0_i32_1336 : BitVec 32 := 0#32
  let c0_i32_1337 : BitVec 32 := 0#32
  ![v1508.toNat, 0, 0]

def k0_chk62 (k0_t1 : Fin k0_t1_loop.trips) (v1508 : BitVec 32) : Prop :=
  (∀ (k0_h1 : k0_cond1 k0_t1 = 1#1), ∀ a, (k0_off65 v1508) a + S1x8x32.size a ≤ S12500x8x32.size a)
theorem k0_off65_inb : ∀ (k0_t1 : Fin k0_t1_loop.trips) (v1508 : BitVec 32) (k0_hw62 : k0_chk62 k0_t1 v1508), ∀ (k0_h1 : k0_cond1 k0_t1 = 1#1), ∀ a, (k0_off65 v1508) a + S1x8x32.size a ≤ S12500x8x32.size a := fun k0_t1 v1508 k0_hw62 k0_h1 => k0_hw62 k0_h1

def k0_off66 (v1516 : BitVec 32) : Fin 3 → Nat :=
  let c0_i32_1344 : BitVec 32 := 0#32
  let c0_i32_1345 : BitVec 32 := 0#32
  ![v1516.toNat, 0, 0]

def k0_chk63 (k0_t1 : Fin k0_t1_loop.trips) (v1516 : BitVec 32) : Prop :=
  (∀ (k0_h1 : k0_cond1 k0_t1 = 1#1), ∀ a, (k0_off66 v1516) a + S1x8x32.size a ≤ S12500x8x32.size a)
theorem k0_off66_inb : ∀ (k0_t1 : Fin k0_t1_loop.trips) (v1516 : BitVec 32) (k0_hw63 : k0_chk63 k0_t1 v1516), ∀ (k0_h1 : k0_cond1 k0_t1 = 1#1), ∀ a, (k0_off66 v1516) a + S1x8x32.size a ≤ S12500x8x32.size a := fun k0_t1 v1516 k0_hw63 k0_h1 => k0_hw63 k0_h1

def k0_off67 (v1524 : BitVec 32) : Fin 3 → Nat :=
  let c0_i32_1352 : BitVec 32 := 0#32
  let c0_i32_1353 : BitVec 32 := 0#32
  ![v1524.toNat, 0, 0]

def k0_chk64 (k0_t1 : Fin k0_t1_loop.trips) (v1524 : BitVec 32) : Prop :=
  (∀ (k0_h1 : k0_cond1 k0_t1 = 1#1), ∀ a, (k0_off67 v1524) a + S1x8x32.size a ≤ S12500x8x32.size a)
theorem k0_off67_inb : ∀ (k0_t1 : Fin k0_t1_loop.trips) (v1524 : BitVec 32) (k0_hw64 : k0_chk64 k0_t1 v1524), ∀ (k0_h1 : k0_cond1 k0_t1 = 1#1), ∀ a, (k0_off67 v1524) a + S1x8x32.size a ≤ S12500x8x32.size a := fun k0_t1 v1524 k0_hw64 k0_h1 => k0_hw64 k0_h1

def k0_off68 (k0_t1 : Fin k0_t1_loop.trips) : Fin 1 → Nat :=
  let c0_i32_243 : BitVec 32 := 0#32
  let c1_i32 : BitVec 32 := 1#32
  let arg20 : BitVec 32 := Scf.iv c0_i32_243 c1_i32 k0_t1
  let c2_i32_252 : BitVec 32 := 2#32
  let v285 : BitVec 32 := Scalar.muli arg20 c2_i32_252
  let c0_i32_253 : BitVec 32 := 0#32
  let v286 : BitVec 32 := Scalar.addi v285 c0_i32_253
  let c16_i32_401 : BitVec 32 := 16#32
  let v388 : BitVec 32 := Scalar.muli v286 c16_i32_401
  let v389 : Index := Scalar.indexCast v388
  ![v389.toNat]

def k0_chk65 (v398 : IVec S16 32) (v405 : IVec S16 32) : Prop :=
  (∀ a x, ((![v398, v405] : Fin 2 → IVec S16 32) a x).toNat < S128x32.size a)
theorem k0_idx1_inb : ∀ (v398 : IVec S16 32) (v405 : IVec S16 32) (k0_hw65 : k0_chk65 v398 v405), ∀ a x, ((![v398, v405] : Fin 2 → IVec S16 32) a x).toNat < S128x32.size a := fun v398 v405 k0_hw65 => k0_hw65

def k0_chk66 (v400 : IVec S16 32) (v408 : IVec S16 32) : Prop :=
  (∀ a x, ((![v400, v408] : Fin 2 → IVec S16 32) a x).toNat < S128x128.size a)
theorem k0_idx2_inb : ∀ (v400 : IVec S16 32) (v408 : IVec S16 32) (k0_hw66 : k0_chk66 v400 v408), ∀ a x, ((![v400, v408] : Fin 2 → IVec S16 32) a x).toNat < S128x128.size a := fun v400 v408 k0_hw66 => k0_hw66

def k0_chk67 (v398 : IVec S16 32) (v409 : IVec S16 32) : Prop :=
  (∀ a x, ((![v398, v409] : Fin 2 → IVec S16 32) a x).toNat < S128x32.size a)
theorem k0_idx3_inb : ∀ (v398 : IVec S16 32) (v409 : IVec S16 32) (k0_hw67 : k0_chk67 v398 v409), ∀ a x, ((![v398, v409] : Fin 2 → IVec S16 32) a x).toNat < S128x32.size a := fun v398 v409 k0_hw67 => k0_hw67

def k0_chk68 (v400 : IVec S16 32) (v412 : IVec S16 32) : Prop :=
  (∀ a x, ((![v400, v412] : Fin 2 → IVec S16 32) a x).toNat < S128x128.size a)
theorem k0_idx4_inb : ∀ (v400 : IVec S16 32) (v412 : IVec S16 32) (k0_hw68 : k0_chk68 v400 v412), ∀ a x, ((![v400, v412] : Fin 2 → IVec S16 32) a x).toNat < S128x128.size a := fun v400 v412 k0_hw68 => k0_hw68

def k0_chk69 (v398 : IVec S16 32) (v413 : IVec S16 32) : Prop :=
  (∀ a x, ((![v398, v413] : Fin 2 → IVec S16 32) a x).toNat < S128x32.size a)
theorem k0_idx5_inb : ∀ (v398 : IVec S16 32) (v413 : IVec S16 32) (k0_hw69 : k0_chk69 v398 v413), ∀ a x, ((![v398, v413] : Fin 2 → IVec S16 32) a x).toNat < S128x32.size a := fun v398 v413 k0_hw69 => k0_hw69

def k0_chk70 (v400 : IVec S16 32) (v416 : IVec S16 32) : Prop :=
  (∀ a x, ((![v400, v416] : Fin 2 → IVec S16 32) a x).toNat < S128x128.size a)
theorem k0_idx6_inb : ∀ (v400 : IVec S16 32) (v416 : IVec S16 32) (k0_hw70 : k0_chk70 v400 v416), ∀ a x, ((![v400, v416] : Fin 2 → IVec S16 32) a x).toNat < S128x128.size a := fun v400 v416 k0_hw70 => k0_hw70

def k0_chk71 (v398 : IVec S16 32) (v417 : IVec S16 32) : Prop :=
  (∀ a x, ((![v398, v417] : Fin 2 → IVec S16 32) a x).toNat < S128x32.size a)
theorem k0_idx7_inb : ∀ (v398 : IVec S16 32) (v417 : IVec S16 32) (k0_hw71 : k0_chk71 v398 v417), ∀ a x, ((![v398, v417] : Fin 2 → IVec S16 32) a x).toNat < S128x32.size a := fun v398 v417 k0_hw71 => k0_hw71

def k0_chk72 (v400 : IVec S16 32) (v420 : IVec S16 32) : Prop :=
  (∀ a x, ((![v400, v420] : Fin 2 → IVec S16 32) a x).toNat < S128x128.size a)
theorem k0_idx8_inb : ∀ (v400 : IVec S16 32) (v420 : IVec S16 32) (k0_hw72 : k0_chk72 v400 v420), ∀ a x, ((![v400, v420] : Fin 2 → IVec S16 32) a x).toNat < S128x128.size a := fun v400 v420 k0_hw72 => k0_hw72

def k0_chk73 (v398 : IVec S16 32) (v421 : IVec S16 32) : Prop :=
  (∀ a x, ((![v398, v421] : Fin 2 → IVec S16 32) a x).toNat < S128x32.size a)
theorem k0_idx9_inb : ∀ (v398 : IVec S16 32) (v421 : IVec S16 32) (k0_hw73 : k0_chk73 v398 v421), ∀ a x, ((![v398, v421] : Fin 2 → IVec S16 32) a x).toNat < S128x32.size a := fun v398 v421 k0_hw73 => k0_hw73

def k0_chk74 (v400 : IVec S16 32) (v424 : IVec S16 32) : Prop :=
  (∀ a x, ((![v400, v424] : Fin 2 → IVec S16 32) a x).toNat < S128x128.size a)
theorem k0_idx10_inb : ∀ (v400 : IVec S16 32) (v424 : IVec S16 32) (k0_hw74 : k0_chk74 v400 v424), ∀ a x, ((![v400, v424] : Fin 2 → IVec S16 32) a x).toNat < S128x128.size a := fun v400 v424 k0_hw74 => k0_hw74

def k0_chk75 (v398 : IVec S16 32) (v425 : IVec S16 32) : Prop :=
  (∀ a x, ((![v398, v425] : Fin 2 → IVec S16 32) a x).toNat < S128x32.size a)
theorem k0_idx11_inb : ∀ (v398 : IVec S16 32) (v425 : IVec S16 32) (k0_hw75 : k0_chk75 v398 v425), ∀ a x, ((![v398, v425] : Fin 2 → IVec S16 32) a x).toNat < S128x32.size a := fun v398 v425 k0_hw75 => k0_hw75

def k0_chk76 (v400 : IVec S16 32) (v428 : IVec S16 32) : Prop :=
  (∀ a x, ((![v400, v428] : Fin 2 → IVec S16 32) a x).toNat < S128x128.size a)
theorem k0_idx12_inb : ∀ (v400 : IVec S16 32) (v428 : IVec S16 32) (k0_hw76 : k0_chk76 v400 v428), ∀ a x, ((![v400, v428] : Fin 2 → IVec S16 32) a x).toNat < S128x128.size a := fun v400 v428 k0_hw76 => k0_hw76

def k0_chk77 (v398 : IVec S16 32) (v429 : IVec S16 32) : Prop :=
  (∀ a x, ((![v398, v429] : Fin 2 → IVec S16 32) a x).toNat < S128x32.size a)
theorem k0_idx13_inb : ∀ (v398 : IVec S16 32) (v429 : IVec S16 32) (k0_hw77 : k0_chk77 v398 v429), ∀ a x, ((![v398, v429] : Fin 2 → IVec S16 32) a x).toNat < S128x32.size a := fun v398 v429 k0_hw77 => k0_hw77

def k0_chk78 (v400 : IVec S16 32) (v432 : IVec S16 32) : Prop :=
  (∀ a x, ((![v400, v432] : Fin 2 → IVec S16 32) a x).toNat < S128x128.size a)
theorem k0_idx14_inb : ∀ (v400 : IVec S16 32) (v432 : IVec S16 32) (k0_hw78 : k0_chk78 v400 v432), ∀ a x, ((![v400, v432] : Fin 2 → IVec S16 32) a x).toNat < S128x128.size a := fun v400 v432 k0_hw78 => k0_hw78

def k0_chk79 (v398 : IVec S16 32) (v433 : IVec S16 32) : Prop :=
  (∀ a x, ((![v398, v433] : Fin 2 → IVec S16 32) a x).toNat < S128x32.size a)
theorem k0_idx15_inb : ∀ (v398 : IVec S16 32) (v433 : IVec S16 32) (k0_hw79 : k0_chk79 v398 v433), ∀ a x, ((![v398, v433] : Fin 2 → IVec S16 32) a x).toNat < S128x32.size a := fun v398 v433 k0_hw79 => k0_hw79

def k0_chk80 (v400 : IVec S16 32) (v436 : IVec S16 32) : Prop :=
  (∀ a x, ((![v400, v436] : Fin 2 → IVec S16 32) a x).toNat < S128x128.size a)
theorem k0_idx16_inb : ∀ (v400 : IVec S16 32) (v436 : IVec S16 32) (k0_hw80 : k0_chk80 v400 v436), ∀ a x, ((![v400, v436] : Fin 2 → IVec S16 32) a x).toNat < S128x128.size a := fun v400 v436 k0_hw80 => k0_hw80

def k0_chk81 (v398 : IVec S16 32) (v437 : IVec S16 32) : Prop :=
  (∀ a x, ((![v398, v437] : Fin 2 → IVec S16 32) a x).toNat < S128x32.size a)
theorem k0_idx17_inb : ∀ (v398 : IVec S16 32) (v437 : IVec S16 32) (k0_hw81 : k0_chk81 v398 v437), ∀ a x, ((![v398, v437] : Fin 2 → IVec S16 32) a x).toNat < S128x32.size a := fun v398 v437 k0_hw81 => k0_hw81

def k0_chk82 (v400 : IVec S16 32) (v440 : IVec S16 32) : Prop :=
  (∀ a x, ((![v400, v440] : Fin 2 → IVec S16 32) a x).toNat < S128x128.size a)
theorem k0_idx18_inb : ∀ (v400 : IVec S16 32) (v440 : IVec S16 32) (k0_hw82 : k0_chk82 v400 v440), ∀ a x, ((![v400, v440] : Fin 2 → IVec S16 32) a x).toNat < S128x128.size a := fun v400 v440 k0_hw82 => k0_hw82

def k0_chk83 (v398 : IVec S16 32) (v441 : IVec S16 32) : Prop :=
  (∀ a x, ((![v398, v441] : Fin 2 → IVec S16 32) a x).toNat < S128x32.size a)
theorem k0_idx19_inb : ∀ (v398 : IVec S16 32) (v441 : IVec S16 32) (k0_hw83 : k0_chk83 v398 v441), ∀ a x, ((![v398, v441] : Fin 2 → IVec S16 32) a x).toNat < S128x32.size a := fun v398 v441 k0_hw83 => k0_hw83

def k0_chk84 (v400 : IVec S16 32) (v444 : IVec S16 32) : Prop :=
  (∀ a x, ((![v400, v444] : Fin 2 → IVec S16 32) a x).toNat < S128x128.size a)
theorem k0_idx20_inb : ∀ (v400 : IVec S16 32) (v444 : IVec S16 32) (k0_hw84 : k0_chk84 v400 v444), ∀ a x, ((![v400, v444] : Fin 2 → IVec S16 32) a x).toNat < S128x128.size a := fun v400 v444 k0_hw84 => k0_hw84

def k0_chk85 (v398 : IVec S16 32) (v445 : IVec S16 32) : Prop :=
  (∀ a x, ((![v398, v445] : Fin 2 → IVec S16 32) a x).toNat < S128x32.size a)
theorem k0_idx21_inb : ∀ (v398 : IVec S16 32) (v445 : IVec S16 32) (k0_hw85 : k0_chk85 v398 v445), ∀ a x, ((![v398, v445] : Fin 2 → IVec S16 32) a x).toNat < S128x32.size a := fun v398 v445 k0_hw85 => k0_hw85

def k0_chk86 (v400 : IVec S16 32) (v448 : IVec S16 32) : Prop :=
  (∀ a x, ((![v400, v448] : Fin 2 → IVec S16 32) a x).toNat < S128x128.size a)
theorem k0_idx22_inb : ∀ (v400 : IVec S16 32) (v448 : IVec S16 32) (k0_hw86 : k0_chk86 v400 v448), ∀ a x, ((![v400, v448] : Fin 2 → IVec S16 32) a x).toNat < S128x128.size a := fun v400 v448 k0_hw86 => k0_hw86

def k0_chk87 (v398 : IVec S16 32) (v449 : IVec S16 32) : Prop :=
  (∀ a x, ((![v398, v449] : Fin 2 → IVec S16 32) a x).toNat < S128x32.size a)
theorem k0_idx23_inb : ∀ (v398 : IVec S16 32) (v449 : IVec S16 32) (k0_hw87 : k0_chk87 v398 v449), ∀ a x, ((![v398, v449] : Fin 2 → IVec S16 32) a x).toNat < S128x32.size a := fun v398 v449 k0_hw87 => k0_hw87

def k0_chk88 (v400 : IVec S16 32) (v452 : IVec S16 32) : Prop :=
  (∀ a x, ((![v400, v452] : Fin 2 → IVec S16 32) a x).toNat < S128x128.size a)
theorem k0_idx24_inb : ∀ (v400 : IVec S16 32) (v452 : IVec S16 32) (k0_hw88 : k0_chk88 v400 v452), ∀ a x, ((![v400, v452] : Fin 2 → IVec S16 32) a x).toNat < S128x128.size a := fun v400 v452 k0_hw88 => k0_hw88

def k0_chk89 (v398 : IVec S16 32) (v453 : IVec S16 32) : Prop :=
  (∀ a x, ((![v398, v453] : Fin 2 → IVec S16 32) a x).toNat < S128x32.size a)
theorem k0_idx25_inb : ∀ (v398 : IVec S16 32) (v453 : IVec S16 32) (k0_hw89 : k0_chk89 v398 v453), ∀ a x, ((![v398, v453] : Fin 2 → IVec S16 32) a x).toNat < S128x32.size a := fun v398 v453 k0_hw89 => k0_hw89

def k0_chk90 (v400 : IVec S16 32) (v456 : IVec S16 32) : Prop :=
  (∀ a x, ((![v400, v456] : Fin 2 → IVec S16 32) a x).toNat < S128x128.size a)
theorem k0_idx26_inb : ∀ (v400 : IVec S16 32) (v456 : IVec S16 32) (k0_hw90 : k0_chk90 v400 v456), ∀ a x, ((![v400, v456] : Fin 2 → IVec S16 32) a x).toNat < S128x128.size a := fun v400 v456 k0_hw90 => k0_hw90

def k0_chk91 (v398 : IVec S16 32) (v457 : IVec S16 32) : Prop :=
  (∀ a x, ((![v398, v457] : Fin 2 → IVec S16 32) a x).toNat < S128x32.size a)
theorem k0_idx27_inb : ∀ (v398 : IVec S16 32) (v457 : IVec S16 32) (k0_hw91 : k0_chk91 v398 v457), ∀ a x, ((![v398, v457] : Fin 2 → IVec S16 32) a x).toNat < S128x32.size a := fun v398 v457 k0_hw91 => k0_hw91

def k0_chk92 (v400 : IVec S16 32) (v460 : IVec S16 32) : Prop :=
  (∀ a x, ((![v400, v460] : Fin 2 → IVec S16 32) a x).toNat < S128x128.size a)
theorem k0_idx28_inb : ∀ (v400 : IVec S16 32) (v460 : IVec S16 32) (k0_hw92 : k0_chk92 v400 v460), ∀ a x, ((![v400, v460] : Fin 2 → IVec S16 32) a x).toNat < S128x128.size a := fun v400 v460 k0_hw92 => k0_hw92

def k0_chk93 (v398 : IVec S16 32) (v461 : IVec S16 32) : Prop :=
  (∀ a x, ((![v398, v461] : Fin 2 → IVec S16 32) a x).toNat < S128x32.size a)
theorem k0_idx29_inb : ∀ (v398 : IVec S16 32) (v461 : IVec S16 32) (k0_hw93 : k0_chk93 v398 v461), ∀ a x, ((![v398, v461] : Fin 2 → IVec S16 32) a x).toNat < S128x32.size a := fun v398 v461 k0_hw93 => k0_hw93

def k0_chk94 (v400 : IVec S16 32) (v464 : IVec S16 32) : Prop :=
  (∀ a x, ((![v400, v464] : Fin 2 → IVec S16 32) a x).toNat < S128x128.size a)
theorem k0_idx30_inb : ∀ (v400 : IVec S16 32) (v464 : IVec S16 32) (k0_hw94 : k0_chk94 v400 v464), ∀ a x, ((![v400, v464] : Fin 2 → IVec S16 32) a x).toNat < S128x128.size a := fun v400 v464 k0_hw94 => k0_hw94

def k0_chk95 (v398 : IVec S16 32) (v465 : IVec S16 32) : Prop :=
  (∀ a x, ((![v398, v465] : Fin 2 → IVec S16 32) a x).toNat < S128x32.size a)
theorem k0_idx31_inb : ∀ (v398 : IVec S16 32) (v465 : IVec S16 32) (k0_hw95 : k0_chk95 v398 v465), ∀ a x, ((![v398, v465] : Fin 2 → IVec S16 32) a x).toNat < S128x32.size a := fun v398 v465 k0_hw95 => k0_hw95

def k0_chk96 (v400 : IVec S16 32) (v468 : IVec S16 32) : Prop :=
  (∀ a x, ((![v400, v468] : Fin 2 → IVec S16 32) a x).toNat < S128x128.size a)
theorem k0_idx32_inb : ∀ (v400 : IVec S16 32) (v468 : IVec S16 32) (k0_hw96 : k0_chk96 v400 v468), ∀ a x, ((![v400, v468] : Fin 2 → IVec S16 32) a x).toNat < S128x128.size a := fun v400 v468 k0_hw96 => k0_hw96

def k0_chk97 (v398 : IVec S16 32) (v469 : IVec S16 32) : Prop :=
  (∀ a x, ((![v398, v469] : Fin 2 → IVec S16 32) a x).toNat < S128x32.size a)
theorem k0_idx33_inb : ∀ (v398 : IVec S16 32) (v469 : IVec S16 32) (k0_hw97 : k0_chk97 v398 v469), ∀ a x, ((![v398, v469] : Fin 2 → IVec S16 32) a x).toNat < S128x32.size a := fun v398 v469 k0_hw97 => k0_hw97

def k0_chk98 (v400 : IVec S16 32) (v472 : IVec S16 32) : Prop :=
  (∀ a x, ((![v400, v472] : Fin 2 → IVec S16 32) a x).toNat < S128x128.size a)
theorem k0_idx34_inb : ∀ (v400 : IVec S16 32) (v472 : IVec S16 32) (k0_hw98 : k0_chk98 v400 v472), ∀ a x, ((![v400, v472] : Fin 2 → IVec S16 32) a x).toNat < S128x128.size a := fun v400 v472 k0_hw98 => k0_hw98

def k0_chk99 (v398 : IVec S16 32) (v473 : IVec S16 32) : Prop :=
  (∀ a x, ((![v398, v473] : Fin 2 → IVec S16 32) a x).toNat < S128x32.size a)
theorem k0_idx35_inb : ∀ (v398 : IVec S16 32) (v473 : IVec S16 32) (k0_hw99 : k0_chk99 v398 v473), ∀ a x, ((![v398, v473] : Fin 2 → IVec S16 32) a x).toNat < S128x32.size a := fun v398 v473 k0_hw99 => k0_hw99

def k0_chk100 (v400 : IVec S16 32) (v476 : IVec S16 32) : Prop :=
  (∀ a x, ((![v400, v476] : Fin 2 → IVec S16 32) a x).toNat < S128x128.size a)
theorem k0_idx36_inb : ∀ (v400 : IVec S16 32) (v476 : IVec S16 32) (k0_hw100 : k0_chk100 v400 v476), ∀ a x, ((![v400, v476] : Fin 2 → IVec S16 32) a x).toNat < S128x128.size a := fun v400 v476 k0_hw100 => k0_hw100

def k0_chk101 (v398 : IVec S16 32) (v477 : IVec S16 32) : Prop :=
  (∀ a x, ((![v398, v477] : Fin 2 → IVec S16 32) a x).toNat < S128x32.size a)
theorem k0_idx37_inb : ∀ (v398 : IVec S16 32) (v477 : IVec S16 32) (k0_hw101 : k0_chk101 v398 v477), ∀ a x, ((![v398, v477] : Fin 2 → IVec S16 32) a x).toNat < S128x32.size a := fun v398 v477 k0_hw101 => k0_hw101

def k0_chk102 (v400 : IVec S16 32) (v480 : IVec S16 32) : Prop :=
  (∀ a x, ((![v400, v480] : Fin 2 → IVec S16 32) a x).toNat < S128x128.size a)
theorem k0_idx38_inb : ∀ (v400 : IVec S16 32) (v480 : IVec S16 32) (k0_hw102 : k0_chk102 v400 v480), ∀ a x, ((![v400, v480] : Fin 2 → IVec S16 32) a x).toNat < S128x128.size a := fun v400 v480 k0_hw102 => k0_hw102

def k0_chk103 (v398 : IVec S16 32) (v481 : IVec S16 32) : Prop :=
  (∀ a x, ((![v398, v481] : Fin 2 → IVec S16 32) a x).toNat < S128x32.size a)
theorem k0_idx39_inb : ∀ (v398 : IVec S16 32) (v481 : IVec S16 32) (k0_hw103 : k0_chk103 v398 v481), ∀ a x, ((![v398, v481] : Fin 2 → IVec S16 32) a x).toNat < S128x32.size a := fun v398 v481 k0_hw103 => k0_hw103

def k0_chk104 (v400 : IVec S16 32) (v484 : IVec S16 32) : Prop :=
  (∀ a x, ((![v400, v484] : Fin 2 → IVec S16 32) a x).toNat < S128x128.size a)
theorem k0_idx40_inb : ∀ (v400 : IVec S16 32) (v484 : IVec S16 32) (k0_hw104 : k0_chk104 v400 v484), ∀ a x, ((![v400, v484] : Fin 2 → IVec S16 32) a x).toNat < S128x128.size a := fun v400 v484 k0_hw104 => k0_hw104

def k0_chk105 (v398 : IVec S16 32) (v485 : IVec S16 32) : Prop :=
  (∀ a x, ((![v398, v485] : Fin 2 → IVec S16 32) a x).toNat < S128x32.size a)
theorem k0_idx41_inb : ∀ (v398 : IVec S16 32) (v485 : IVec S16 32) (k0_hw105 : k0_chk105 v398 v485), ∀ a x, ((![v398, v485] : Fin 2 → IVec S16 32) a x).toNat < S128x32.size a := fun v398 v485 k0_hw105 => k0_hw105

def k0_chk106 (v400 : IVec S16 32) (v488 : IVec S16 32) : Prop :=
  (∀ a x, ((![v400, v488] : Fin 2 → IVec S16 32) a x).toNat < S128x128.size a)
theorem k0_idx42_inb : ∀ (v400 : IVec S16 32) (v488 : IVec S16 32) (k0_hw106 : k0_chk106 v400 v488), ∀ a x, ((![v400, v488] : Fin 2 → IVec S16 32) a x).toNat < S128x128.size a := fun v400 v488 k0_hw106 => k0_hw106

def k0_chk107 (v398 : IVec S16 32) (v489 : IVec S16 32) : Prop :=
  (∀ a x, ((![v398, v489] : Fin 2 → IVec S16 32) a x).toNat < S128x32.size a)
theorem k0_idx43_inb : ∀ (v398 : IVec S16 32) (v489 : IVec S16 32) (k0_hw107 : k0_chk107 v398 v489), ∀ a x, ((![v398, v489] : Fin 2 → IVec S16 32) a x).toNat < S128x32.size a := fun v398 v489 k0_hw107 => k0_hw107

def k0_chk108 (v400 : IVec S16 32) (v492 : IVec S16 32) : Prop :=
  (∀ a x, ((![v400, v492] : Fin 2 → IVec S16 32) a x).toNat < S128x128.size a)
theorem k0_idx44_inb : ∀ (v400 : IVec S16 32) (v492 : IVec S16 32) (k0_hw108 : k0_chk108 v400 v492), ∀ a x, ((![v400, v492] : Fin 2 → IVec S16 32) a x).toNat < S128x128.size a := fun v400 v492 k0_hw108 => k0_hw108

def k0_chk109 (v398 : IVec S16 32) (v493 : IVec S16 32) : Prop :=
  (∀ a x, ((![v398, v493] : Fin 2 → IVec S16 32) a x).toNat < S128x32.size a)
theorem k0_idx45_inb : ∀ (v398 : IVec S16 32) (v493 : IVec S16 32) (k0_hw109 : k0_chk109 v398 v493), ∀ a x, ((![v398, v493] : Fin 2 → IVec S16 32) a x).toNat < S128x32.size a := fun v398 v493 k0_hw109 => k0_hw109

def k0_chk110 (v400 : IVec S16 32) (v496 : IVec S16 32) : Prop :=
  (∀ a x, ((![v400, v496] : Fin 2 → IVec S16 32) a x).toNat < S128x128.size a)
theorem k0_idx46_inb : ∀ (v400 : IVec S16 32) (v496 : IVec S16 32) (k0_hw110 : k0_chk110 v400 v496), ∀ a x, ((![v400, v496] : Fin 2 → IVec S16 32) a x).toNat < S128x128.size a := fun v400 v496 k0_hw110 => k0_hw110

def k0_chk111 (v398 : IVec S16 32) (v497 : IVec S16 32) : Prop :=
  (∀ a x, ((![v398, v497] : Fin 2 → IVec S16 32) a x).toNat < S128x32.size a)
theorem k0_idx47_inb : ∀ (v398 : IVec S16 32) (v497 : IVec S16 32) (k0_hw111 : k0_chk111 v398 v497), ∀ a x, ((![v398, v497] : Fin 2 → IVec S16 32) a x).toNat < S128x32.size a := fun v398 v497 k0_hw111 => k0_hw111

def k0_chk112 (v400 : IVec S16 32) (v500 : IVec S16 32) : Prop :=
  (∀ a x, ((![v400, v500] : Fin 2 → IVec S16 32) a x).toNat < S128x128.size a)
theorem k0_idx48_inb : ∀ (v400 : IVec S16 32) (v500 : IVec S16 32) (k0_hw112 : k0_chk112 v400 v500), ∀ a x, ((![v400, v500] : Fin 2 → IVec S16 32) a x).toNat < S128x128.size a := fun v400 v500 k0_hw112 => k0_hw112

def k0_chk113 (v398 : IVec S16 32) (v501 : IVec S16 32) : Prop :=
  (∀ a x, ((![v398, v501] : Fin 2 → IVec S16 32) a x).toNat < S128x32.size a)
theorem k0_idx49_inb : ∀ (v398 : IVec S16 32) (v501 : IVec S16 32) (k0_hw113 : k0_chk113 v398 v501), ∀ a x, ((![v398, v501] : Fin 2 → IVec S16 32) a x).toNat < S128x32.size a := fun v398 v501 k0_hw113 => k0_hw113

def k0_chk114 (v400 : IVec S16 32) (v504 : IVec S16 32) : Prop :=
  (∀ a x, ((![v400, v504] : Fin 2 → IVec S16 32) a x).toNat < S128x128.size a)
theorem k0_idx50_inb : ∀ (v400 : IVec S16 32) (v504 : IVec S16 32) (k0_hw114 : k0_chk114 v400 v504), ∀ a x, ((![v400, v504] : Fin 2 → IVec S16 32) a x).toNat < S128x128.size a := fun v400 v504 k0_hw114 => k0_hw114

def k0_chk115 (v398 : IVec S16 32) (v505 : IVec S16 32) : Prop :=
  (∀ a x, ((![v398, v505] : Fin 2 → IVec S16 32) a x).toNat < S128x32.size a)
theorem k0_idx51_inb : ∀ (v398 : IVec S16 32) (v505 : IVec S16 32) (k0_hw115 : k0_chk115 v398 v505), ∀ a x, ((![v398, v505] : Fin 2 → IVec S16 32) a x).toNat < S128x32.size a := fun v398 v505 k0_hw115 => k0_hw115

def k0_chk116 (v400 : IVec S16 32) (v508 : IVec S16 32) : Prop :=
  (∀ a x, ((![v400, v508] : Fin 2 → IVec S16 32) a x).toNat < S128x128.size a)
theorem k0_idx52_inb : ∀ (v400 : IVec S16 32) (v508 : IVec S16 32) (k0_hw116 : k0_chk116 v400 v508), ∀ a x, ((![v400, v508] : Fin 2 → IVec S16 32) a x).toNat < S128x128.size a := fun v400 v508 k0_hw116 => k0_hw116

def k0_chk117 (v398 : IVec S16 32) (v509 : IVec S16 32) : Prop :=
  (∀ a x, ((![v398, v509] : Fin 2 → IVec S16 32) a x).toNat < S128x32.size a)
theorem k0_idx53_inb : ∀ (v398 : IVec S16 32) (v509 : IVec S16 32) (k0_hw117 : k0_chk117 v398 v509), ∀ a x, ((![v398, v509] : Fin 2 → IVec S16 32) a x).toNat < S128x32.size a := fun v398 v509 k0_hw117 => k0_hw117

def k0_chk118 (v400 : IVec S16 32) (v512 : IVec S16 32) : Prop :=
  (∀ a x, ((![v400, v512] : Fin 2 → IVec S16 32) a x).toNat < S128x128.size a)
theorem k0_idx54_inb : ∀ (v400 : IVec S16 32) (v512 : IVec S16 32) (k0_hw118 : k0_chk118 v400 v512), ∀ a x, ((![v400, v512] : Fin 2 → IVec S16 32) a x).toNat < S128x128.size a := fun v400 v512 k0_hw118 => k0_hw118

def k0_chk119 (v398 : IVec S16 32) (v513 : IVec S16 32) : Prop :=
  (∀ a x, ((![v398, v513] : Fin 2 → IVec S16 32) a x).toNat < S128x32.size a)
theorem k0_idx55_inb : ∀ (v398 : IVec S16 32) (v513 : IVec S16 32) (k0_hw119 : k0_chk119 v398 v513), ∀ a x, ((![v398, v513] : Fin 2 → IVec S16 32) a x).toNat < S128x32.size a := fun v398 v513 k0_hw119 => k0_hw119

def k0_chk120 (v400 : IVec S16 32) (v516 : IVec S16 32) : Prop :=
  (∀ a x, ((![v400, v516] : Fin 2 → IVec S16 32) a x).toNat < S128x128.size a)
theorem k0_idx56_inb : ∀ (v400 : IVec S16 32) (v516 : IVec S16 32) (k0_hw120 : k0_chk120 v400 v516), ∀ a x, ((![v400, v516] : Fin 2 → IVec S16 32) a x).toNat < S128x128.size a := fun v400 v516 k0_hw120 => k0_hw120

def k0_chk121 (v398 : IVec S16 32) (v517 : IVec S16 32) : Prop :=
  (∀ a x, ((![v398, v517] : Fin 2 → IVec S16 32) a x).toNat < S128x32.size a)
theorem k0_idx57_inb : ∀ (v398 : IVec S16 32) (v517 : IVec S16 32) (k0_hw121 : k0_chk121 v398 v517), ∀ a x, ((![v398, v517] : Fin 2 → IVec S16 32) a x).toNat < S128x32.size a := fun v398 v517 k0_hw121 => k0_hw121

def k0_chk122 (v400 : IVec S16 32) (v520 : IVec S16 32) : Prop :=
  (∀ a x, ((![v400, v520] : Fin 2 → IVec S16 32) a x).toNat < S128x128.size a)
theorem k0_idx58_inb : ∀ (v400 : IVec S16 32) (v520 : IVec S16 32) (k0_hw122 : k0_chk122 v400 v520), ∀ a x, ((![v400, v520] : Fin 2 → IVec S16 32) a x).toNat < S128x128.size a := fun v400 v520 k0_hw122 => k0_hw122

def k0_chk123 (v398 : IVec S16 32) (v521 : IVec S16 32) : Prop :=
  (∀ a x, ((![v398, v521] : Fin 2 → IVec S16 32) a x).toNat < S128x32.size a)
theorem k0_idx59_inb : ∀ (v398 : IVec S16 32) (v521 : IVec S16 32) (k0_hw123 : k0_chk123 v398 v521), ∀ a x, ((![v398, v521] : Fin 2 → IVec S16 32) a x).toNat < S128x32.size a := fun v398 v521 k0_hw123 => k0_hw123

def k0_chk124 (v400 : IVec S16 32) (v524 : IVec S16 32) : Prop :=
  (∀ a x, ((![v400, v524] : Fin 2 → IVec S16 32) a x).toNat < S128x128.size a)
theorem k0_idx60_inb : ∀ (v400 : IVec S16 32) (v524 : IVec S16 32) (k0_hw124 : k0_chk124 v400 v524), ∀ a x, ((![v400, v524] : Fin 2 → IVec S16 32) a x).toNat < S128x128.size a := fun v400 v524 k0_hw124 => k0_hw124

def k0_chk125 (v398 : IVec S16 32) (v525 : IVec S16 32) : Prop :=
  (∀ a x, ((![v398, v525] : Fin 2 → IVec S16 32) a x).toNat < S128x32.size a)
theorem k0_idx61_inb : ∀ (v398 : IVec S16 32) (v525 : IVec S16 32) (k0_hw125 : k0_chk125 v398 v525), ∀ a x, ((![v398, v525] : Fin 2 → IVec S16 32) a x).toNat < S128x32.size a := fun v398 v525 k0_hw125 => k0_hw125

def k0_chk126 (v400 : IVec S16 32) (v528 : IVec S16 32) : Prop :=
  (∀ a x, ((![v400, v528] : Fin 2 → IVec S16 32) a x).toNat < S128x128.size a)
theorem k0_idx62_inb : ∀ (v400 : IVec S16 32) (v528 : IVec S16 32) (k0_hw126 : k0_chk126 v400 v528), ∀ a x, ((![v400, v528] : Fin 2 → IVec S16 32) a x).toNat < S128x128.size a := fun v400 v528 k0_hw126 => k0_hw126

def k0_chk127 (v398 : IVec S16 32) (v529 : IVec S16 32) : Prop :=
  (∀ a x, ((![v398, v529] : Fin 2 → IVec S16 32) a x).toNat < S128x32.size a)
theorem k0_idx63_inb : ∀ (v398 : IVec S16 32) (v529 : IVec S16 32) (k0_hw127 : k0_chk127 v398 v529), ∀ a x, ((![v398, v529] : Fin 2 → IVec S16 32) a x).toNat < S128x32.size a := fun v398 v529 k0_hw127 => k0_hw127

def k0_chk128 (v400 : IVec S16 32) (v532 : IVec S16 32) : Prop :=
  (∀ a x, ((![v400, v532] : Fin 2 → IVec S16 32) a x).toNat < S128x128.size a)
theorem k0_idx64_inb : ∀ (v400 : IVec S16 32) (v532 : IVec S16 32) (k0_hw128 : k0_chk128 v400 v532), ∀ a x, ((![v400, v532] : Fin 2 → IVec S16 32) a x).toNat < S128x128.size a := fun v400 v532 k0_hw128 => k0_hw128
def k0_off69 (k0_t1 : Fin k0_t1_loop.trips) : Fin 1 → Nat :=
  let c0_i32_243 : BitVec 32 := 0#32
  let c1_i32 : BitVec 32 := 1#32
  let arg20 : BitVec 32 := Scf.iv c0_i32_243 c1_i32 k0_t1
  let c2_i32_252 : BitVec 32 := 2#32
  let v285 : BitVec 32 := Scalar.muli arg20 c2_i32_252
  let c0_i32_253 : BitVec 32 := 0#32
  let v286 : BitVec 32 := Scalar.addi v285 c0_i32_253
  let c16_i32_592 : BitVec 32 := 16#32
  let v630 : BitVec 32 := Scalar.muli v286 c16_i32_592
  let v631 : Index := Scalar.indexCast v630
  ![v631.toNat]

def k0_chk129 (v640 : IVec S16 32) (v647 : IVec S16 32) : Prop :=
  (∀ a x, ((![v640, v647] : Fin 2 → IVec S16 32) a x).toNat < S128x32.size a)
theorem k0_idx65_inb : ∀ (v640 : IVec S16 32) (v647 : IVec S16 32) (k0_hw129 : k0_chk129 v640 v647), ∀ a x, ((![v640, v647] : Fin 2 → IVec S16 32) a x).toNat < S128x32.size a := fun v640 v647 k0_hw129 => k0_hw129

def k0_chk130 (v642 : IVec S16 32) (v650 : IVec S16 32) : Prop :=
  (∀ a x, ((![v642, v650] : Fin 2 → IVec S16 32) a x).toNat < S128x128.size a)
theorem k0_idx66_inb : ∀ (v642 : IVec S16 32) (v650 : IVec S16 32) (k0_hw130 : k0_chk130 v642 v650), ∀ a x, ((![v642, v650] : Fin 2 → IVec S16 32) a x).toNat < S128x128.size a := fun v642 v650 k0_hw130 => k0_hw130

def k0_chk131 (v640 : IVec S16 32) (v651 : IVec S16 32) : Prop :=
  (∀ a x, ((![v640, v651] : Fin 2 → IVec S16 32) a x).toNat < S128x32.size a)
theorem k0_idx67_inb : ∀ (v640 : IVec S16 32) (v651 : IVec S16 32) (k0_hw131 : k0_chk131 v640 v651), ∀ a x, ((![v640, v651] : Fin 2 → IVec S16 32) a x).toNat < S128x32.size a := fun v640 v651 k0_hw131 => k0_hw131

def k0_chk132 (v642 : IVec S16 32) (v654 : IVec S16 32) : Prop :=
  (∀ a x, ((![v642, v654] : Fin 2 → IVec S16 32) a x).toNat < S128x128.size a)
theorem k0_idx68_inb : ∀ (v642 : IVec S16 32) (v654 : IVec S16 32) (k0_hw132 : k0_chk132 v642 v654), ∀ a x, ((![v642, v654] : Fin 2 → IVec S16 32) a x).toNat < S128x128.size a := fun v642 v654 k0_hw132 => k0_hw132

def k0_chk133 (v640 : IVec S16 32) (v655 : IVec S16 32) : Prop :=
  (∀ a x, ((![v640, v655] : Fin 2 → IVec S16 32) a x).toNat < S128x32.size a)
theorem k0_idx69_inb : ∀ (v640 : IVec S16 32) (v655 : IVec S16 32) (k0_hw133 : k0_chk133 v640 v655), ∀ a x, ((![v640, v655] : Fin 2 → IVec S16 32) a x).toNat < S128x32.size a := fun v640 v655 k0_hw133 => k0_hw133

def k0_chk134 (v642 : IVec S16 32) (v658 : IVec S16 32) : Prop :=
  (∀ a x, ((![v642, v658] : Fin 2 → IVec S16 32) a x).toNat < S128x128.size a)
theorem k0_idx70_inb : ∀ (v642 : IVec S16 32) (v658 : IVec S16 32) (k0_hw134 : k0_chk134 v642 v658), ∀ a x, ((![v642, v658] : Fin 2 → IVec S16 32) a x).toNat < S128x128.size a := fun v642 v658 k0_hw134 => k0_hw134

def k0_chk135 (v640 : IVec S16 32) (v659 : IVec S16 32) : Prop :=
  (∀ a x, ((![v640, v659] : Fin 2 → IVec S16 32) a x).toNat < S128x32.size a)
theorem k0_idx71_inb : ∀ (v640 : IVec S16 32) (v659 : IVec S16 32) (k0_hw135 : k0_chk135 v640 v659), ∀ a x, ((![v640, v659] : Fin 2 → IVec S16 32) a x).toNat < S128x32.size a := fun v640 v659 k0_hw135 => k0_hw135

def k0_chk136 (v642 : IVec S16 32) (v662 : IVec S16 32) : Prop :=
  (∀ a x, ((![v642, v662] : Fin 2 → IVec S16 32) a x).toNat < S128x128.size a)
theorem k0_idx72_inb : ∀ (v642 : IVec S16 32) (v662 : IVec S16 32) (k0_hw136 : k0_chk136 v642 v662), ∀ a x, ((![v642, v662] : Fin 2 → IVec S16 32) a x).toNat < S128x128.size a := fun v642 v662 k0_hw136 => k0_hw136

def k0_chk137 (v640 : IVec S16 32) (v663 : IVec S16 32) : Prop :=
  (∀ a x, ((![v640, v663] : Fin 2 → IVec S16 32) a x).toNat < S128x32.size a)
theorem k0_idx73_inb : ∀ (v640 : IVec S16 32) (v663 : IVec S16 32) (k0_hw137 : k0_chk137 v640 v663), ∀ a x, ((![v640, v663] : Fin 2 → IVec S16 32) a x).toNat < S128x32.size a := fun v640 v663 k0_hw137 => k0_hw137

def k0_chk138 (v642 : IVec S16 32) (v666 : IVec S16 32) : Prop :=
  (∀ a x, ((![v642, v666] : Fin 2 → IVec S16 32) a x).toNat < S128x128.size a)
theorem k0_idx74_inb : ∀ (v642 : IVec S16 32) (v666 : IVec S16 32) (k0_hw138 : k0_chk138 v642 v666), ∀ a x, ((![v642, v666] : Fin 2 → IVec S16 32) a x).toNat < S128x128.size a := fun v642 v666 k0_hw138 => k0_hw138

def k0_chk139 (v640 : IVec S16 32) (v667 : IVec S16 32) : Prop :=
  (∀ a x, ((![v640, v667] : Fin 2 → IVec S16 32) a x).toNat < S128x32.size a)
theorem k0_idx75_inb : ∀ (v640 : IVec S16 32) (v667 : IVec S16 32) (k0_hw139 : k0_chk139 v640 v667), ∀ a x, ((![v640, v667] : Fin 2 → IVec S16 32) a x).toNat < S128x32.size a := fun v640 v667 k0_hw139 => k0_hw139

def k0_chk140 (v642 : IVec S16 32) (v670 : IVec S16 32) : Prop :=
  (∀ a x, ((![v642, v670] : Fin 2 → IVec S16 32) a x).toNat < S128x128.size a)
theorem k0_idx76_inb : ∀ (v642 : IVec S16 32) (v670 : IVec S16 32) (k0_hw140 : k0_chk140 v642 v670), ∀ a x, ((![v642, v670] : Fin 2 → IVec S16 32) a x).toNat < S128x128.size a := fun v642 v670 k0_hw140 => k0_hw140

def k0_chk141 (v640 : IVec S16 32) (v671 : IVec S16 32) : Prop :=
  (∀ a x, ((![v640, v671] : Fin 2 → IVec S16 32) a x).toNat < S128x32.size a)
theorem k0_idx77_inb : ∀ (v640 : IVec S16 32) (v671 : IVec S16 32) (k0_hw141 : k0_chk141 v640 v671), ∀ a x, ((![v640, v671] : Fin 2 → IVec S16 32) a x).toNat < S128x32.size a := fun v640 v671 k0_hw141 => k0_hw141

def k0_chk142 (v642 : IVec S16 32) (v674 : IVec S16 32) : Prop :=
  (∀ a x, ((![v642, v674] : Fin 2 → IVec S16 32) a x).toNat < S128x128.size a)
theorem k0_idx78_inb : ∀ (v642 : IVec S16 32) (v674 : IVec S16 32) (k0_hw142 : k0_chk142 v642 v674), ∀ a x, ((![v642, v674] : Fin 2 → IVec S16 32) a x).toNat < S128x128.size a := fun v642 v674 k0_hw142 => k0_hw142

def k0_chk143 (v640 : IVec S16 32) (v675 : IVec S16 32) : Prop :=
  (∀ a x, ((![v640, v675] : Fin 2 → IVec S16 32) a x).toNat < S128x32.size a)
theorem k0_idx79_inb : ∀ (v640 : IVec S16 32) (v675 : IVec S16 32) (k0_hw143 : k0_chk143 v640 v675), ∀ a x, ((![v640, v675] : Fin 2 → IVec S16 32) a x).toNat < S128x32.size a := fun v640 v675 k0_hw143 => k0_hw143

def k0_chk144 (v642 : IVec S16 32) (v678 : IVec S16 32) : Prop :=
  (∀ a x, ((![v642, v678] : Fin 2 → IVec S16 32) a x).toNat < S128x128.size a)
theorem k0_idx80_inb : ∀ (v642 : IVec S16 32) (v678 : IVec S16 32) (k0_hw144 : k0_chk144 v642 v678), ∀ a x, ((![v642, v678] : Fin 2 → IVec S16 32) a x).toNat < S128x128.size a := fun v642 v678 k0_hw144 => k0_hw144

def k0_chk145 (v640 : IVec S16 32) (v679 : IVec S16 32) : Prop :=
  (∀ a x, ((![v640, v679] : Fin 2 → IVec S16 32) a x).toNat < S128x32.size a)
theorem k0_idx81_inb : ∀ (v640 : IVec S16 32) (v679 : IVec S16 32) (k0_hw145 : k0_chk145 v640 v679), ∀ a x, ((![v640, v679] : Fin 2 → IVec S16 32) a x).toNat < S128x32.size a := fun v640 v679 k0_hw145 => k0_hw145

def k0_chk146 (v642 : IVec S16 32) (v682 : IVec S16 32) : Prop :=
  (∀ a x, ((![v642, v682] : Fin 2 → IVec S16 32) a x).toNat < S128x128.size a)
theorem k0_idx82_inb : ∀ (v642 : IVec S16 32) (v682 : IVec S16 32) (k0_hw146 : k0_chk146 v642 v682), ∀ a x, ((![v642, v682] : Fin 2 → IVec S16 32) a x).toNat < S128x128.size a := fun v642 v682 k0_hw146 => k0_hw146

def k0_chk147 (v640 : IVec S16 32) (v683 : IVec S16 32) : Prop :=
  (∀ a x, ((![v640, v683] : Fin 2 → IVec S16 32) a x).toNat < S128x32.size a)
theorem k0_idx83_inb : ∀ (v640 : IVec S16 32) (v683 : IVec S16 32) (k0_hw147 : k0_chk147 v640 v683), ∀ a x, ((![v640, v683] : Fin 2 → IVec S16 32) a x).toNat < S128x32.size a := fun v640 v683 k0_hw147 => k0_hw147

def k0_chk148 (v642 : IVec S16 32) (v686 : IVec S16 32) : Prop :=
  (∀ a x, ((![v642, v686] : Fin 2 → IVec S16 32) a x).toNat < S128x128.size a)
theorem k0_idx84_inb : ∀ (v642 : IVec S16 32) (v686 : IVec S16 32) (k0_hw148 : k0_chk148 v642 v686), ∀ a x, ((![v642, v686] : Fin 2 → IVec S16 32) a x).toNat < S128x128.size a := fun v642 v686 k0_hw148 => k0_hw148

def k0_chk149 (v640 : IVec S16 32) (v687 : IVec S16 32) : Prop :=
  (∀ a x, ((![v640, v687] : Fin 2 → IVec S16 32) a x).toNat < S128x32.size a)
theorem k0_idx85_inb : ∀ (v640 : IVec S16 32) (v687 : IVec S16 32) (k0_hw149 : k0_chk149 v640 v687), ∀ a x, ((![v640, v687] : Fin 2 → IVec S16 32) a x).toNat < S128x32.size a := fun v640 v687 k0_hw149 => k0_hw149

def k0_chk150 (v642 : IVec S16 32) (v690 : IVec S16 32) : Prop :=
  (∀ a x, ((![v642, v690] : Fin 2 → IVec S16 32) a x).toNat < S128x128.size a)
theorem k0_idx86_inb : ∀ (v642 : IVec S16 32) (v690 : IVec S16 32) (k0_hw150 : k0_chk150 v642 v690), ∀ a x, ((![v642, v690] : Fin 2 → IVec S16 32) a x).toNat < S128x128.size a := fun v642 v690 k0_hw150 => k0_hw150

def k0_chk151 (v640 : IVec S16 32) (v691 : IVec S16 32) : Prop :=
  (∀ a x, ((![v640, v691] : Fin 2 → IVec S16 32) a x).toNat < S128x32.size a)
theorem k0_idx87_inb : ∀ (v640 : IVec S16 32) (v691 : IVec S16 32) (k0_hw151 : k0_chk151 v640 v691), ∀ a x, ((![v640, v691] : Fin 2 → IVec S16 32) a x).toNat < S128x32.size a := fun v640 v691 k0_hw151 => k0_hw151

def k0_chk152 (v642 : IVec S16 32) (v694 : IVec S16 32) : Prop :=
  (∀ a x, ((![v642, v694] : Fin 2 → IVec S16 32) a x).toNat < S128x128.size a)
theorem k0_idx88_inb : ∀ (v642 : IVec S16 32) (v694 : IVec S16 32) (k0_hw152 : k0_chk152 v642 v694), ∀ a x, ((![v642, v694] : Fin 2 → IVec S16 32) a x).toNat < S128x128.size a := fun v642 v694 k0_hw152 => k0_hw152

def k0_chk153 (v640 : IVec S16 32) (v695 : IVec S16 32) : Prop :=
  (∀ a x, ((![v640, v695] : Fin 2 → IVec S16 32) a x).toNat < S128x32.size a)
theorem k0_idx89_inb : ∀ (v640 : IVec S16 32) (v695 : IVec S16 32) (k0_hw153 : k0_chk153 v640 v695), ∀ a x, ((![v640, v695] : Fin 2 → IVec S16 32) a x).toNat < S128x32.size a := fun v640 v695 k0_hw153 => k0_hw153

def k0_chk154 (v642 : IVec S16 32) (v698 : IVec S16 32) : Prop :=
  (∀ a x, ((![v642, v698] : Fin 2 → IVec S16 32) a x).toNat < S128x128.size a)
theorem k0_idx90_inb : ∀ (v642 : IVec S16 32) (v698 : IVec S16 32) (k0_hw154 : k0_chk154 v642 v698), ∀ a x, ((![v642, v698] : Fin 2 → IVec S16 32) a x).toNat < S128x128.size a := fun v642 v698 k0_hw154 => k0_hw154

def k0_chk155 (v640 : IVec S16 32) (v699 : IVec S16 32) : Prop :=
  (∀ a x, ((![v640, v699] : Fin 2 → IVec S16 32) a x).toNat < S128x32.size a)
theorem k0_idx91_inb : ∀ (v640 : IVec S16 32) (v699 : IVec S16 32) (k0_hw155 : k0_chk155 v640 v699), ∀ a x, ((![v640, v699] : Fin 2 → IVec S16 32) a x).toNat < S128x32.size a := fun v640 v699 k0_hw155 => k0_hw155

def k0_chk156 (v642 : IVec S16 32) (v702 : IVec S16 32) : Prop :=
  (∀ a x, ((![v642, v702] : Fin 2 → IVec S16 32) a x).toNat < S128x128.size a)
theorem k0_idx92_inb : ∀ (v642 : IVec S16 32) (v702 : IVec S16 32) (k0_hw156 : k0_chk156 v642 v702), ∀ a x, ((![v642, v702] : Fin 2 → IVec S16 32) a x).toNat < S128x128.size a := fun v642 v702 k0_hw156 => k0_hw156

def k0_chk157 (v640 : IVec S16 32) (v703 : IVec S16 32) : Prop :=
  (∀ a x, ((![v640, v703] : Fin 2 → IVec S16 32) a x).toNat < S128x32.size a)
theorem k0_idx93_inb : ∀ (v640 : IVec S16 32) (v703 : IVec S16 32) (k0_hw157 : k0_chk157 v640 v703), ∀ a x, ((![v640, v703] : Fin 2 → IVec S16 32) a x).toNat < S128x32.size a := fun v640 v703 k0_hw157 => k0_hw157

def k0_chk158 (v642 : IVec S16 32) (v706 : IVec S16 32) : Prop :=
  (∀ a x, ((![v642, v706] : Fin 2 → IVec S16 32) a x).toNat < S128x128.size a)
theorem k0_idx94_inb : ∀ (v642 : IVec S16 32) (v706 : IVec S16 32) (k0_hw158 : k0_chk158 v642 v706), ∀ a x, ((![v642, v706] : Fin 2 → IVec S16 32) a x).toNat < S128x128.size a := fun v642 v706 k0_hw158 => k0_hw158

def k0_chk159 (v640 : IVec S16 32) (v707 : IVec S16 32) : Prop :=
  (∀ a x, ((![v640, v707] : Fin 2 → IVec S16 32) a x).toNat < S128x32.size a)
theorem k0_idx95_inb : ∀ (v640 : IVec S16 32) (v707 : IVec S16 32) (k0_hw159 : k0_chk159 v640 v707), ∀ a x, ((![v640, v707] : Fin 2 → IVec S16 32) a x).toNat < S128x32.size a := fun v640 v707 k0_hw159 => k0_hw159

def k0_chk160 (v642 : IVec S16 32) (v710 : IVec S16 32) : Prop :=
  (∀ a x, ((![v642, v710] : Fin 2 → IVec S16 32) a x).toNat < S128x128.size a)
theorem k0_idx96_inb : ∀ (v642 : IVec S16 32) (v710 : IVec S16 32) (k0_hw160 : k0_chk160 v642 v710), ∀ a x, ((![v642, v710] : Fin 2 → IVec S16 32) a x).toNat < S128x128.size a := fun v642 v710 k0_hw160 => k0_hw160

def k0_chk161 (v640 : IVec S16 32) (v711 : IVec S16 32) : Prop :=
  (∀ a x, ((![v640, v711] : Fin 2 → IVec S16 32) a x).toNat < S128x32.size a)
theorem k0_idx97_inb : ∀ (v640 : IVec S16 32) (v711 : IVec S16 32) (k0_hw161 : k0_chk161 v640 v711), ∀ a x, ((![v640, v711] : Fin 2 → IVec S16 32) a x).toNat < S128x32.size a := fun v640 v711 k0_hw161 => k0_hw161

def k0_chk162 (v642 : IVec S16 32) (v714 : IVec S16 32) : Prop :=
  (∀ a x, ((![v642, v714] : Fin 2 → IVec S16 32) a x).toNat < S128x128.size a)
theorem k0_idx98_inb : ∀ (v642 : IVec S16 32) (v714 : IVec S16 32) (k0_hw162 : k0_chk162 v642 v714), ∀ a x, ((![v642, v714] : Fin 2 → IVec S16 32) a x).toNat < S128x128.size a := fun v642 v714 k0_hw162 => k0_hw162

def k0_chk163 (v640 : IVec S16 32) (v715 : IVec S16 32) : Prop :=
  (∀ a x, ((![v640, v715] : Fin 2 → IVec S16 32) a x).toNat < S128x32.size a)
theorem k0_idx99_inb : ∀ (v640 : IVec S16 32) (v715 : IVec S16 32) (k0_hw163 : k0_chk163 v640 v715), ∀ a x, ((![v640, v715] : Fin 2 → IVec S16 32) a x).toNat < S128x32.size a := fun v640 v715 k0_hw163 => k0_hw163

def k0_chk164 (v642 : IVec S16 32) (v718 : IVec S16 32) : Prop :=
  (∀ a x, ((![v642, v718] : Fin 2 → IVec S16 32) a x).toNat < S128x128.size a)
theorem k0_idx100_inb : ∀ (v642 : IVec S16 32) (v718 : IVec S16 32) (k0_hw164 : k0_chk164 v642 v718), ∀ a x, ((![v642, v718] : Fin 2 → IVec S16 32) a x).toNat < S128x128.size a := fun v642 v718 k0_hw164 => k0_hw164

def k0_chk165 (v640 : IVec S16 32) (v719 : IVec S16 32) : Prop :=
  (∀ a x, ((![v640, v719] : Fin 2 → IVec S16 32) a x).toNat < S128x32.size a)
theorem k0_idx101_inb : ∀ (v640 : IVec S16 32) (v719 : IVec S16 32) (k0_hw165 : k0_chk165 v640 v719), ∀ a x, ((![v640, v719] : Fin 2 → IVec S16 32) a x).toNat < S128x32.size a := fun v640 v719 k0_hw165 => k0_hw165

def k0_chk166 (v642 : IVec S16 32) (v722 : IVec S16 32) : Prop :=
  (∀ a x, ((![v642, v722] : Fin 2 → IVec S16 32) a x).toNat < S128x128.size a)
theorem k0_idx102_inb : ∀ (v642 : IVec S16 32) (v722 : IVec S16 32) (k0_hw166 : k0_chk166 v642 v722), ∀ a x, ((![v642, v722] : Fin 2 → IVec S16 32) a x).toNat < S128x128.size a := fun v642 v722 k0_hw166 => k0_hw166

def k0_chk167 (v640 : IVec S16 32) (v723 : IVec S16 32) : Prop :=
  (∀ a x, ((![v640, v723] : Fin 2 → IVec S16 32) a x).toNat < S128x32.size a)
theorem k0_idx103_inb : ∀ (v640 : IVec S16 32) (v723 : IVec S16 32) (k0_hw167 : k0_chk167 v640 v723), ∀ a x, ((![v640, v723] : Fin 2 → IVec S16 32) a x).toNat < S128x32.size a := fun v640 v723 k0_hw167 => k0_hw167

def k0_chk168 (v642 : IVec S16 32) (v726 : IVec S16 32) : Prop :=
  (∀ a x, ((![v642, v726] : Fin 2 → IVec S16 32) a x).toNat < S128x128.size a)
theorem k0_idx104_inb : ∀ (v642 : IVec S16 32) (v726 : IVec S16 32) (k0_hw168 : k0_chk168 v642 v726), ∀ a x, ((![v642, v726] : Fin 2 → IVec S16 32) a x).toNat < S128x128.size a := fun v642 v726 k0_hw168 => k0_hw168

def k0_chk169 (v640 : IVec S16 32) (v727 : IVec S16 32) : Prop :=
  (∀ a x, ((![v640, v727] : Fin 2 → IVec S16 32) a x).toNat < S128x32.size a)
theorem k0_idx105_inb : ∀ (v640 : IVec S16 32) (v727 : IVec S16 32) (k0_hw169 : k0_chk169 v640 v727), ∀ a x, ((![v640, v727] : Fin 2 → IVec S16 32) a x).toNat < S128x32.size a := fun v640 v727 k0_hw169 => k0_hw169

def k0_chk170 (v642 : IVec S16 32) (v730 : IVec S16 32) : Prop :=
  (∀ a x, ((![v642, v730] : Fin 2 → IVec S16 32) a x).toNat < S128x128.size a)
theorem k0_idx106_inb : ∀ (v642 : IVec S16 32) (v730 : IVec S16 32) (k0_hw170 : k0_chk170 v642 v730), ∀ a x, ((![v642, v730] : Fin 2 → IVec S16 32) a x).toNat < S128x128.size a := fun v642 v730 k0_hw170 => k0_hw170

def k0_chk171 (v640 : IVec S16 32) (v731 : IVec S16 32) : Prop :=
  (∀ a x, ((![v640, v731] : Fin 2 → IVec S16 32) a x).toNat < S128x32.size a)
theorem k0_idx107_inb : ∀ (v640 : IVec S16 32) (v731 : IVec S16 32) (k0_hw171 : k0_chk171 v640 v731), ∀ a x, ((![v640, v731] : Fin 2 → IVec S16 32) a x).toNat < S128x32.size a := fun v640 v731 k0_hw171 => k0_hw171

def k0_chk172 (v642 : IVec S16 32) (v734 : IVec S16 32) : Prop :=
  (∀ a x, ((![v642, v734] : Fin 2 → IVec S16 32) a x).toNat < S128x128.size a)
theorem k0_idx108_inb : ∀ (v642 : IVec S16 32) (v734 : IVec S16 32) (k0_hw172 : k0_chk172 v642 v734), ∀ a x, ((![v642, v734] : Fin 2 → IVec S16 32) a x).toNat < S128x128.size a := fun v642 v734 k0_hw172 => k0_hw172

def k0_chk173 (v640 : IVec S16 32) (v735 : IVec S16 32) : Prop :=
  (∀ a x, ((![v640, v735] : Fin 2 → IVec S16 32) a x).toNat < S128x32.size a)
theorem k0_idx109_inb : ∀ (v640 : IVec S16 32) (v735 : IVec S16 32) (k0_hw173 : k0_chk173 v640 v735), ∀ a x, ((![v640, v735] : Fin 2 → IVec S16 32) a x).toNat < S128x32.size a := fun v640 v735 k0_hw173 => k0_hw173

def k0_chk174 (v642 : IVec S16 32) (v738 : IVec S16 32) : Prop :=
  (∀ a x, ((![v642, v738] : Fin 2 → IVec S16 32) a x).toNat < S128x128.size a)
theorem k0_idx110_inb : ∀ (v642 : IVec S16 32) (v738 : IVec S16 32) (k0_hw174 : k0_chk174 v642 v738), ∀ a x, ((![v642, v738] : Fin 2 → IVec S16 32) a x).toNat < S128x128.size a := fun v642 v738 k0_hw174 => k0_hw174

def k0_chk175 (v640 : IVec S16 32) (v739 : IVec S16 32) : Prop :=
  (∀ a x, ((![v640, v739] : Fin 2 → IVec S16 32) a x).toNat < S128x32.size a)
theorem k0_idx111_inb : ∀ (v640 : IVec S16 32) (v739 : IVec S16 32) (k0_hw175 : k0_chk175 v640 v739), ∀ a x, ((![v640, v739] : Fin 2 → IVec S16 32) a x).toNat < S128x32.size a := fun v640 v739 k0_hw175 => k0_hw175

def k0_chk176 (v642 : IVec S16 32) (v742 : IVec S16 32) : Prop :=
  (∀ a x, ((![v642, v742] : Fin 2 → IVec S16 32) a x).toNat < S128x128.size a)
theorem k0_idx112_inb : ∀ (v642 : IVec S16 32) (v742 : IVec S16 32) (k0_hw176 : k0_chk176 v642 v742), ∀ a x, ((![v642, v742] : Fin 2 → IVec S16 32) a x).toNat < S128x128.size a := fun v642 v742 k0_hw176 => k0_hw176

def k0_chk177 (v640 : IVec S16 32) (v743 : IVec S16 32) : Prop :=
  (∀ a x, ((![v640, v743] : Fin 2 → IVec S16 32) a x).toNat < S128x32.size a)
theorem k0_idx113_inb : ∀ (v640 : IVec S16 32) (v743 : IVec S16 32) (k0_hw177 : k0_chk177 v640 v743), ∀ a x, ((![v640, v743] : Fin 2 → IVec S16 32) a x).toNat < S128x32.size a := fun v640 v743 k0_hw177 => k0_hw177

def k0_chk178 (v642 : IVec S16 32) (v746 : IVec S16 32) : Prop :=
  (∀ a x, ((![v642, v746] : Fin 2 → IVec S16 32) a x).toNat < S128x128.size a)
theorem k0_idx114_inb : ∀ (v642 : IVec S16 32) (v746 : IVec S16 32) (k0_hw178 : k0_chk178 v642 v746), ∀ a x, ((![v642, v746] : Fin 2 → IVec S16 32) a x).toNat < S128x128.size a := fun v642 v746 k0_hw178 => k0_hw178

def k0_chk179 (v640 : IVec S16 32) (v747 : IVec S16 32) : Prop :=
  (∀ a x, ((![v640, v747] : Fin 2 → IVec S16 32) a x).toNat < S128x32.size a)
theorem k0_idx115_inb : ∀ (v640 : IVec S16 32) (v747 : IVec S16 32) (k0_hw179 : k0_chk179 v640 v747), ∀ a x, ((![v640, v747] : Fin 2 → IVec S16 32) a x).toNat < S128x32.size a := fun v640 v747 k0_hw179 => k0_hw179

def k0_chk180 (v642 : IVec S16 32) (v750 : IVec S16 32) : Prop :=
  (∀ a x, ((![v642, v750] : Fin 2 → IVec S16 32) a x).toNat < S128x128.size a)
theorem k0_idx116_inb : ∀ (v642 : IVec S16 32) (v750 : IVec S16 32) (k0_hw180 : k0_chk180 v642 v750), ∀ a x, ((![v642, v750] : Fin 2 → IVec S16 32) a x).toNat < S128x128.size a := fun v642 v750 k0_hw180 => k0_hw180

def k0_chk181 (v640 : IVec S16 32) (v751 : IVec S16 32) : Prop :=
  (∀ a x, ((![v640, v751] : Fin 2 → IVec S16 32) a x).toNat < S128x32.size a)
theorem k0_idx117_inb : ∀ (v640 : IVec S16 32) (v751 : IVec S16 32) (k0_hw181 : k0_chk181 v640 v751), ∀ a x, ((![v640, v751] : Fin 2 → IVec S16 32) a x).toNat < S128x32.size a := fun v640 v751 k0_hw181 => k0_hw181

def k0_chk182 (v642 : IVec S16 32) (v754 : IVec S16 32) : Prop :=
  (∀ a x, ((![v642, v754] : Fin 2 → IVec S16 32) a x).toNat < S128x128.size a)
theorem k0_idx118_inb : ∀ (v642 : IVec S16 32) (v754 : IVec S16 32) (k0_hw182 : k0_chk182 v642 v754), ∀ a x, ((![v642, v754] : Fin 2 → IVec S16 32) a x).toNat < S128x128.size a := fun v642 v754 k0_hw182 => k0_hw182

def k0_chk183 (v640 : IVec S16 32) (v755 : IVec S16 32) : Prop :=
  (∀ a x, ((![v640, v755] : Fin 2 → IVec S16 32) a x).toNat < S128x32.size a)
theorem k0_idx119_inb : ∀ (v640 : IVec S16 32) (v755 : IVec S16 32) (k0_hw183 : k0_chk183 v640 v755), ∀ a x, ((![v640, v755] : Fin 2 → IVec S16 32) a x).toNat < S128x32.size a := fun v640 v755 k0_hw183 => k0_hw183

def k0_chk184 (v642 : IVec S16 32) (v758 : IVec S16 32) : Prop :=
  (∀ a x, ((![v642, v758] : Fin 2 → IVec S16 32) a x).toNat < S128x128.size a)
theorem k0_idx120_inb : ∀ (v642 : IVec S16 32) (v758 : IVec S16 32) (k0_hw184 : k0_chk184 v642 v758), ∀ a x, ((![v642, v758] : Fin 2 → IVec S16 32) a x).toNat < S128x128.size a := fun v642 v758 k0_hw184 => k0_hw184

def k0_chk185 (v640 : IVec S16 32) (v759 : IVec S16 32) : Prop :=
  (∀ a x, ((![v640, v759] : Fin 2 → IVec S16 32) a x).toNat < S128x32.size a)
theorem k0_idx121_inb : ∀ (v640 : IVec S16 32) (v759 : IVec S16 32) (k0_hw185 : k0_chk185 v640 v759), ∀ a x, ((![v640, v759] : Fin 2 → IVec S16 32) a x).toNat < S128x32.size a := fun v640 v759 k0_hw185 => k0_hw185

def k0_chk186 (v642 : IVec S16 32) (v762 : IVec S16 32) : Prop :=
  (∀ a x, ((![v642, v762] : Fin 2 → IVec S16 32) a x).toNat < S128x128.size a)
theorem k0_idx122_inb : ∀ (v642 : IVec S16 32) (v762 : IVec S16 32) (k0_hw186 : k0_chk186 v642 v762), ∀ a x, ((![v642, v762] : Fin 2 → IVec S16 32) a x).toNat < S128x128.size a := fun v642 v762 k0_hw186 => k0_hw186

def k0_chk187 (v640 : IVec S16 32) (v763 : IVec S16 32) : Prop :=
  (∀ a x, ((![v640, v763] : Fin 2 → IVec S16 32) a x).toNat < S128x32.size a)
theorem k0_idx123_inb : ∀ (v640 : IVec S16 32) (v763 : IVec S16 32) (k0_hw187 : k0_chk187 v640 v763), ∀ a x, ((![v640, v763] : Fin 2 → IVec S16 32) a x).toNat < S128x32.size a := fun v640 v763 k0_hw187 => k0_hw187

def k0_chk188 (v642 : IVec S16 32) (v766 : IVec S16 32) : Prop :=
  (∀ a x, ((![v642, v766] : Fin 2 → IVec S16 32) a x).toNat < S128x128.size a)
theorem k0_idx124_inb : ∀ (v642 : IVec S16 32) (v766 : IVec S16 32) (k0_hw188 : k0_chk188 v642 v766), ∀ a x, ((![v642, v766] : Fin 2 → IVec S16 32) a x).toNat < S128x128.size a := fun v642 v766 k0_hw188 => k0_hw188

def k0_chk189 (v640 : IVec S16 32) (v767 : IVec S16 32) : Prop :=
  (∀ a x, ((![v640, v767] : Fin 2 → IVec S16 32) a x).toNat < S128x32.size a)
theorem k0_idx125_inb : ∀ (v640 : IVec S16 32) (v767 : IVec S16 32) (k0_hw189 : k0_chk189 v640 v767), ∀ a x, ((![v640, v767] : Fin 2 → IVec S16 32) a x).toNat < S128x32.size a := fun v640 v767 k0_hw189 => k0_hw189

def k0_chk190 (v642 : IVec S16 32) (v770 : IVec S16 32) : Prop :=
  (∀ a x, ((![v642, v770] : Fin 2 → IVec S16 32) a x).toNat < S128x128.size a)
theorem k0_idx126_inb : ∀ (v642 : IVec S16 32) (v770 : IVec S16 32) (k0_hw190 : k0_chk190 v642 v770), ∀ a x, ((![v642, v770] : Fin 2 → IVec S16 32) a x).toNat < S128x128.size a := fun v642 v770 k0_hw190 => k0_hw190

def k0_chk191 (v640 : IVec S16 32) (v771 : IVec S16 32) : Prop :=
  (∀ a x, ((![v640, v771] : Fin 2 → IVec S16 32) a x).toNat < S128x32.size a)
theorem k0_idx127_inb : ∀ (v640 : IVec S16 32) (v771 : IVec S16 32) (k0_hw191 : k0_chk191 v640 v771), ∀ a x, ((![v640, v771] : Fin 2 → IVec S16 32) a x).toNat < S128x32.size a := fun v640 v771 k0_hw191 => k0_hw191

def k0_chk192 (v642 : IVec S16 32) (v774 : IVec S16 32) : Prop :=
  (∀ a x, ((![v642, v774] : Fin 2 → IVec S16 32) a x).toNat < S128x128.size a)
theorem k0_idx128_inb : ∀ (v642 : IVec S16 32) (v774 : IVec S16 32) (k0_hw192 : k0_chk192 v642 v774), ∀ a x, ((![v642, v774] : Fin 2 → IVec S16 32) a x).toNat < S128x128.size a := fun v642 v774 k0_hw192 => k0_hw192
def k0_cond2 (k0_t1 : Fin k0_t1_loop.trips) : BitVec 1 :=
  let c0_i32_243 : BitVec 32 := 0#32
  let c1_i32 : BitVec 32 := 1#32
  let arg20 : BitVec 32 := Scf.iv c0_i32_243 c1_i32 k0_t1
  let c2_i32_663 : BitVec 32 := 2#32
  let v775 : BitVec 32 := Scalar.muli arg20 c2_i32_663
  let c1_i32_664 : BitVec 32 := 1#32
  let v776 : BitVec 32 := Scalar.addi v775 c1_i32_664
  let c1_i32_665 : BitVec 32 := 1#32
  let v777 : BitVec 32 := Scalar.addi v776 c1_i32_665
  let c32_i32_666 : BitVec 32 := 32#32
  let v778 : BitVec 1 := Scalar.cmpi .slt v777 c32_i32_666
  let v779 : BitVec 32 := Scalar.extui v778
  let c0_i32_667 : BitVec 32 := 0#32
  let v780 : BitVec 1 := Scalar.cmpi .ne v779 c0_i32_667
  v780

def k0_off70 (k0_t1 : Fin k0_t1_loop.trips) : Fin 1 → Nat :=
  let c0_i32_243 : BitVec 32 := 0#32
  let c1_i32 : BitVec 32 := 1#32
  let arg20 : BitVec 32 := Scf.iv c0_i32_243 c1_i32 k0_t1
  let c2_i32_663 : BitVec 32 := 2#32
  let v775 : BitVec 32 := Scalar.muli arg20 c2_i32_663
  let c1_i32_664 : BitVec 32 := 1#32
  let v776 : BitVec 32 := Scalar.addi v775 c1_i32_664
  let c1_i32_665 : BitVec 32 := 1#32
  let v777 : BitVec 32 := Scalar.addi v776 c1_i32_665
  let c16_i32_1098 : BitVec 32 := 16#32
  let v1265 : BitVec 32 := Scalar.muli v777 c16_i32_1098
  let v1266 : Index := Scalar.indexCast v1265
  ![v1266.toNat]
def k0_off71 (v1271 : BitVec 32) : Fin 3 → Nat :=
  let c0_i32_1102 : BitVec 32 := 0#32
  let c0_i32_1103 : BitVec 32 := 0#32
  ![v1271.toNat, 0, 0]

def k0_chk193 (k0_t1 : Fin k0_t1_loop.trips) (v1271 : BitVec 32) : Prop :=
  (∀ (k0_h2 : k0_cond2 k0_t1 = 1#1), ∀ a, (k0_off71 v1271) a + S1x8x32.size a ≤ S125000x8x32.size a)
theorem k0_off71_inb : ∀ (k0_t1 : Fin k0_t1_loop.trips) (v1271 : BitVec 32) (k0_hw193 : k0_chk193 k0_t1 v1271), ∀ (k0_h2 : k0_cond2 k0_t1 = 1#1), ∀ a, (k0_off71 v1271) a + S1x8x32.size a ≤ S125000x8x32.size a := fun k0_t1 v1271 k0_hw193 k0_h2 => k0_hw193 k0_h2

def k0_off72 (v1279 : BitVec 32) : Fin 3 → Nat :=
  let c0_i32_1110 : BitVec 32 := 0#32
  let c0_i32_1111 : BitVec 32 := 0#32
  ![v1279.toNat, 0, 0]

def k0_chk194 (k0_t1 : Fin k0_t1_loop.trips) (v1279 : BitVec 32) : Prop :=
  (∀ (k0_h2 : k0_cond2 k0_t1 = 1#1), ∀ a, (k0_off72 v1279) a + S1x8x32.size a ≤ S125000x8x32.size a)
theorem k0_off72_inb : ∀ (k0_t1 : Fin k0_t1_loop.trips) (v1279 : BitVec 32) (k0_hw194 : k0_chk194 k0_t1 v1279), ∀ (k0_h2 : k0_cond2 k0_t1 = 1#1), ∀ a, (k0_off72 v1279) a + S1x8x32.size a ≤ S125000x8x32.size a := fun k0_t1 v1279 k0_hw194 k0_h2 => k0_hw194 k0_h2

def k0_off73 (v1287 : BitVec 32) : Fin 3 → Nat :=
  let c0_i32_1118 : BitVec 32 := 0#32
  let c0_i32_1119 : BitVec 32 := 0#32
  ![v1287.toNat, 0, 0]

def k0_chk195 (k0_t1 : Fin k0_t1_loop.trips) (v1287 : BitVec 32) : Prop :=
  (∀ (k0_h2 : k0_cond2 k0_t1 = 1#1), ∀ a, (k0_off73 v1287) a + S1x8x32.size a ≤ S125000x8x32.size a)
theorem k0_off73_inb : ∀ (k0_t1 : Fin k0_t1_loop.trips) (v1287 : BitVec 32) (k0_hw195 : k0_chk195 k0_t1 v1287), ∀ (k0_h2 : k0_cond2 k0_t1 = 1#1), ∀ a, (k0_off73 v1287) a + S1x8x32.size a ≤ S125000x8x32.size a := fun k0_t1 v1287 k0_hw195 k0_h2 => k0_hw195 k0_h2

def k0_off74 (v1295 : BitVec 32) : Fin 3 → Nat :=
  let c0_i32_1126 : BitVec 32 := 0#32
  let c0_i32_1127 : BitVec 32 := 0#32
  ![v1295.toNat, 0, 0]

def k0_chk196 (k0_t1 : Fin k0_t1_loop.trips) (v1295 : BitVec 32) : Prop :=
  (∀ (k0_h2 : k0_cond2 k0_t1 = 1#1), ∀ a, (k0_off74 v1295) a + S1x8x32.size a ≤ S125000x8x32.size a)
theorem k0_off74_inb : ∀ (k0_t1 : Fin k0_t1_loop.trips) (v1295 : BitVec 32) (k0_hw196 : k0_chk196 k0_t1 v1295), ∀ (k0_h2 : k0_cond2 k0_t1 = 1#1), ∀ a, (k0_off74 v1295) a + S1x8x32.size a ≤ S125000x8x32.size a := fun k0_t1 v1295 k0_hw196 k0_h2 => k0_hw196 k0_h2

def k0_off75 (v1303 : BitVec 32) : Fin 3 → Nat :=
  let c0_i32_1134 : BitVec 32 := 0#32
  let c0_i32_1135 : BitVec 32 := 0#32
  ![v1303.toNat, 0, 0]

def k0_chk197 (k0_t1 : Fin k0_t1_loop.trips) (v1303 : BitVec 32) : Prop :=
  (∀ (k0_h2 : k0_cond2 k0_t1 = 1#1), ∀ a, (k0_off75 v1303) a + S1x8x32.size a ≤ S125000x8x32.size a)
theorem k0_off75_inb : ∀ (k0_t1 : Fin k0_t1_loop.trips) (v1303 : BitVec 32) (k0_hw197 : k0_chk197 k0_t1 v1303), ∀ (k0_h2 : k0_cond2 k0_t1 = 1#1), ∀ a, (k0_off75 v1303) a + S1x8x32.size a ≤ S125000x8x32.size a := fun k0_t1 v1303 k0_hw197 k0_h2 => k0_hw197 k0_h2

def k0_off76 (v1311 : BitVec 32) : Fin 3 → Nat :=
  let c0_i32_1142 : BitVec 32 := 0#32
  let c0_i32_1143 : BitVec 32 := 0#32
  ![v1311.toNat, 0, 0]

def k0_chk198 (k0_t1 : Fin k0_t1_loop.trips) (v1311 : BitVec 32) : Prop :=
  (∀ (k0_h2 : k0_cond2 k0_t1 = 1#1), ∀ a, (k0_off76 v1311) a + S1x8x32.size a ≤ S125000x8x32.size a)
theorem k0_off76_inb : ∀ (k0_t1 : Fin k0_t1_loop.trips) (v1311 : BitVec 32) (k0_hw198 : k0_chk198 k0_t1 v1311), ∀ (k0_h2 : k0_cond2 k0_t1 = 1#1), ∀ a, (k0_off76 v1311) a + S1x8x32.size a ≤ S125000x8x32.size a := fun k0_t1 v1311 k0_hw198 k0_h2 => k0_hw198 k0_h2

def k0_off77 (v1319 : BitVec 32) : Fin 3 → Nat :=
  let c0_i32_1150 : BitVec 32 := 0#32
  let c0_i32_1151 : BitVec 32 := 0#32
  ![v1319.toNat, 0, 0]

def k0_chk199 (k0_t1 : Fin k0_t1_loop.trips) (v1319 : BitVec 32) : Prop :=
  (∀ (k0_h2 : k0_cond2 k0_t1 = 1#1), ∀ a, (k0_off77 v1319) a + S1x8x32.size a ≤ S125000x8x32.size a)
theorem k0_off77_inb : ∀ (k0_t1 : Fin k0_t1_loop.trips) (v1319 : BitVec 32) (k0_hw199 : k0_chk199 k0_t1 v1319), ∀ (k0_h2 : k0_cond2 k0_t1 = 1#1), ∀ a, (k0_off77 v1319) a + S1x8x32.size a ≤ S125000x8x32.size a := fun k0_t1 v1319 k0_hw199 k0_h2 => k0_hw199 k0_h2

def k0_off78 (v1327 : BitVec 32) : Fin 3 → Nat :=
  let c0_i32_1158 : BitVec 32 := 0#32
  let c0_i32_1159 : BitVec 32 := 0#32
  ![v1327.toNat, 0, 0]

def k0_chk200 (k0_t1 : Fin k0_t1_loop.trips) (v1327 : BitVec 32) : Prop :=
  (∀ (k0_h2 : k0_cond2 k0_t1 = 1#1), ∀ a, (k0_off78 v1327) a + S1x8x32.size a ≤ S125000x8x32.size a)
theorem k0_off78_inb : ∀ (k0_t1 : Fin k0_t1_loop.trips) (v1327 : BitVec 32) (k0_hw200 : k0_chk200 k0_t1 v1327), ∀ (k0_h2 : k0_cond2 k0_t1 = 1#1), ∀ a, (k0_off78 v1327) a + S1x8x32.size a ≤ S125000x8x32.size a := fun k0_t1 v1327 k0_hw200 k0_h2 => k0_hw200 k0_h2

def k0_off79 (v1335 : BitVec 32) : Fin 3 → Nat :=
  let c0_i32_1166 : BitVec 32 := 0#32
  let c0_i32_1167 : BitVec 32 := 0#32
  ![v1335.toNat, 0, 0]

def k0_chk201 (k0_t1 : Fin k0_t1_loop.trips) (v1335 : BitVec 32) : Prop :=
  (∀ (k0_h2 : k0_cond2 k0_t1 = 1#1), ∀ a, (k0_off79 v1335) a + S1x8x32.size a ≤ S125000x8x32.size a)
theorem k0_off79_inb : ∀ (k0_t1 : Fin k0_t1_loop.trips) (v1335 : BitVec 32) (k0_hw201 : k0_chk201 k0_t1 v1335), ∀ (k0_h2 : k0_cond2 k0_t1 = 1#1), ∀ a, (k0_off79 v1335) a + S1x8x32.size a ≤ S125000x8x32.size a := fun k0_t1 v1335 k0_hw201 k0_h2 => k0_hw201 k0_h2

def k0_off80 (v1343 : BitVec 32) : Fin 3 → Nat :=
  let c0_i32_1174 : BitVec 32 := 0#32
  let c0_i32_1175 : BitVec 32 := 0#32
  ![v1343.toNat, 0, 0]

def k0_chk202 (k0_t1 : Fin k0_t1_loop.trips) (v1343 : BitVec 32) : Prop :=
  (∀ (k0_h2 : k0_cond2 k0_t1 = 1#1), ∀ a, (k0_off80 v1343) a + S1x8x32.size a ≤ S125000x8x32.size a)
theorem k0_off80_inb : ∀ (k0_t1 : Fin k0_t1_loop.trips) (v1343 : BitVec 32) (k0_hw202 : k0_chk202 k0_t1 v1343), ∀ (k0_h2 : k0_cond2 k0_t1 = 1#1), ∀ a, (k0_off80 v1343) a + S1x8x32.size a ≤ S125000x8x32.size a := fun k0_t1 v1343 k0_hw202 k0_h2 => k0_hw202 k0_h2

def k0_off81 (v1351 : BitVec 32) : Fin 3 → Nat :=
  let c0_i32_1182 : BitVec 32 := 0#32
  let c0_i32_1183 : BitVec 32 := 0#32
  ![v1351.toNat, 0, 0]

def k0_chk203 (k0_t1 : Fin k0_t1_loop.trips) (v1351 : BitVec 32) : Prop :=
  (∀ (k0_h2 : k0_cond2 k0_t1 = 1#1), ∀ a, (k0_off81 v1351) a + S1x8x32.size a ≤ S125000x8x32.size a)
theorem k0_off81_inb : ∀ (k0_t1 : Fin k0_t1_loop.trips) (v1351 : BitVec 32) (k0_hw203 : k0_chk203 k0_t1 v1351), ∀ (k0_h2 : k0_cond2 k0_t1 = 1#1), ∀ a, (k0_off81 v1351) a + S1x8x32.size a ≤ S125000x8x32.size a := fun k0_t1 v1351 k0_hw203 k0_h2 => k0_hw203 k0_h2

def k0_off82 (v1359 : BitVec 32) : Fin 3 → Nat :=
  let c0_i32_1190 : BitVec 32 := 0#32
  let c0_i32_1191 : BitVec 32 := 0#32
  ![v1359.toNat, 0, 0]

def k0_chk204 (k0_t1 : Fin k0_t1_loop.trips) (v1359 : BitVec 32) : Prop :=
  (∀ (k0_h2 : k0_cond2 k0_t1 = 1#1), ∀ a, (k0_off82 v1359) a + S1x8x32.size a ≤ S125000x8x32.size a)
theorem k0_off82_inb : ∀ (k0_t1 : Fin k0_t1_loop.trips) (v1359 : BitVec 32) (k0_hw204 : k0_chk204 k0_t1 v1359), ∀ (k0_h2 : k0_cond2 k0_t1 = 1#1), ∀ a, (k0_off82 v1359) a + S1x8x32.size a ≤ S125000x8x32.size a := fun k0_t1 v1359 k0_hw204 k0_h2 => k0_hw204 k0_h2

def k0_off83 (v1367 : BitVec 32) : Fin 3 → Nat :=
  let c0_i32_1198 : BitVec 32 := 0#32
  let c0_i32_1199 : BitVec 32 := 0#32
  ![v1367.toNat, 0, 0]

def k0_chk205 (k0_t1 : Fin k0_t1_loop.trips) (v1367 : BitVec 32) : Prop :=
  (∀ (k0_h2 : k0_cond2 k0_t1 = 1#1), ∀ a, (k0_off83 v1367) a + S1x8x32.size a ≤ S125000x8x32.size a)
theorem k0_off83_inb : ∀ (k0_t1 : Fin k0_t1_loop.trips) (v1367 : BitVec 32) (k0_hw205 : k0_chk205 k0_t1 v1367), ∀ (k0_h2 : k0_cond2 k0_t1 = 1#1), ∀ a, (k0_off83 v1367) a + S1x8x32.size a ≤ S125000x8x32.size a := fun k0_t1 v1367 k0_hw205 k0_h2 => k0_hw205 k0_h2

def k0_off84 (v1375 : BitVec 32) : Fin 3 → Nat :=
  let c0_i32_1206 : BitVec 32 := 0#32
  let c0_i32_1207 : BitVec 32 := 0#32
  ![v1375.toNat, 0, 0]

def k0_chk206 (k0_t1 : Fin k0_t1_loop.trips) (v1375 : BitVec 32) : Prop :=
  (∀ (k0_h2 : k0_cond2 k0_t1 = 1#1), ∀ a, (k0_off84 v1375) a + S1x8x32.size a ≤ S125000x8x32.size a)
theorem k0_off84_inb : ∀ (k0_t1 : Fin k0_t1_loop.trips) (v1375 : BitVec 32) (k0_hw206 : k0_chk206 k0_t1 v1375), ∀ (k0_h2 : k0_cond2 k0_t1 = 1#1), ∀ a, (k0_off84 v1375) a + S1x8x32.size a ≤ S125000x8x32.size a := fun k0_t1 v1375 k0_hw206 k0_h2 => k0_hw206 k0_h2

def k0_off85 (v1383 : BitVec 32) : Fin 3 → Nat :=
  let c0_i32_1214 : BitVec 32 := 0#32
  let c0_i32_1215 : BitVec 32 := 0#32
  ![v1383.toNat, 0, 0]

def k0_chk207 (k0_t1 : Fin k0_t1_loop.trips) (v1383 : BitVec 32) : Prop :=
  (∀ (k0_h2 : k0_cond2 k0_t1 = 1#1), ∀ a, (k0_off85 v1383) a + S1x8x32.size a ≤ S125000x8x32.size a)
theorem k0_off85_inb : ∀ (k0_t1 : Fin k0_t1_loop.trips) (v1383 : BitVec 32) (k0_hw207 : k0_chk207 k0_t1 v1383), ∀ (k0_h2 : k0_cond2 k0_t1 = 1#1), ∀ a, (k0_off85 v1383) a + S1x8x32.size a ≤ S125000x8x32.size a := fun k0_t1 v1383 k0_hw207 k0_h2 => k0_hw207 k0_h2

def k0_off86 (v1391 : BitVec 32) : Fin 3 → Nat :=
  let c0_i32_1222 : BitVec 32 := 0#32
  let c0_i32_1223 : BitVec 32 := 0#32
  ![v1391.toNat, 0, 0]

def k0_chk208 (k0_t1 : Fin k0_t1_loop.trips) (v1391 : BitVec 32) : Prop :=
  (∀ (k0_h2 : k0_cond2 k0_t1 = 1#1), ∀ a, (k0_off86 v1391) a + S1x8x32.size a ≤ S125000x8x32.size a)
theorem k0_off86_inb : ∀ (k0_t1 : Fin k0_t1_loop.trips) (v1391 : BitVec 32) (k0_hw208 : k0_chk208 k0_t1 v1391), ∀ (k0_h2 : k0_cond2 k0_t1 = 1#1), ∀ a, (k0_off86 v1391) a + S1x8x32.size a ≤ S125000x8x32.size a := fun k0_t1 v1391 k0_hw208 k0_h2 => k0_hw208 k0_h2

def k0_off87 (k0_t1 : Fin k0_t1_loop.trips) : Fin 1 → Nat :=
  let c0_i32_243 : BitVec 32 := 0#32
  let c1_i32 : BitVec 32 := 1#32
  let arg20 : BitVec 32 := Scf.iv c0_i32_243 c1_i32 k0_t1
  let c2_i32_663 : BitVec 32 := 2#32
  let v775 : BitVec 32 := Scalar.muli arg20 c2_i32_663
  let c1_i32_664 : BitVec 32 := 1#32
  let v776 : BitVec 32 := Scalar.addi v775 c1_i32_664
  let c1_i32_665 : BitVec 32 := 1#32
  let v777 : BitVec 32 := Scalar.addi v776 c1_i32_665
  let c16_i32_1228 : BitVec 32 := 16#32
  let v1398 : BitVec 32 := Scalar.muli v777 c16_i32_1228
  let v1399 : Index := Scalar.indexCast v1398
  ![v1399.toNat]
def k0_off88 (v1404 : BitVec 32) : Fin 3 → Nat :=
  let c0_i32_1232 : BitVec 32 := 0#32
  let c0_i32_1233 : BitVec 32 := 0#32
  ![v1404.toNat, 0, 0]

def k0_chk209 (k0_t1 : Fin k0_t1_loop.trips) (v1404 : BitVec 32) : Prop :=
  (∀ (k0_h2 : k0_cond2 k0_t1 = 1#1), ∀ a, (k0_off88 v1404) a + S1x8x32.size a ≤ S12500x8x32.size a)
theorem k0_off88_inb : ∀ (k0_t1 : Fin k0_t1_loop.trips) (v1404 : BitVec 32) (k0_hw209 : k0_chk209 k0_t1 v1404), ∀ (k0_h2 : k0_cond2 k0_t1 = 1#1), ∀ a, (k0_off88 v1404) a + S1x8x32.size a ≤ S12500x8x32.size a := fun k0_t1 v1404 k0_hw209 k0_h2 => k0_hw209 k0_h2

def k0_off89 (v1412 : BitVec 32) : Fin 3 → Nat :=
  let c0_i32_1240 : BitVec 32 := 0#32
  let c0_i32_1241 : BitVec 32 := 0#32
  ![v1412.toNat, 0, 0]

def k0_chk210 (k0_t1 : Fin k0_t1_loop.trips) (v1412 : BitVec 32) : Prop :=
  (∀ (k0_h2 : k0_cond2 k0_t1 = 1#1), ∀ a, (k0_off89 v1412) a + S1x8x32.size a ≤ S12500x8x32.size a)
theorem k0_off89_inb : ∀ (k0_t1 : Fin k0_t1_loop.trips) (v1412 : BitVec 32) (k0_hw210 : k0_chk210 k0_t1 v1412), ∀ (k0_h2 : k0_cond2 k0_t1 = 1#1), ∀ a, (k0_off89 v1412) a + S1x8x32.size a ≤ S12500x8x32.size a := fun k0_t1 v1412 k0_hw210 k0_h2 => k0_hw210 k0_h2

def k0_off90 (v1420 : BitVec 32) : Fin 3 → Nat :=
  let c0_i32_1248 : BitVec 32 := 0#32
  let c0_i32_1249 : BitVec 32 := 0#32
  ![v1420.toNat, 0, 0]

def k0_chk211 (k0_t1 : Fin k0_t1_loop.trips) (v1420 : BitVec 32) : Prop :=
  (∀ (k0_h2 : k0_cond2 k0_t1 = 1#1), ∀ a, (k0_off90 v1420) a + S1x8x32.size a ≤ S12500x8x32.size a)
theorem k0_off90_inb : ∀ (k0_t1 : Fin k0_t1_loop.trips) (v1420 : BitVec 32) (k0_hw211 : k0_chk211 k0_t1 v1420), ∀ (k0_h2 : k0_cond2 k0_t1 = 1#1), ∀ a, (k0_off90 v1420) a + S1x8x32.size a ≤ S12500x8x32.size a := fun k0_t1 v1420 k0_hw211 k0_h2 => k0_hw211 k0_h2

def k0_off91 (v1428 : BitVec 32) : Fin 3 → Nat :=
  let c0_i32_1256 : BitVec 32 := 0#32
  let c0_i32_1257 : BitVec 32 := 0#32
  ![v1428.toNat, 0, 0]

def k0_chk212 (k0_t1 : Fin k0_t1_loop.trips) (v1428 : BitVec 32) : Prop :=
  (∀ (k0_h2 : k0_cond2 k0_t1 = 1#1), ∀ a, (k0_off91 v1428) a + S1x8x32.size a ≤ S12500x8x32.size a)
theorem k0_off91_inb : ∀ (k0_t1 : Fin k0_t1_loop.trips) (v1428 : BitVec 32) (k0_hw212 : k0_chk212 k0_t1 v1428), ∀ (k0_h2 : k0_cond2 k0_t1 = 1#1), ∀ a, (k0_off91 v1428) a + S1x8x32.size a ≤ S12500x8x32.size a := fun k0_t1 v1428 k0_hw212 k0_h2 => k0_hw212 k0_h2

def k0_off92 (v1436 : BitVec 32) : Fin 3 → Nat :=
  let c0_i32_1264 : BitVec 32 := 0#32
  let c0_i32_1265 : BitVec 32 := 0#32
  ![v1436.toNat, 0, 0]

def k0_chk213 (k0_t1 : Fin k0_t1_loop.trips) (v1436 : BitVec 32) : Prop :=
  (∀ (k0_h2 : k0_cond2 k0_t1 = 1#1), ∀ a, (k0_off92 v1436) a + S1x8x32.size a ≤ S12500x8x32.size a)
theorem k0_off92_inb : ∀ (k0_t1 : Fin k0_t1_loop.trips) (v1436 : BitVec 32) (k0_hw213 : k0_chk213 k0_t1 v1436), ∀ (k0_h2 : k0_cond2 k0_t1 = 1#1), ∀ a, (k0_off92 v1436) a + S1x8x32.size a ≤ S12500x8x32.size a := fun k0_t1 v1436 k0_hw213 k0_h2 => k0_hw213 k0_h2

def k0_off93 (v1444 : BitVec 32) : Fin 3 → Nat :=
  let c0_i32_1272 : BitVec 32 := 0#32
  let c0_i32_1273 : BitVec 32 := 0#32
  ![v1444.toNat, 0, 0]

def k0_chk214 (k0_t1 : Fin k0_t1_loop.trips) (v1444 : BitVec 32) : Prop :=
  (∀ (k0_h2 : k0_cond2 k0_t1 = 1#1), ∀ a, (k0_off93 v1444) a + S1x8x32.size a ≤ S12500x8x32.size a)
theorem k0_off93_inb : ∀ (k0_t1 : Fin k0_t1_loop.trips) (v1444 : BitVec 32) (k0_hw214 : k0_chk214 k0_t1 v1444), ∀ (k0_h2 : k0_cond2 k0_t1 = 1#1), ∀ a, (k0_off93 v1444) a + S1x8x32.size a ≤ S12500x8x32.size a := fun k0_t1 v1444 k0_hw214 k0_h2 => k0_hw214 k0_h2

def k0_off94 (v1452 : BitVec 32) : Fin 3 → Nat :=
  let c0_i32_1280 : BitVec 32 := 0#32
  let c0_i32_1281 : BitVec 32 := 0#32
  ![v1452.toNat, 0, 0]

def k0_chk215 (k0_t1 : Fin k0_t1_loop.trips) (v1452 : BitVec 32) : Prop :=
  (∀ (k0_h2 : k0_cond2 k0_t1 = 1#1), ∀ a, (k0_off94 v1452) a + S1x8x32.size a ≤ S12500x8x32.size a)
theorem k0_off94_inb : ∀ (k0_t1 : Fin k0_t1_loop.trips) (v1452 : BitVec 32) (k0_hw215 : k0_chk215 k0_t1 v1452), ∀ (k0_h2 : k0_cond2 k0_t1 = 1#1), ∀ a, (k0_off94 v1452) a + S1x8x32.size a ≤ S12500x8x32.size a := fun k0_t1 v1452 k0_hw215 k0_h2 => k0_hw215 k0_h2

def k0_off95 (v1460 : BitVec 32) : Fin 3 → Nat :=
  let c0_i32_1288 : BitVec 32 := 0#32
  let c0_i32_1289 : BitVec 32 := 0#32
  ![v1460.toNat, 0, 0]

def k0_chk216 (k0_t1 : Fin k0_t1_loop.trips) (v1460 : BitVec 32) : Prop :=
  (∀ (k0_h2 : k0_cond2 k0_t1 = 1#1), ∀ a, (k0_off95 v1460) a + S1x8x32.size a ≤ S12500x8x32.size a)
theorem k0_off95_inb : ∀ (k0_t1 : Fin k0_t1_loop.trips) (v1460 : BitVec 32) (k0_hw216 : k0_chk216 k0_t1 v1460), ∀ (k0_h2 : k0_cond2 k0_t1 = 1#1), ∀ a, (k0_off95 v1460) a + S1x8x32.size a ≤ S12500x8x32.size a := fun k0_t1 v1460 k0_hw216 k0_h2 => k0_hw216 k0_h2

def k0_off96 (v1468 : BitVec 32) : Fin 3 → Nat :=
  let c0_i32_1296 : BitVec 32 := 0#32
  let c0_i32_1297 : BitVec 32 := 0#32
  ![v1468.toNat, 0, 0]

def k0_chk217 (k0_t1 : Fin k0_t1_loop.trips) (v1468 : BitVec 32) : Prop :=
  (∀ (k0_h2 : k0_cond2 k0_t1 = 1#1), ∀ a, (k0_off96 v1468) a + S1x8x32.size a ≤ S12500x8x32.size a)
theorem k0_off96_inb : ∀ (k0_t1 : Fin k0_t1_loop.trips) (v1468 : BitVec 32) (k0_hw217 : k0_chk217 k0_t1 v1468), ∀ (k0_h2 : k0_cond2 k0_t1 = 1#1), ∀ a, (k0_off96 v1468) a + S1x8x32.size a ≤ S12500x8x32.size a := fun k0_t1 v1468 k0_hw217 k0_h2 => k0_hw217 k0_h2

def k0_off97 (v1476 : BitVec 32) : Fin 3 → Nat :=
  let c0_i32_1304 : BitVec 32 := 0#32
  let c0_i32_1305 : BitVec 32 := 0#32
  ![v1476.toNat, 0, 0]

def k0_chk218 (k0_t1 : Fin k0_t1_loop.trips) (v1476 : BitVec 32) : Prop :=
  (∀ (k0_h2 : k0_cond2 k0_t1 = 1#1), ∀ a, (k0_off97 v1476) a + S1x8x32.size a ≤ S12500x8x32.size a)
theorem k0_off97_inb : ∀ (k0_t1 : Fin k0_t1_loop.trips) (v1476 : BitVec 32) (k0_hw218 : k0_chk218 k0_t1 v1476), ∀ (k0_h2 : k0_cond2 k0_t1 = 1#1), ∀ a, (k0_off97 v1476) a + S1x8x32.size a ≤ S12500x8x32.size a := fun k0_t1 v1476 k0_hw218 k0_h2 => k0_hw218 k0_h2

def k0_off98 (v1484 : BitVec 32) : Fin 3 → Nat :=
  let c0_i32_1312 : BitVec 32 := 0#32
  let c0_i32_1313 : BitVec 32 := 0#32
  ![v1484.toNat, 0, 0]

def k0_chk219 (k0_t1 : Fin k0_t1_loop.trips) (v1484 : BitVec 32) : Prop :=
  (∀ (k0_h2 : k0_cond2 k0_t1 = 1#1), ∀ a, (k0_off98 v1484) a + S1x8x32.size a ≤ S12500x8x32.size a)
theorem k0_off98_inb : ∀ (k0_t1 : Fin k0_t1_loop.trips) (v1484 : BitVec 32) (k0_hw219 : k0_chk219 k0_t1 v1484), ∀ (k0_h2 : k0_cond2 k0_t1 = 1#1), ∀ a, (k0_off98 v1484) a + S1x8x32.size a ≤ S12500x8x32.size a := fun k0_t1 v1484 k0_hw219 k0_h2 => k0_hw219 k0_h2

def k0_off99 (v1492 : BitVec 32) : Fin 3 → Nat :=
  let c0_i32_1320 : BitVec 32 := 0#32
  let c0_i32_1321 : BitVec 32 := 0#32
  ![v1492.toNat, 0, 0]

def k0_chk220 (k0_t1 : Fin k0_t1_loop.trips) (v1492 : BitVec 32) : Prop :=
  (∀ (k0_h2 : k0_cond2 k0_t1 = 1#1), ∀ a, (k0_off99 v1492) a + S1x8x32.size a ≤ S12500x8x32.size a)
theorem k0_off99_inb : ∀ (k0_t1 : Fin k0_t1_loop.trips) (v1492 : BitVec 32) (k0_hw220 : k0_chk220 k0_t1 v1492), ∀ (k0_h2 : k0_cond2 k0_t1 = 1#1), ∀ a, (k0_off99 v1492) a + S1x8x32.size a ≤ S12500x8x32.size a := fun k0_t1 v1492 k0_hw220 k0_h2 => k0_hw220 k0_h2

def k0_off100 (v1500 : BitVec 32) : Fin 3 → Nat :=
  let c0_i32_1328 : BitVec 32 := 0#32
  let c0_i32_1329 : BitVec 32 := 0#32
  ![v1500.toNat, 0, 0]

def k0_chk221 (k0_t1 : Fin k0_t1_loop.trips) (v1500 : BitVec 32) : Prop :=
  (∀ (k0_h2 : k0_cond2 k0_t1 = 1#1), ∀ a, (k0_off100 v1500) a + S1x8x32.size a ≤ S12500x8x32.size a)
theorem k0_off100_inb : ∀ (k0_t1 : Fin k0_t1_loop.trips) (v1500 : BitVec 32) (k0_hw221 : k0_chk221 k0_t1 v1500), ∀ (k0_h2 : k0_cond2 k0_t1 = 1#1), ∀ a, (k0_off100 v1500) a + S1x8x32.size a ≤ S12500x8x32.size a := fun k0_t1 v1500 k0_hw221 k0_h2 => k0_hw221 k0_h2

def k0_off101 (v1508 : BitVec 32) : Fin 3 → Nat :=
  let c0_i32_1336 : BitVec 32 := 0#32
  let c0_i32_1337 : BitVec 32 := 0#32
  ![v1508.toNat, 0, 0]

def k0_chk222 (k0_t1 : Fin k0_t1_loop.trips) (v1508 : BitVec 32) : Prop :=
  (∀ (k0_h2 : k0_cond2 k0_t1 = 1#1), ∀ a, (k0_off101 v1508) a + S1x8x32.size a ≤ S12500x8x32.size a)
theorem k0_off101_inb : ∀ (k0_t1 : Fin k0_t1_loop.trips) (v1508 : BitVec 32) (k0_hw222 : k0_chk222 k0_t1 v1508), ∀ (k0_h2 : k0_cond2 k0_t1 = 1#1), ∀ a, (k0_off101 v1508) a + S1x8x32.size a ≤ S12500x8x32.size a := fun k0_t1 v1508 k0_hw222 k0_h2 => k0_hw222 k0_h2

def k0_off102 (v1516 : BitVec 32) : Fin 3 → Nat :=
  let c0_i32_1344 : BitVec 32 := 0#32
  let c0_i32_1345 : BitVec 32 := 0#32
  ![v1516.toNat, 0, 0]

def k0_chk223 (k0_t1 : Fin k0_t1_loop.trips) (v1516 : BitVec 32) : Prop :=
  (∀ (k0_h2 : k0_cond2 k0_t1 = 1#1), ∀ a, (k0_off102 v1516) a + S1x8x32.size a ≤ S12500x8x32.size a)
theorem k0_off102_inb : ∀ (k0_t1 : Fin k0_t1_loop.trips) (v1516 : BitVec 32) (k0_hw223 : k0_chk223 k0_t1 v1516), ∀ (k0_h2 : k0_cond2 k0_t1 = 1#1), ∀ a, (k0_off102 v1516) a + S1x8x32.size a ≤ S12500x8x32.size a := fun k0_t1 v1516 k0_hw223 k0_h2 => k0_hw223 k0_h2

def k0_off103 (v1524 : BitVec 32) : Fin 3 → Nat :=
  let c0_i32_1352 : BitVec 32 := 0#32
  let c0_i32_1353 : BitVec 32 := 0#32
  ![v1524.toNat, 0, 0]

def k0_chk224 (k0_t1 : Fin k0_t1_loop.trips) (v1524 : BitVec 32) : Prop :=
  (∀ (k0_h2 : k0_cond2 k0_t1 = 1#1), ∀ a, (k0_off103 v1524) a + S1x8x32.size a ≤ S12500x8x32.size a)
theorem k0_off103_inb : ∀ (k0_t1 : Fin k0_t1_loop.trips) (v1524 : BitVec 32) (k0_hw224 : k0_chk224 k0_t1 v1524), ∀ (k0_h2 : k0_cond2 k0_t1 = 1#1), ∀ a, (k0_off103 v1524) a + S1x8x32.size a ≤ S12500x8x32.size a := fun k0_t1 v1524 k0_hw224 k0_h2 => k0_hw224 k0_h2

def k0_off104 (k0_t1 : Fin k0_t1_loop.trips) : Fin 1 → Nat :=
  let c0_i32_243 : BitVec 32 := 0#32
  let c1_i32 : BitVec 32 := 1#32
  let arg20 : BitVec 32 := Scf.iv c0_i32_243 c1_i32 k0_t1
  let c2_i32_663 : BitVec 32 := 2#32
  let v775 : BitVec 32 := Scalar.muli arg20 c2_i32_663
  let c1_i32_664 : BitVec 32 := 1#32
  let v776 : BitVec 32 := Scalar.addi v775 c1_i32_664
  let c16_i32_812 : BitVec 32 := 16#32
  let v878 : BitVec 32 := Scalar.muli v776 c16_i32_812
  let v879 : Index := Scalar.indexCast v878
  ![v879.toNat]

def k0_chk225 (v888 : IVec S16 32) (v895 : IVec S16 32) : Prop :=
  (∀ a x, ((![v888, v895] : Fin 2 → IVec S16 32) a x).toNat < S128x32.size a)
theorem k0_idx129_inb : ∀ (v888 : IVec S16 32) (v895 : IVec S16 32) (k0_hw225 : k0_chk225 v888 v895), ∀ a x, ((![v888, v895] : Fin 2 → IVec S16 32) a x).toNat < S128x32.size a := fun v888 v895 k0_hw225 => k0_hw225

def k0_chk226 (v890 : IVec S16 32) (v898 : IVec S16 32) : Prop :=
  (∀ a x, ((![v890, v898] : Fin 2 → IVec S16 32) a x).toNat < S128x128.size a)
theorem k0_idx130_inb : ∀ (v890 : IVec S16 32) (v898 : IVec S16 32) (k0_hw226 : k0_chk226 v890 v898), ∀ a x, ((![v890, v898] : Fin 2 → IVec S16 32) a x).toNat < S128x128.size a := fun v890 v898 k0_hw226 => k0_hw226

def k0_chk227 (v888 : IVec S16 32) (v899 : IVec S16 32) : Prop :=
  (∀ a x, ((![v888, v899] : Fin 2 → IVec S16 32) a x).toNat < S128x32.size a)
theorem k0_idx131_inb : ∀ (v888 : IVec S16 32) (v899 : IVec S16 32) (k0_hw227 : k0_chk227 v888 v899), ∀ a x, ((![v888, v899] : Fin 2 → IVec S16 32) a x).toNat < S128x32.size a := fun v888 v899 k0_hw227 => k0_hw227

def k0_chk228 (v890 : IVec S16 32) (v902 : IVec S16 32) : Prop :=
  (∀ a x, ((![v890, v902] : Fin 2 → IVec S16 32) a x).toNat < S128x128.size a)
theorem k0_idx132_inb : ∀ (v890 : IVec S16 32) (v902 : IVec S16 32) (k0_hw228 : k0_chk228 v890 v902), ∀ a x, ((![v890, v902] : Fin 2 → IVec S16 32) a x).toNat < S128x128.size a := fun v890 v902 k0_hw228 => k0_hw228

def k0_chk229 (v888 : IVec S16 32) (v903 : IVec S16 32) : Prop :=
  (∀ a x, ((![v888, v903] : Fin 2 → IVec S16 32) a x).toNat < S128x32.size a)
theorem k0_idx133_inb : ∀ (v888 : IVec S16 32) (v903 : IVec S16 32) (k0_hw229 : k0_chk229 v888 v903), ∀ a x, ((![v888, v903] : Fin 2 → IVec S16 32) a x).toNat < S128x32.size a := fun v888 v903 k0_hw229 => k0_hw229

def k0_chk230 (v890 : IVec S16 32) (v906 : IVec S16 32) : Prop :=
  (∀ a x, ((![v890, v906] : Fin 2 → IVec S16 32) a x).toNat < S128x128.size a)
theorem k0_idx134_inb : ∀ (v890 : IVec S16 32) (v906 : IVec S16 32) (k0_hw230 : k0_chk230 v890 v906), ∀ a x, ((![v890, v906] : Fin 2 → IVec S16 32) a x).toNat < S128x128.size a := fun v890 v906 k0_hw230 => k0_hw230

def k0_chk231 (v888 : IVec S16 32) (v907 : IVec S16 32) : Prop :=
  (∀ a x, ((![v888, v907] : Fin 2 → IVec S16 32) a x).toNat < S128x32.size a)
theorem k0_idx135_inb : ∀ (v888 : IVec S16 32) (v907 : IVec S16 32) (k0_hw231 : k0_chk231 v888 v907), ∀ a x, ((![v888, v907] : Fin 2 → IVec S16 32) a x).toNat < S128x32.size a := fun v888 v907 k0_hw231 => k0_hw231

def k0_chk232 (v890 : IVec S16 32) (v910 : IVec S16 32) : Prop :=
  (∀ a x, ((![v890, v910] : Fin 2 → IVec S16 32) a x).toNat < S128x128.size a)
theorem k0_idx136_inb : ∀ (v890 : IVec S16 32) (v910 : IVec S16 32) (k0_hw232 : k0_chk232 v890 v910), ∀ a x, ((![v890, v910] : Fin 2 → IVec S16 32) a x).toNat < S128x128.size a := fun v890 v910 k0_hw232 => k0_hw232

def k0_chk233 (v888 : IVec S16 32) (v911 : IVec S16 32) : Prop :=
  (∀ a x, ((![v888, v911] : Fin 2 → IVec S16 32) a x).toNat < S128x32.size a)
theorem k0_idx137_inb : ∀ (v888 : IVec S16 32) (v911 : IVec S16 32) (k0_hw233 : k0_chk233 v888 v911), ∀ a x, ((![v888, v911] : Fin 2 → IVec S16 32) a x).toNat < S128x32.size a := fun v888 v911 k0_hw233 => k0_hw233

def k0_chk234 (v890 : IVec S16 32) (v914 : IVec S16 32) : Prop :=
  (∀ a x, ((![v890, v914] : Fin 2 → IVec S16 32) a x).toNat < S128x128.size a)
theorem k0_idx138_inb : ∀ (v890 : IVec S16 32) (v914 : IVec S16 32) (k0_hw234 : k0_chk234 v890 v914), ∀ a x, ((![v890, v914] : Fin 2 → IVec S16 32) a x).toNat < S128x128.size a := fun v890 v914 k0_hw234 => k0_hw234

def k0_chk235 (v888 : IVec S16 32) (v915 : IVec S16 32) : Prop :=
  (∀ a x, ((![v888, v915] : Fin 2 → IVec S16 32) a x).toNat < S128x32.size a)
theorem k0_idx139_inb : ∀ (v888 : IVec S16 32) (v915 : IVec S16 32) (k0_hw235 : k0_chk235 v888 v915), ∀ a x, ((![v888, v915] : Fin 2 → IVec S16 32) a x).toNat < S128x32.size a := fun v888 v915 k0_hw235 => k0_hw235

def k0_chk236 (v890 : IVec S16 32) (v918 : IVec S16 32) : Prop :=
  (∀ a x, ((![v890, v918] : Fin 2 → IVec S16 32) a x).toNat < S128x128.size a)
theorem k0_idx140_inb : ∀ (v890 : IVec S16 32) (v918 : IVec S16 32) (k0_hw236 : k0_chk236 v890 v918), ∀ a x, ((![v890, v918] : Fin 2 → IVec S16 32) a x).toNat < S128x128.size a := fun v890 v918 k0_hw236 => k0_hw236

def k0_chk237 (v888 : IVec S16 32) (v919 : IVec S16 32) : Prop :=
  (∀ a x, ((![v888, v919] : Fin 2 → IVec S16 32) a x).toNat < S128x32.size a)
theorem k0_idx141_inb : ∀ (v888 : IVec S16 32) (v919 : IVec S16 32) (k0_hw237 : k0_chk237 v888 v919), ∀ a x, ((![v888, v919] : Fin 2 → IVec S16 32) a x).toNat < S128x32.size a := fun v888 v919 k0_hw237 => k0_hw237

def k0_chk238 (v890 : IVec S16 32) (v922 : IVec S16 32) : Prop :=
  (∀ a x, ((![v890, v922] : Fin 2 → IVec S16 32) a x).toNat < S128x128.size a)
theorem k0_idx142_inb : ∀ (v890 : IVec S16 32) (v922 : IVec S16 32) (k0_hw238 : k0_chk238 v890 v922), ∀ a x, ((![v890, v922] : Fin 2 → IVec S16 32) a x).toNat < S128x128.size a := fun v890 v922 k0_hw238 => k0_hw238

def k0_chk239 (v888 : IVec S16 32) (v923 : IVec S16 32) : Prop :=
  (∀ a x, ((![v888, v923] : Fin 2 → IVec S16 32) a x).toNat < S128x32.size a)
theorem k0_idx143_inb : ∀ (v888 : IVec S16 32) (v923 : IVec S16 32) (k0_hw239 : k0_chk239 v888 v923), ∀ a x, ((![v888, v923] : Fin 2 → IVec S16 32) a x).toNat < S128x32.size a := fun v888 v923 k0_hw239 => k0_hw239

def k0_chk240 (v890 : IVec S16 32) (v926 : IVec S16 32) : Prop :=
  (∀ a x, ((![v890, v926] : Fin 2 → IVec S16 32) a x).toNat < S128x128.size a)
theorem k0_idx144_inb : ∀ (v890 : IVec S16 32) (v926 : IVec S16 32) (k0_hw240 : k0_chk240 v890 v926), ∀ a x, ((![v890, v926] : Fin 2 → IVec S16 32) a x).toNat < S128x128.size a := fun v890 v926 k0_hw240 => k0_hw240

def k0_chk241 (v888 : IVec S16 32) (v927 : IVec S16 32) : Prop :=
  (∀ a x, ((![v888, v927] : Fin 2 → IVec S16 32) a x).toNat < S128x32.size a)
theorem k0_idx145_inb : ∀ (v888 : IVec S16 32) (v927 : IVec S16 32) (k0_hw241 : k0_chk241 v888 v927), ∀ a x, ((![v888, v927] : Fin 2 → IVec S16 32) a x).toNat < S128x32.size a := fun v888 v927 k0_hw241 => k0_hw241

def k0_chk242 (v890 : IVec S16 32) (v930 : IVec S16 32) : Prop :=
  (∀ a x, ((![v890, v930] : Fin 2 → IVec S16 32) a x).toNat < S128x128.size a)
theorem k0_idx146_inb : ∀ (v890 : IVec S16 32) (v930 : IVec S16 32) (k0_hw242 : k0_chk242 v890 v930), ∀ a x, ((![v890, v930] : Fin 2 → IVec S16 32) a x).toNat < S128x128.size a := fun v890 v930 k0_hw242 => k0_hw242

def k0_chk243 (v888 : IVec S16 32) (v931 : IVec S16 32) : Prop :=
  (∀ a x, ((![v888, v931] : Fin 2 → IVec S16 32) a x).toNat < S128x32.size a)
theorem k0_idx147_inb : ∀ (v888 : IVec S16 32) (v931 : IVec S16 32) (k0_hw243 : k0_chk243 v888 v931), ∀ a x, ((![v888, v931] : Fin 2 → IVec S16 32) a x).toNat < S128x32.size a := fun v888 v931 k0_hw243 => k0_hw243

def k0_chk244 (v890 : IVec S16 32) (v934 : IVec S16 32) : Prop :=
  (∀ a x, ((![v890, v934] : Fin 2 → IVec S16 32) a x).toNat < S128x128.size a)
theorem k0_idx148_inb : ∀ (v890 : IVec S16 32) (v934 : IVec S16 32) (k0_hw244 : k0_chk244 v890 v934), ∀ a x, ((![v890, v934] : Fin 2 → IVec S16 32) a x).toNat < S128x128.size a := fun v890 v934 k0_hw244 => k0_hw244

def k0_chk245 (v888 : IVec S16 32) (v935 : IVec S16 32) : Prop :=
  (∀ a x, ((![v888, v935] : Fin 2 → IVec S16 32) a x).toNat < S128x32.size a)
theorem k0_idx149_inb : ∀ (v888 : IVec S16 32) (v935 : IVec S16 32) (k0_hw245 : k0_chk245 v888 v935), ∀ a x, ((![v888, v935] : Fin 2 → IVec S16 32) a x).toNat < S128x32.size a := fun v888 v935 k0_hw245 => k0_hw245

def k0_chk246 (v890 : IVec S16 32) (v938 : IVec S16 32) : Prop :=
  (∀ a x, ((![v890, v938] : Fin 2 → IVec S16 32) a x).toNat < S128x128.size a)
theorem k0_idx150_inb : ∀ (v890 : IVec S16 32) (v938 : IVec S16 32) (k0_hw246 : k0_chk246 v890 v938), ∀ a x, ((![v890, v938] : Fin 2 → IVec S16 32) a x).toNat < S128x128.size a := fun v890 v938 k0_hw246 => k0_hw246

def k0_chk247 (v888 : IVec S16 32) (v939 : IVec S16 32) : Prop :=
  (∀ a x, ((![v888, v939] : Fin 2 → IVec S16 32) a x).toNat < S128x32.size a)
theorem k0_idx151_inb : ∀ (v888 : IVec S16 32) (v939 : IVec S16 32) (k0_hw247 : k0_chk247 v888 v939), ∀ a x, ((![v888, v939] : Fin 2 → IVec S16 32) a x).toNat < S128x32.size a := fun v888 v939 k0_hw247 => k0_hw247

def k0_chk248 (v890 : IVec S16 32) (v942 : IVec S16 32) : Prop :=
  (∀ a x, ((![v890, v942] : Fin 2 → IVec S16 32) a x).toNat < S128x128.size a)
theorem k0_idx152_inb : ∀ (v890 : IVec S16 32) (v942 : IVec S16 32) (k0_hw248 : k0_chk248 v890 v942), ∀ a x, ((![v890, v942] : Fin 2 → IVec S16 32) a x).toNat < S128x128.size a := fun v890 v942 k0_hw248 => k0_hw248

def k0_chk249 (v888 : IVec S16 32) (v943 : IVec S16 32) : Prop :=
  (∀ a x, ((![v888, v943] : Fin 2 → IVec S16 32) a x).toNat < S128x32.size a)
theorem k0_idx153_inb : ∀ (v888 : IVec S16 32) (v943 : IVec S16 32) (k0_hw249 : k0_chk249 v888 v943), ∀ a x, ((![v888, v943] : Fin 2 → IVec S16 32) a x).toNat < S128x32.size a := fun v888 v943 k0_hw249 => k0_hw249

def k0_chk250 (v890 : IVec S16 32) (v946 : IVec S16 32) : Prop :=
  (∀ a x, ((![v890, v946] : Fin 2 → IVec S16 32) a x).toNat < S128x128.size a)
theorem k0_idx154_inb : ∀ (v890 : IVec S16 32) (v946 : IVec S16 32) (k0_hw250 : k0_chk250 v890 v946), ∀ a x, ((![v890, v946] : Fin 2 → IVec S16 32) a x).toNat < S128x128.size a := fun v890 v946 k0_hw250 => k0_hw250

def k0_chk251 (v888 : IVec S16 32) (v947 : IVec S16 32) : Prop :=
  (∀ a x, ((![v888, v947] : Fin 2 → IVec S16 32) a x).toNat < S128x32.size a)
theorem k0_idx155_inb : ∀ (v888 : IVec S16 32) (v947 : IVec S16 32) (k0_hw251 : k0_chk251 v888 v947), ∀ a x, ((![v888, v947] : Fin 2 → IVec S16 32) a x).toNat < S128x32.size a := fun v888 v947 k0_hw251 => k0_hw251

def k0_chk252 (v890 : IVec S16 32) (v950 : IVec S16 32) : Prop :=
  (∀ a x, ((![v890, v950] : Fin 2 → IVec S16 32) a x).toNat < S128x128.size a)
theorem k0_idx156_inb : ∀ (v890 : IVec S16 32) (v950 : IVec S16 32) (k0_hw252 : k0_chk252 v890 v950), ∀ a x, ((![v890, v950] : Fin 2 → IVec S16 32) a x).toNat < S128x128.size a := fun v890 v950 k0_hw252 => k0_hw252

def k0_chk253 (v888 : IVec S16 32) (v951 : IVec S16 32) : Prop :=
  (∀ a x, ((![v888, v951] : Fin 2 → IVec S16 32) a x).toNat < S128x32.size a)
theorem k0_idx157_inb : ∀ (v888 : IVec S16 32) (v951 : IVec S16 32) (k0_hw253 : k0_chk253 v888 v951), ∀ a x, ((![v888, v951] : Fin 2 → IVec S16 32) a x).toNat < S128x32.size a := fun v888 v951 k0_hw253 => k0_hw253

def k0_chk254 (v890 : IVec S16 32) (v954 : IVec S16 32) : Prop :=
  (∀ a x, ((![v890, v954] : Fin 2 → IVec S16 32) a x).toNat < S128x128.size a)
theorem k0_idx158_inb : ∀ (v890 : IVec S16 32) (v954 : IVec S16 32) (k0_hw254 : k0_chk254 v890 v954), ∀ a x, ((![v890, v954] : Fin 2 → IVec S16 32) a x).toNat < S128x128.size a := fun v890 v954 k0_hw254 => k0_hw254

def k0_chk255 (v888 : IVec S16 32) (v955 : IVec S16 32) : Prop :=
  (∀ a x, ((![v888, v955] : Fin 2 → IVec S16 32) a x).toNat < S128x32.size a)
theorem k0_idx159_inb : ∀ (v888 : IVec S16 32) (v955 : IVec S16 32) (k0_hw255 : k0_chk255 v888 v955), ∀ a x, ((![v888, v955] : Fin 2 → IVec S16 32) a x).toNat < S128x32.size a := fun v888 v955 k0_hw255 => k0_hw255

def k0_chk256 (v890 : IVec S16 32) (v958 : IVec S16 32) : Prop :=
  (∀ a x, ((![v890, v958] : Fin 2 → IVec S16 32) a x).toNat < S128x128.size a)
theorem k0_idx160_inb : ∀ (v890 : IVec S16 32) (v958 : IVec S16 32) (k0_hw256 : k0_chk256 v890 v958), ∀ a x, ((![v890, v958] : Fin 2 → IVec S16 32) a x).toNat < S128x128.size a := fun v890 v958 k0_hw256 => k0_hw256

def k0_chk257 (v888 : IVec S16 32) (v959 : IVec S16 32) : Prop :=
  (∀ a x, ((![v888, v959] : Fin 2 → IVec S16 32) a x).toNat < S128x32.size a)
theorem k0_idx161_inb : ∀ (v888 : IVec S16 32) (v959 : IVec S16 32) (k0_hw257 : k0_chk257 v888 v959), ∀ a x, ((![v888, v959] : Fin 2 → IVec S16 32) a x).toNat < S128x32.size a := fun v888 v959 k0_hw257 => k0_hw257

def k0_chk258 (v890 : IVec S16 32) (v962 : IVec S16 32) : Prop :=
  (∀ a x, ((![v890, v962] : Fin 2 → IVec S16 32) a x).toNat < S128x128.size a)
theorem k0_idx162_inb : ∀ (v890 : IVec S16 32) (v962 : IVec S16 32) (k0_hw258 : k0_chk258 v890 v962), ∀ a x, ((![v890, v962] : Fin 2 → IVec S16 32) a x).toNat < S128x128.size a := fun v890 v962 k0_hw258 => k0_hw258

def k0_chk259 (v888 : IVec S16 32) (v963 : IVec S16 32) : Prop :=
  (∀ a x, ((![v888, v963] : Fin 2 → IVec S16 32) a x).toNat < S128x32.size a)
theorem k0_idx163_inb : ∀ (v888 : IVec S16 32) (v963 : IVec S16 32) (k0_hw259 : k0_chk259 v888 v963), ∀ a x, ((![v888, v963] : Fin 2 → IVec S16 32) a x).toNat < S128x32.size a := fun v888 v963 k0_hw259 => k0_hw259

def k0_chk260 (v890 : IVec S16 32) (v966 : IVec S16 32) : Prop :=
  (∀ a x, ((![v890, v966] : Fin 2 → IVec S16 32) a x).toNat < S128x128.size a)
theorem k0_idx164_inb : ∀ (v890 : IVec S16 32) (v966 : IVec S16 32) (k0_hw260 : k0_chk260 v890 v966), ∀ a x, ((![v890, v966] : Fin 2 → IVec S16 32) a x).toNat < S128x128.size a := fun v890 v966 k0_hw260 => k0_hw260

def k0_chk261 (v888 : IVec S16 32) (v967 : IVec S16 32) : Prop :=
  (∀ a x, ((![v888, v967] : Fin 2 → IVec S16 32) a x).toNat < S128x32.size a)
theorem k0_idx165_inb : ∀ (v888 : IVec S16 32) (v967 : IVec S16 32) (k0_hw261 : k0_chk261 v888 v967), ∀ a x, ((![v888, v967] : Fin 2 → IVec S16 32) a x).toNat < S128x32.size a := fun v888 v967 k0_hw261 => k0_hw261

def k0_chk262 (v890 : IVec S16 32) (v970 : IVec S16 32) : Prop :=
  (∀ a x, ((![v890, v970] : Fin 2 → IVec S16 32) a x).toNat < S128x128.size a)
theorem k0_idx166_inb : ∀ (v890 : IVec S16 32) (v970 : IVec S16 32) (k0_hw262 : k0_chk262 v890 v970), ∀ a x, ((![v890, v970] : Fin 2 → IVec S16 32) a x).toNat < S128x128.size a := fun v890 v970 k0_hw262 => k0_hw262

def k0_chk263 (v888 : IVec S16 32) (v971 : IVec S16 32) : Prop :=
  (∀ a x, ((![v888, v971] : Fin 2 → IVec S16 32) a x).toNat < S128x32.size a)
theorem k0_idx167_inb : ∀ (v888 : IVec S16 32) (v971 : IVec S16 32) (k0_hw263 : k0_chk263 v888 v971), ∀ a x, ((![v888, v971] : Fin 2 → IVec S16 32) a x).toNat < S128x32.size a := fun v888 v971 k0_hw263 => k0_hw263

def k0_chk264 (v890 : IVec S16 32) (v974 : IVec S16 32) : Prop :=
  (∀ a x, ((![v890, v974] : Fin 2 → IVec S16 32) a x).toNat < S128x128.size a)
theorem k0_idx168_inb : ∀ (v890 : IVec S16 32) (v974 : IVec S16 32) (k0_hw264 : k0_chk264 v890 v974), ∀ a x, ((![v890, v974] : Fin 2 → IVec S16 32) a x).toNat < S128x128.size a := fun v890 v974 k0_hw264 => k0_hw264

def k0_chk265 (v888 : IVec S16 32) (v975 : IVec S16 32) : Prop :=
  (∀ a x, ((![v888, v975] : Fin 2 → IVec S16 32) a x).toNat < S128x32.size a)
theorem k0_idx169_inb : ∀ (v888 : IVec S16 32) (v975 : IVec S16 32) (k0_hw265 : k0_chk265 v888 v975), ∀ a x, ((![v888, v975] : Fin 2 → IVec S16 32) a x).toNat < S128x32.size a := fun v888 v975 k0_hw265 => k0_hw265

def k0_chk266 (v890 : IVec S16 32) (v978 : IVec S16 32) : Prop :=
  (∀ a x, ((![v890, v978] : Fin 2 → IVec S16 32) a x).toNat < S128x128.size a)
theorem k0_idx170_inb : ∀ (v890 : IVec S16 32) (v978 : IVec S16 32) (k0_hw266 : k0_chk266 v890 v978), ∀ a x, ((![v890, v978] : Fin 2 → IVec S16 32) a x).toNat < S128x128.size a := fun v890 v978 k0_hw266 => k0_hw266

def k0_chk267 (v888 : IVec S16 32) (v979 : IVec S16 32) : Prop :=
  (∀ a x, ((![v888, v979] : Fin 2 → IVec S16 32) a x).toNat < S128x32.size a)
theorem k0_idx171_inb : ∀ (v888 : IVec S16 32) (v979 : IVec S16 32) (k0_hw267 : k0_chk267 v888 v979), ∀ a x, ((![v888, v979] : Fin 2 → IVec S16 32) a x).toNat < S128x32.size a := fun v888 v979 k0_hw267 => k0_hw267

def k0_chk268 (v890 : IVec S16 32) (v982 : IVec S16 32) : Prop :=
  (∀ a x, ((![v890, v982] : Fin 2 → IVec S16 32) a x).toNat < S128x128.size a)
theorem k0_idx172_inb : ∀ (v890 : IVec S16 32) (v982 : IVec S16 32) (k0_hw268 : k0_chk268 v890 v982), ∀ a x, ((![v890, v982] : Fin 2 → IVec S16 32) a x).toNat < S128x128.size a := fun v890 v982 k0_hw268 => k0_hw268

def k0_chk269 (v888 : IVec S16 32) (v983 : IVec S16 32) : Prop :=
  (∀ a x, ((![v888, v983] : Fin 2 → IVec S16 32) a x).toNat < S128x32.size a)
theorem k0_idx173_inb : ∀ (v888 : IVec S16 32) (v983 : IVec S16 32) (k0_hw269 : k0_chk269 v888 v983), ∀ a x, ((![v888, v983] : Fin 2 → IVec S16 32) a x).toNat < S128x32.size a := fun v888 v983 k0_hw269 => k0_hw269

def k0_chk270 (v890 : IVec S16 32) (v986 : IVec S16 32) : Prop :=
  (∀ a x, ((![v890, v986] : Fin 2 → IVec S16 32) a x).toNat < S128x128.size a)
theorem k0_idx174_inb : ∀ (v890 : IVec S16 32) (v986 : IVec S16 32) (k0_hw270 : k0_chk270 v890 v986), ∀ a x, ((![v890, v986] : Fin 2 → IVec S16 32) a x).toNat < S128x128.size a := fun v890 v986 k0_hw270 => k0_hw270

def k0_chk271 (v888 : IVec S16 32) (v987 : IVec S16 32) : Prop :=
  (∀ a x, ((![v888, v987] : Fin 2 → IVec S16 32) a x).toNat < S128x32.size a)
theorem k0_idx175_inb : ∀ (v888 : IVec S16 32) (v987 : IVec S16 32) (k0_hw271 : k0_chk271 v888 v987), ∀ a x, ((![v888, v987] : Fin 2 → IVec S16 32) a x).toNat < S128x32.size a := fun v888 v987 k0_hw271 => k0_hw271

def k0_chk272 (v890 : IVec S16 32) (v990 : IVec S16 32) : Prop :=
  (∀ a x, ((![v890, v990] : Fin 2 → IVec S16 32) a x).toNat < S128x128.size a)
theorem k0_idx176_inb : ∀ (v890 : IVec S16 32) (v990 : IVec S16 32) (k0_hw272 : k0_chk272 v890 v990), ∀ a x, ((![v890, v990] : Fin 2 → IVec S16 32) a x).toNat < S128x128.size a := fun v890 v990 k0_hw272 => k0_hw272

def k0_chk273 (v888 : IVec S16 32) (v991 : IVec S16 32) : Prop :=
  (∀ a x, ((![v888, v991] : Fin 2 → IVec S16 32) a x).toNat < S128x32.size a)
theorem k0_idx177_inb : ∀ (v888 : IVec S16 32) (v991 : IVec S16 32) (k0_hw273 : k0_chk273 v888 v991), ∀ a x, ((![v888, v991] : Fin 2 → IVec S16 32) a x).toNat < S128x32.size a := fun v888 v991 k0_hw273 => k0_hw273

def k0_chk274 (v890 : IVec S16 32) (v994 : IVec S16 32) : Prop :=
  (∀ a x, ((![v890, v994] : Fin 2 → IVec S16 32) a x).toNat < S128x128.size a)
theorem k0_idx178_inb : ∀ (v890 : IVec S16 32) (v994 : IVec S16 32) (k0_hw274 : k0_chk274 v890 v994), ∀ a x, ((![v890, v994] : Fin 2 → IVec S16 32) a x).toNat < S128x128.size a := fun v890 v994 k0_hw274 => k0_hw274

def k0_chk275 (v888 : IVec S16 32) (v995 : IVec S16 32) : Prop :=
  (∀ a x, ((![v888, v995] : Fin 2 → IVec S16 32) a x).toNat < S128x32.size a)
theorem k0_idx179_inb : ∀ (v888 : IVec S16 32) (v995 : IVec S16 32) (k0_hw275 : k0_chk275 v888 v995), ∀ a x, ((![v888, v995] : Fin 2 → IVec S16 32) a x).toNat < S128x32.size a := fun v888 v995 k0_hw275 => k0_hw275

def k0_chk276 (v890 : IVec S16 32) (v998 : IVec S16 32) : Prop :=
  (∀ a x, ((![v890, v998] : Fin 2 → IVec S16 32) a x).toNat < S128x128.size a)
theorem k0_idx180_inb : ∀ (v890 : IVec S16 32) (v998 : IVec S16 32) (k0_hw276 : k0_chk276 v890 v998), ∀ a x, ((![v890, v998] : Fin 2 → IVec S16 32) a x).toNat < S128x128.size a := fun v890 v998 k0_hw276 => k0_hw276

def k0_chk277 (v888 : IVec S16 32) (v999 : IVec S16 32) : Prop :=
  (∀ a x, ((![v888, v999] : Fin 2 → IVec S16 32) a x).toNat < S128x32.size a)
theorem k0_idx181_inb : ∀ (v888 : IVec S16 32) (v999 : IVec S16 32) (k0_hw277 : k0_chk277 v888 v999), ∀ a x, ((![v888, v999] : Fin 2 → IVec S16 32) a x).toNat < S128x32.size a := fun v888 v999 k0_hw277 => k0_hw277

def k0_chk278 (v890 : IVec S16 32) (v1002 : IVec S16 32) : Prop :=
  (∀ a x, ((![v890, v1002] : Fin 2 → IVec S16 32) a x).toNat < S128x128.size a)
theorem k0_idx182_inb : ∀ (v890 : IVec S16 32) (v1002 : IVec S16 32) (k0_hw278 : k0_chk278 v890 v1002), ∀ a x, ((![v890, v1002] : Fin 2 → IVec S16 32) a x).toNat < S128x128.size a := fun v890 v1002 k0_hw278 => k0_hw278

def k0_chk279 (v888 : IVec S16 32) (v1003 : IVec S16 32) : Prop :=
  (∀ a x, ((![v888, v1003] : Fin 2 → IVec S16 32) a x).toNat < S128x32.size a)
theorem k0_idx183_inb : ∀ (v888 : IVec S16 32) (v1003 : IVec S16 32) (k0_hw279 : k0_chk279 v888 v1003), ∀ a x, ((![v888, v1003] : Fin 2 → IVec S16 32) a x).toNat < S128x32.size a := fun v888 v1003 k0_hw279 => k0_hw279

def k0_chk280 (v890 : IVec S16 32) (v1006 : IVec S16 32) : Prop :=
  (∀ a x, ((![v890, v1006] : Fin 2 → IVec S16 32) a x).toNat < S128x128.size a)
theorem k0_idx184_inb : ∀ (v890 : IVec S16 32) (v1006 : IVec S16 32) (k0_hw280 : k0_chk280 v890 v1006), ∀ a x, ((![v890, v1006] : Fin 2 → IVec S16 32) a x).toNat < S128x128.size a := fun v890 v1006 k0_hw280 => k0_hw280

def k0_chk281 (v888 : IVec S16 32) (v1007 : IVec S16 32) : Prop :=
  (∀ a x, ((![v888, v1007] : Fin 2 → IVec S16 32) a x).toNat < S128x32.size a)
theorem k0_idx185_inb : ∀ (v888 : IVec S16 32) (v1007 : IVec S16 32) (k0_hw281 : k0_chk281 v888 v1007), ∀ a x, ((![v888, v1007] : Fin 2 → IVec S16 32) a x).toNat < S128x32.size a := fun v888 v1007 k0_hw281 => k0_hw281

def k0_chk282 (v890 : IVec S16 32) (v1010 : IVec S16 32) : Prop :=
  (∀ a x, ((![v890, v1010] : Fin 2 → IVec S16 32) a x).toNat < S128x128.size a)
theorem k0_idx186_inb : ∀ (v890 : IVec S16 32) (v1010 : IVec S16 32) (k0_hw282 : k0_chk282 v890 v1010), ∀ a x, ((![v890, v1010] : Fin 2 → IVec S16 32) a x).toNat < S128x128.size a := fun v890 v1010 k0_hw282 => k0_hw282

def k0_chk283 (v888 : IVec S16 32) (v1011 : IVec S16 32) : Prop :=
  (∀ a x, ((![v888, v1011] : Fin 2 → IVec S16 32) a x).toNat < S128x32.size a)
theorem k0_idx187_inb : ∀ (v888 : IVec S16 32) (v1011 : IVec S16 32) (k0_hw283 : k0_chk283 v888 v1011), ∀ a x, ((![v888, v1011] : Fin 2 → IVec S16 32) a x).toNat < S128x32.size a := fun v888 v1011 k0_hw283 => k0_hw283

def k0_chk284 (v890 : IVec S16 32) (v1014 : IVec S16 32) : Prop :=
  (∀ a x, ((![v890, v1014] : Fin 2 → IVec S16 32) a x).toNat < S128x128.size a)
theorem k0_idx188_inb : ∀ (v890 : IVec S16 32) (v1014 : IVec S16 32) (k0_hw284 : k0_chk284 v890 v1014), ∀ a x, ((![v890, v1014] : Fin 2 → IVec S16 32) a x).toNat < S128x128.size a := fun v890 v1014 k0_hw284 => k0_hw284

def k0_chk285 (v888 : IVec S16 32) (v1015 : IVec S16 32) : Prop :=
  (∀ a x, ((![v888, v1015] : Fin 2 → IVec S16 32) a x).toNat < S128x32.size a)
theorem k0_idx189_inb : ∀ (v888 : IVec S16 32) (v1015 : IVec S16 32) (k0_hw285 : k0_chk285 v888 v1015), ∀ a x, ((![v888, v1015] : Fin 2 → IVec S16 32) a x).toNat < S128x32.size a := fun v888 v1015 k0_hw285 => k0_hw285

def k0_chk286 (v890 : IVec S16 32) (v1018 : IVec S16 32) : Prop :=
  (∀ a x, ((![v890, v1018] : Fin 2 → IVec S16 32) a x).toNat < S128x128.size a)
theorem k0_idx190_inb : ∀ (v890 : IVec S16 32) (v1018 : IVec S16 32) (k0_hw286 : k0_chk286 v890 v1018), ∀ a x, ((![v890, v1018] : Fin 2 → IVec S16 32) a x).toNat < S128x128.size a := fun v890 v1018 k0_hw286 => k0_hw286

def k0_chk287 (v888 : IVec S16 32) (v1019 : IVec S16 32) : Prop :=
  (∀ a x, ((![v888, v1019] : Fin 2 → IVec S16 32) a x).toNat < S128x32.size a)
theorem k0_idx191_inb : ∀ (v888 : IVec S16 32) (v1019 : IVec S16 32) (k0_hw287 : k0_chk287 v888 v1019), ∀ a x, ((![v888, v1019] : Fin 2 → IVec S16 32) a x).toNat < S128x32.size a := fun v888 v1019 k0_hw287 => k0_hw287

def k0_chk288 (v890 : IVec S16 32) (v1022 : IVec S16 32) : Prop :=
  (∀ a x, ((![v890, v1022] : Fin 2 → IVec S16 32) a x).toNat < S128x128.size a)
theorem k0_idx192_inb : ∀ (v890 : IVec S16 32) (v1022 : IVec S16 32) (k0_hw288 : k0_chk288 v890 v1022), ∀ a x, ((![v890, v1022] : Fin 2 → IVec S16 32) a x).toNat < S128x128.size a := fun v890 v1022 k0_hw288 => k0_hw288
def k0_off105 (k0_t1 : Fin k0_t1_loop.trips) : Fin 1 → Nat :=
  let c0_i32_243 : BitVec 32 := 0#32
  let c1_i32 : BitVec 32 := 1#32
  let arg20 : BitVec 32 := Scf.iv c0_i32_243 c1_i32 k0_t1
  let c2_i32_663 : BitVec 32 := 2#32
  let v775 : BitVec 32 := Scalar.muli arg20 c2_i32_663
  let c1_i32_664 : BitVec 32 := 1#32
  let v776 : BitVec 32 := Scalar.addi v775 c1_i32_664
  let c16_i32_1027 : BitVec 32 := 16#32
  let v1120 : BitVec 32 := Scalar.muli v776 c16_i32_1027
  let v1121 : Index := Scalar.indexCast v1120
  ![v1121.toNat]

def k0_chk289 (v1130 : IVec S16 32) (v1137 : IVec S16 32) : Prop :=
  (∀ a x, ((![v1130, v1137] : Fin 2 → IVec S16 32) a x).toNat < S128x32.size a)
theorem k0_idx193_inb : ∀ (v1130 : IVec S16 32) (v1137 : IVec S16 32) (k0_hw289 : k0_chk289 v1130 v1137), ∀ a x, ((![v1130, v1137] : Fin 2 → IVec S16 32) a x).toNat < S128x32.size a := fun v1130 v1137 k0_hw289 => k0_hw289

def k0_chk290 (v1132 : IVec S16 32) (v1140 : IVec S16 32) : Prop :=
  (∀ a x, ((![v1132, v1140] : Fin 2 → IVec S16 32) a x).toNat < S128x128.size a)
theorem k0_idx194_inb : ∀ (v1132 : IVec S16 32) (v1140 : IVec S16 32) (k0_hw290 : k0_chk290 v1132 v1140), ∀ a x, ((![v1132, v1140] : Fin 2 → IVec S16 32) a x).toNat < S128x128.size a := fun v1132 v1140 k0_hw290 => k0_hw290

def k0_chk291 (v1130 : IVec S16 32) (v1141 : IVec S16 32) : Prop :=
  (∀ a x, ((![v1130, v1141] : Fin 2 → IVec S16 32) a x).toNat < S128x32.size a)
theorem k0_idx195_inb : ∀ (v1130 : IVec S16 32) (v1141 : IVec S16 32) (k0_hw291 : k0_chk291 v1130 v1141), ∀ a x, ((![v1130, v1141] : Fin 2 → IVec S16 32) a x).toNat < S128x32.size a := fun v1130 v1141 k0_hw291 => k0_hw291

def k0_chk292 (v1132 : IVec S16 32) (v1144 : IVec S16 32) : Prop :=
  (∀ a x, ((![v1132, v1144] : Fin 2 → IVec S16 32) a x).toNat < S128x128.size a)
theorem k0_idx196_inb : ∀ (v1132 : IVec S16 32) (v1144 : IVec S16 32) (k0_hw292 : k0_chk292 v1132 v1144), ∀ a x, ((![v1132, v1144] : Fin 2 → IVec S16 32) a x).toNat < S128x128.size a := fun v1132 v1144 k0_hw292 => k0_hw292

def k0_chk293 (v1130 : IVec S16 32) (v1145 : IVec S16 32) : Prop :=
  (∀ a x, ((![v1130, v1145] : Fin 2 → IVec S16 32) a x).toNat < S128x32.size a)
theorem k0_idx197_inb : ∀ (v1130 : IVec S16 32) (v1145 : IVec S16 32) (k0_hw293 : k0_chk293 v1130 v1145), ∀ a x, ((![v1130, v1145] : Fin 2 → IVec S16 32) a x).toNat < S128x32.size a := fun v1130 v1145 k0_hw293 => k0_hw293

def k0_chk294 (v1132 : IVec S16 32) (v1148 : IVec S16 32) : Prop :=
  (∀ a x, ((![v1132, v1148] : Fin 2 → IVec S16 32) a x).toNat < S128x128.size a)
theorem k0_idx198_inb : ∀ (v1132 : IVec S16 32) (v1148 : IVec S16 32) (k0_hw294 : k0_chk294 v1132 v1148), ∀ a x, ((![v1132, v1148] : Fin 2 → IVec S16 32) a x).toNat < S128x128.size a := fun v1132 v1148 k0_hw294 => k0_hw294

def k0_chk295 (v1130 : IVec S16 32) (v1149 : IVec S16 32) : Prop :=
  (∀ a x, ((![v1130, v1149] : Fin 2 → IVec S16 32) a x).toNat < S128x32.size a)
theorem k0_idx199_inb : ∀ (v1130 : IVec S16 32) (v1149 : IVec S16 32) (k0_hw295 : k0_chk295 v1130 v1149), ∀ a x, ((![v1130, v1149] : Fin 2 → IVec S16 32) a x).toNat < S128x32.size a := fun v1130 v1149 k0_hw295 => k0_hw295

def k0_chk296 (v1132 : IVec S16 32) (v1152 : IVec S16 32) : Prop :=
  (∀ a x, ((![v1132, v1152] : Fin 2 → IVec S16 32) a x).toNat < S128x128.size a)
theorem k0_idx200_inb : ∀ (v1132 : IVec S16 32) (v1152 : IVec S16 32) (k0_hw296 : k0_chk296 v1132 v1152), ∀ a x, ((![v1132, v1152] : Fin 2 → IVec S16 32) a x).toNat < S128x128.size a := fun v1132 v1152 k0_hw296 => k0_hw296

def k0_chk297 (v1130 : IVec S16 32) (v1153 : IVec S16 32) : Prop :=
  (∀ a x, ((![v1130, v1153] : Fin 2 → IVec S16 32) a x).toNat < S128x32.size a)
theorem k0_idx201_inb : ∀ (v1130 : IVec S16 32) (v1153 : IVec S16 32) (k0_hw297 : k0_chk297 v1130 v1153), ∀ a x, ((![v1130, v1153] : Fin 2 → IVec S16 32) a x).toNat < S128x32.size a := fun v1130 v1153 k0_hw297 => k0_hw297

def k0_chk298 (v1132 : IVec S16 32) (v1156 : IVec S16 32) : Prop :=
  (∀ a x, ((![v1132, v1156] : Fin 2 → IVec S16 32) a x).toNat < S128x128.size a)
theorem k0_idx202_inb : ∀ (v1132 : IVec S16 32) (v1156 : IVec S16 32) (k0_hw298 : k0_chk298 v1132 v1156), ∀ a x, ((![v1132, v1156] : Fin 2 → IVec S16 32) a x).toNat < S128x128.size a := fun v1132 v1156 k0_hw298 => k0_hw298

def k0_chk299 (v1130 : IVec S16 32) (v1157 : IVec S16 32) : Prop :=
  (∀ a x, ((![v1130, v1157] : Fin 2 → IVec S16 32) a x).toNat < S128x32.size a)
theorem k0_idx203_inb : ∀ (v1130 : IVec S16 32) (v1157 : IVec S16 32) (k0_hw299 : k0_chk299 v1130 v1157), ∀ a x, ((![v1130, v1157] : Fin 2 → IVec S16 32) a x).toNat < S128x32.size a := fun v1130 v1157 k0_hw299 => k0_hw299

def k0_chk300 (v1132 : IVec S16 32) (v1160 : IVec S16 32) : Prop :=
  (∀ a x, ((![v1132, v1160] : Fin 2 → IVec S16 32) a x).toNat < S128x128.size a)
theorem k0_idx204_inb : ∀ (v1132 : IVec S16 32) (v1160 : IVec S16 32) (k0_hw300 : k0_chk300 v1132 v1160), ∀ a x, ((![v1132, v1160] : Fin 2 → IVec S16 32) a x).toNat < S128x128.size a := fun v1132 v1160 k0_hw300 => k0_hw300

def k0_chk301 (v1130 : IVec S16 32) (v1161 : IVec S16 32) : Prop :=
  (∀ a x, ((![v1130, v1161] : Fin 2 → IVec S16 32) a x).toNat < S128x32.size a)
theorem k0_idx205_inb : ∀ (v1130 : IVec S16 32) (v1161 : IVec S16 32) (k0_hw301 : k0_chk301 v1130 v1161), ∀ a x, ((![v1130, v1161] : Fin 2 → IVec S16 32) a x).toNat < S128x32.size a := fun v1130 v1161 k0_hw301 => k0_hw301

def k0_chk302 (v1132 : IVec S16 32) (v1164 : IVec S16 32) : Prop :=
  (∀ a x, ((![v1132, v1164] : Fin 2 → IVec S16 32) a x).toNat < S128x128.size a)
theorem k0_idx206_inb : ∀ (v1132 : IVec S16 32) (v1164 : IVec S16 32) (k0_hw302 : k0_chk302 v1132 v1164), ∀ a x, ((![v1132, v1164] : Fin 2 → IVec S16 32) a x).toNat < S128x128.size a := fun v1132 v1164 k0_hw302 => k0_hw302

def k0_chk303 (v1130 : IVec S16 32) (v1165 : IVec S16 32) : Prop :=
  (∀ a x, ((![v1130, v1165] : Fin 2 → IVec S16 32) a x).toNat < S128x32.size a)
theorem k0_idx207_inb : ∀ (v1130 : IVec S16 32) (v1165 : IVec S16 32) (k0_hw303 : k0_chk303 v1130 v1165), ∀ a x, ((![v1130, v1165] : Fin 2 → IVec S16 32) a x).toNat < S128x32.size a := fun v1130 v1165 k0_hw303 => k0_hw303

def k0_chk304 (v1132 : IVec S16 32) (v1168 : IVec S16 32) : Prop :=
  (∀ a x, ((![v1132, v1168] : Fin 2 → IVec S16 32) a x).toNat < S128x128.size a)
theorem k0_idx208_inb : ∀ (v1132 : IVec S16 32) (v1168 : IVec S16 32) (k0_hw304 : k0_chk304 v1132 v1168), ∀ a x, ((![v1132, v1168] : Fin 2 → IVec S16 32) a x).toNat < S128x128.size a := fun v1132 v1168 k0_hw304 => k0_hw304

def k0_chk305 (v1130 : IVec S16 32) (v1169 : IVec S16 32) : Prop :=
  (∀ a x, ((![v1130, v1169] : Fin 2 → IVec S16 32) a x).toNat < S128x32.size a)
theorem k0_idx209_inb : ∀ (v1130 : IVec S16 32) (v1169 : IVec S16 32) (k0_hw305 : k0_chk305 v1130 v1169), ∀ a x, ((![v1130, v1169] : Fin 2 → IVec S16 32) a x).toNat < S128x32.size a := fun v1130 v1169 k0_hw305 => k0_hw305

def k0_chk306 (v1132 : IVec S16 32) (v1172 : IVec S16 32) : Prop :=
  (∀ a x, ((![v1132, v1172] : Fin 2 → IVec S16 32) a x).toNat < S128x128.size a)
theorem k0_idx210_inb : ∀ (v1132 : IVec S16 32) (v1172 : IVec S16 32) (k0_hw306 : k0_chk306 v1132 v1172), ∀ a x, ((![v1132, v1172] : Fin 2 → IVec S16 32) a x).toNat < S128x128.size a := fun v1132 v1172 k0_hw306 => k0_hw306

def k0_chk307 (v1130 : IVec S16 32) (v1173 : IVec S16 32) : Prop :=
  (∀ a x, ((![v1130, v1173] : Fin 2 → IVec S16 32) a x).toNat < S128x32.size a)
theorem k0_idx211_inb : ∀ (v1130 : IVec S16 32) (v1173 : IVec S16 32) (k0_hw307 : k0_chk307 v1130 v1173), ∀ a x, ((![v1130, v1173] : Fin 2 → IVec S16 32) a x).toNat < S128x32.size a := fun v1130 v1173 k0_hw307 => k0_hw307

def k0_chk308 (v1132 : IVec S16 32) (v1176 : IVec S16 32) : Prop :=
  (∀ a x, ((![v1132, v1176] : Fin 2 → IVec S16 32) a x).toNat < S128x128.size a)
theorem k0_idx212_inb : ∀ (v1132 : IVec S16 32) (v1176 : IVec S16 32) (k0_hw308 : k0_chk308 v1132 v1176), ∀ a x, ((![v1132, v1176] : Fin 2 → IVec S16 32) a x).toNat < S128x128.size a := fun v1132 v1176 k0_hw308 => k0_hw308

def k0_chk309 (v1130 : IVec S16 32) (v1177 : IVec S16 32) : Prop :=
  (∀ a x, ((![v1130, v1177] : Fin 2 → IVec S16 32) a x).toNat < S128x32.size a)
theorem k0_idx213_inb : ∀ (v1130 : IVec S16 32) (v1177 : IVec S16 32) (k0_hw309 : k0_chk309 v1130 v1177), ∀ a x, ((![v1130, v1177] : Fin 2 → IVec S16 32) a x).toNat < S128x32.size a := fun v1130 v1177 k0_hw309 => k0_hw309

def k0_chk310 (v1132 : IVec S16 32) (v1180 : IVec S16 32) : Prop :=
  (∀ a x, ((![v1132, v1180] : Fin 2 → IVec S16 32) a x).toNat < S128x128.size a)
theorem k0_idx214_inb : ∀ (v1132 : IVec S16 32) (v1180 : IVec S16 32) (k0_hw310 : k0_chk310 v1132 v1180), ∀ a x, ((![v1132, v1180] : Fin 2 → IVec S16 32) a x).toNat < S128x128.size a := fun v1132 v1180 k0_hw310 => k0_hw310

def k0_chk311 (v1130 : IVec S16 32) (v1181 : IVec S16 32) : Prop :=
  (∀ a x, ((![v1130, v1181] : Fin 2 → IVec S16 32) a x).toNat < S128x32.size a)
theorem k0_idx215_inb : ∀ (v1130 : IVec S16 32) (v1181 : IVec S16 32) (k0_hw311 : k0_chk311 v1130 v1181), ∀ a x, ((![v1130, v1181] : Fin 2 → IVec S16 32) a x).toNat < S128x32.size a := fun v1130 v1181 k0_hw311 => k0_hw311

def k0_chk312 (v1132 : IVec S16 32) (v1184 : IVec S16 32) : Prop :=
  (∀ a x, ((![v1132, v1184] : Fin 2 → IVec S16 32) a x).toNat < S128x128.size a)
theorem k0_idx216_inb : ∀ (v1132 : IVec S16 32) (v1184 : IVec S16 32) (k0_hw312 : k0_chk312 v1132 v1184), ∀ a x, ((![v1132, v1184] : Fin 2 → IVec S16 32) a x).toNat < S128x128.size a := fun v1132 v1184 k0_hw312 => k0_hw312

def k0_chk313 (v1130 : IVec S16 32) (v1185 : IVec S16 32) : Prop :=
  (∀ a x, ((![v1130, v1185] : Fin 2 → IVec S16 32) a x).toNat < S128x32.size a)
theorem k0_idx217_inb : ∀ (v1130 : IVec S16 32) (v1185 : IVec S16 32) (k0_hw313 : k0_chk313 v1130 v1185), ∀ a x, ((![v1130, v1185] : Fin 2 → IVec S16 32) a x).toNat < S128x32.size a := fun v1130 v1185 k0_hw313 => k0_hw313

def k0_chk314 (v1132 : IVec S16 32) (v1188 : IVec S16 32) : Prop :=
  (∀ a x, ((![v1132, v1188] : Fin 2 → IVec S16 32) a x).toNat < S128x128.size a)
theorem k0_idx218_inb : ∀ (v1132 : IVec S16 32) (v1188 : IVec S16 32) (k0_hw314 : k0_chk314 v1132 v1188), ∀ a x, ((![v1132, v1188] : Fin 2 → IVec S16 32) a x).toNat < S128x128.size a := fun v1132 v1188 k0_hw314 => k0_hw314

def k0_chk315 (v1130 : IVec S16 32) (v1189 : IVec S16 32) : Prop :=
  (∀ a x, ((![v1130, v1189] : Fin 2 → IVec S16 32) a x).toNat < S128x32.size a)
theorem k0_idx219_inb : ∀ (v1130 : IVec S16 32) (v1189 : IVec S16 32) (k0_hw315 : k0_chk315 v1130 v1189), ∀ a x, ((![v1130, v1189] : Fin 2 → IVec S16 32) a x).toNat < S128x32.size a := fun v1130 v1189 k0_hw315 => k0_hw315

def k0_chk316 (v1132 : IVec S16 32) (v1192 : IVec S16 32) : Prop :=
  (∀ a x, ((![v1132, v1192] : Fin 2 → IVec S16 32) a x).toNat < S128x128.size a)
theorem k0_idx220_inb : ∀ (v1132 : IVec S16 32) (v1192 : IVec S16 32) (k0_hw316 : k0_chk316 v1132 v1192), ∀ a x, ((![v1132, v1192] : Fin 2 → IVec S16 32) a x).toNat < S128x128.size a := fun v1132 v1192 k0_hw316 => k0_hw316

def k0_chk317 (v1130 : IVec S16 32) (v1193 : IVec S16 32) : Prop :=
  (∀ a x, ((![v1130, v1193] : Fin 2 → IVec S16 32) a x).toNat < S128x32.size a)
theorem k0_idx221_inb : ∀ (v1130 : IVec S16 32) (v1193 : IVec S16 32) (k0_hw317 : k0_chk317 v1130 v1193), ∀ a x, ((![v1130, v1193] : Fin 2 → IVec S16 32) a x).toNat < S128x32.size a := fun v1130 v1193 k0_hw317 => k0_hw317

def k0_chk318 (v1132 : IVec S16 32) (v1196 : IVec S16 32) : Prop :=
  (∀ a x, ((![v1132, v1196] : Fin 2 → IVec S16 32) a x).toNat < S128x128.size a)
theorem k0_idx222_inb : ∀ (v1132 : IVec S16 32) (v1196 : IVec S16 32) (k0_hw318 : k0_chk318 v1132 v1196), ∀ a x, ((![v1132, v1196] : Fin 2 → IVec S16 32) a x).toNat < S128x128.size a := fun v1132 v1196 k0_hw318 => k0_hw318

def k0_chk319 (v1130 : IVec S16 32) (v1197 : IVec S16 32) : Prop :=
  (∀ a x, ((![v1130, v1197] : Fin 2 → IVec S16 32) a x).toNat < S128x32.size a)
theorem k0_idx223_inb : ∀ (v1130 : IVec S16 32) (v1197 : IVec S16 32) (k0_hw319 : k0_chk319 v1130 v1197), ∀ a x, ((![v1130, v1197] : Fin 2 → IVec S16 32) a x).toNat < S128x32.size a := fun v1130 v1197 k0_hw319 => k0_hw319

def k0_chk320 (v1132 : IVec S16 32) (v1200 : IVec S16 32) : Prop :=
  (∀ a x, ((![v1132, v1200] : Fin 2 → IVec S16 32) a x).toNat < S128x128.size a)
theorem k0_idx224_inb : ∀ (v1132 : IVec S16 32) (v1200 : IVec S16 32) (k0_hw320 : k0_chk320 v1132 v1200), ∀ a x, ((![v1132, v1200] : Fin 2 → IVec S16 32) a x).toNat < S128x128.size a := fun v1132 v1200 k0_hw320 => k0_hw320

def k0_chk321 (v1130 : IVec S16 32) (v1201 : IVec S16 32) : Prop :=
  (∀ a x, ((![v1130, v1201] : Fin 2 → IVec S16 32) a x).toNat < S128x32.size a)
theorem k0_idx225_inb : ∀ (v1130 : IVec S16 32) (v1201 : IVec S16 32) (k0_hw321 : k0_chk321 v1130 v1201), ∀ a x, ((![v1130, v1201] : Fin 2 → IVec S16 32) a x).toNat < S128x32.size a := fun v1130 v1201 k0_hw321 => k0_hw321

def k0_chk322 (v1132 : IVec S16 32) (v1204 : IVec S16 32) : Prop :=
  (∀ a x, ((![v1132, v1204] : Fin 2 → IVec S16 32) a x).toNat < S128x128.size a)
theorem k0_idx226_inb : ∀ (v1132 : IVec S16 32) (v1204 : IVec S16 32) (k0_hw322 : k0_chk322 v1132 v1204), ∀ a x, ((![v1132, v1204] : Fin 2 → IVec S16 32) a x).toNat < S128x128.size a := fun v1132 v1204 k0_hw322 => k0_hw322

def k0_chk323 (v1130 : IVec S16 32) (v1205 : IVec S16 32) : Prop :=
  (∀ a x, ((![v1130, v1205] : Fin 2 → IVec S16 32) a x).toNat < S128x32.size a)
theorem k0_idx227_inb : ∀ (v1130 : IVec S16 32) (v1205 : IVec S16 32) (k0_hw323 : k0_chk323 v1130 v1205), ∀ a x, ((![v1130, v1205] : Fin 2 → IVec S16 32) a x).toNat < S128x32.size a := fun v1130 v1205 k0_hw323 => k0_hw323

def k0_chk324 (v1132 : IVec S16 32) (v1208 : IVec S16 32) : Prop :=
  (∀ a x, ((![v1132, v1208] : Fin 2 → IVec S16 32) a x).toNat < S128x128.size a)
theorem k0_idx228_inb : ∀ (v1132 : IVec S16 32) (v1208 : IVec S16 32) (k0_hw324 : k0_chk324 v1132 v1208), ∀ a x, ((![v1132, v1208] : Fin 2 → IVec S16 32) a x).toNat < S128x128.size a := fun v1132 v1208 k0_hw324 => k0_hw324

def k0_chk325 (v1130 : IVec S16 32) (v1209 : IVec S16 32) : Prop :=
  (∀ a x, ((![v1130, v1209] : Fin 2 → IVec S16 32) a x).toNat < S128x32.size a)
theorem k0_idx229_inb : ∀ (v1130 : IVec S16 32) (v1209 : IVec S16 32) (k0_hw325 : k0_chk325 v1130 v1209), ∀ a x, ((![v1130, v1209] : Fin 2 → IVec S16 32) a x).toNat < S128x32.size a := fun v1130 v1209 k0_hw325 => k0_hw325

def k0_chk326 (v1132 : IVec S16 32) (v1212 : IVec S16 32) : Prop :=
  (∀ a x, ((![v1132, v1212] : Fin 2 → IVec S16 32) a x).toNat < S128x128.size a)
theorem k0_idx230_inb : ∀ (v1132 : IVec S16 32) (v1212 : IVec S16 32) (k0_hw326 : k0_chk326 v1132 v1212), ∀ a x, ((![v1132, v1212] : Fin 2 → IVec S16 32) a x).toNat < S128x128.size a := fun v1132 v1212 k0_hw326 => k0_hw326

def k0_chk327 (v1130 : IVec S16 32) (v1213 : IVec S16 32) : Prop :=
  (∀ a x, ((![v1130, v1213] : Fin 2 → IVec S16 32) a x).toNat < S128x32.size a)
theorem k0_idx231_inb : ∀ (v1130 : IVec S16 32) (v1213 : IVec S16 32) (k0_hw327 : k0_chk327 v1130 v1213), ∀ a x, ((![v1130, v1213] : Fin 2 → IVec S16 32) a x).toNat < S128x32.size a := fun v1130 v1213 k0_hw327 => k0_hw327

def k0_chk328 (v1132 : IVec S16 32) (v1216 : IVec S16 32) : Prop :=
  (∀ a x, ((![v1132, v1216] : Fin 2 → IVec S16 32) a x).toNat < S128x128.size a)
theorem k0_idx232_inb : ∀ (v1132 : IVec S16 32) (v1216 : IVec S16 32) (k0_hw328 : k0_chk328 v1132 v1216), ∀ a x, ((![v1132, v1216] : Fin 2 → IVec S16 32) a x).toNat < S128x128.size a := fun v1132 v1216 k0_hw328 => k0_hw328

def k0_chk329 (v1130 : IVec S16 32) (v1217 : IVec S16 32) : Prop :=
  (∀ a x, ((![v1130, v1217] : Fin 2 → IVec S16 32) a x).toNat < S128x32.size a)
theorem k0_idx233_inb : ∀ (v1130 : IVec S16 32) (v1217 : IVec S16 32) (k0_hw329 : k0_chk329 v1130 v1217), ∀ a x, ((![v1130, v1217] : Fin 2 → IVec S16 32) a x).toNat < S128x32.size a := fun v1130 v1217 k0_hw329 => k0_hw329

def k0_chk330 (v1132 : IVec S16 32) (v1220 : IVec S16 32) : Prop :=
  (∀ a x, ((![v1132, v1220] : Fin 2 → IVec S16 32) a x).toNat < S128x128.size a)
theorem k0_idx234_inb : ∀ (v1132 : IVec S16 32) (v1220 : IVec S16 32) (k0_hw330 : k0_chk330 v1132 v1220), ∀ a x, ((![v1132, v1220] : Fin 2 → IVec S16 32) a x).toNat < S128x128.size a := fun v1132 v1220 k0_hw330 => k0_hw330

def k0_chk331 (v1130 : IVec S16 32) (v1221 : IVec S16 32) : Prop :=
  (∀ a x, ((![v1130, v1221] : Fin 2 → IVec S16 32) a x).toNat < S128x32.size a)
theorem k0_idx235_inb : ∀ (v1130 : IVec S16 32) (v1221 : IVec S16 32) (k0_hw331 : k0_chk331 v1130 v1221), ∀ a x, ((![v1130, v1221] : Fin 2 → IVec S16 32) a x).toNat < S128x32.size a := fun v1130 v1221 k0_hw331 => k0_hw331

def k0_chk332 (v1132 : IVec S16 32) (v1224 : IVec S16 32) : Prop :=
  (∀ a x, ((![v1132, v1224] : Fin 2 → IVec S16 32) a x).toNat < S128x128.size a)
theorem k0_idx236_inb : ∀ (v1132 : IVec S16 32) (v1224 : IVec S16 32) (k0_hw332 : k0_chk332 v1132 v1224), ∀ a x, ((![v1132, v1224] : Fin 2 → IVec S16 32) a x).toNat < S128x128.size a := fun v1132 v1224 k0_hw332 => k0_hw332

def k0_chk333 (v1130 : IVec S16 32) (v1225 : IVec S16 32) : Prop :=
  (∀ a x, ((![v1130, v1225] : Fin 2 → IVec S16 32) a x).toNat < S128x32.size a)
theorem k0_idx237_inb : ∀ (v1130 : IVec S16 32) (v1225 : IVec S16 32) (k0_hw333 : k0_chk333 v1130 v1225), ∀ a x, ((![v1130, v1225] : Fin 2 → IVec S16 32) a x).toNat < S128x32.size a := fun v1130 v1225 k0_hw333 => k0_hw333

def k0_chk334 (v1132 : IVec S16 32) (v1228 : IVec S16 32) : Prop :=
  (∀ a x, ((![v1132, v1228] : Fin 2 → IVec S16 32) a x).toNat < S128x128.size a)
theorem k0_idx238_inb : ∀ (v1132 : IVec S16 32) (v1228 : IVec S16 32) (k0_hw334 : k0_chk334 v1132 v1228), ∀ a x, ((![v1132, v1228] : Fin 2 → IVec S16 32) a x).toNat < S128x128.size a := fun v1132 v1228 k0_hw334 => k0_hw334

def k0_chk335 (v1130 : IVec S16 32) (v1229 : IVec S16 32) : Prop :=
  (∀ a x, ((![v1130, v1229] : Fin 2 → IVec S16 32) a x).toNat < S128x32.size a)
theorem k0_idx239_inb : ∀ (v1130 : IVec S16 32) (v1229 : IVec S16 32) (k0_hw335 : k0_chk335 v1130 v1229), ∀ a x, ((![v1130, v1229] : Fin 2 → IVec S16 32) a x).toNat < S128x32.size a := fun v1130 v1229 k0_hw335 => k0_hw335

def k0_chk336 (v1132 : IVec S16 32) (v1232 : IVec S16 32) : Prop :=
  (∀ a x, ((![v1132, v1232] : Fin 2 → IVec S16 32) a x).toNat < S128x128.size a)
theorem k0_idx240_inb : ∀ (v1132 : IVec S16 32) (v1232 : IVec S16 32) (k0_hw336 : k0_chk336 v1132 v1232), ∀ a x, ((![v1132, v1232] : Fin 2 → IVec S16 32) a x).toNat < S128x128.size a := fun v1132 v1232 k0_hw336 => k0_hw336

def k0_chk337 (v1130 : IVec S16 32) (v1233 : IVec S16 32) : Prop :=
  (∀ a x, ((![v1130, v1233] : Fin 2 → IVec S16 32) a x).toNat < S128x32.size a)
theorem k0_idx241_inb : ∀ (v1130 : IVec S16 32) (v1233 : IVec S16 32) (k0_hw337 : k0_chk337 v1130 v1233), ∀ a x, ((![v1130, v1233] : Fin 2 → IVec S16 32) a x).toNat < S128x32.size a := fun v1130 v1233 k0_hw337 => k0_hw337

def k0_chk338 (v1132 : IVec S16 32) (v1236 : IVec S16 32) : Prop :=
  (∀ a x, ((![v1132, v1236] : Fin 2 → IVec S16 32) a x).toNat < S128x128.size a)
theorem k0_idx242_inb : ∀ (v1132 : IVec S16 32) (v1236 : IVec S16 32) (k0_hw338 : k0_chk338 v1132 v1236), ∀ a x, ((![v1132, v1236] : Fin 2 → IVec S16 32) a x).toNat < S128x128.size a := fun v1132 v1236 k0_hw338 => k0_hw338

def k0_chk339 (v1130 : IVec S16 32) (v1237 : IVec S16 32) : Prop :=
  (∀ a x, ((![v1130, v1237] : Fin 2 → IVec S16 32) a x).toNat < S128x32.size a)
theorem k0_idx243_inb : ∀ (v1130 : IVec S16 32) (v1237 : IVec S16 32) (k0_hw339 : k0_chk339 v1130 v1237), ∀ a x, ((![v1130, v1237] : Fin 2 → IVec S16 32) a x).toNat < S128x32.size a := fun v1130 v1237 k0_hw339 => k0_hw339

def k0_chk340 (v1132 : IVec S16 32) (v1240 : IVec S16 32) : Prop :=
  (∀ a x, ((![v1132, v1240] : Fin 2 → IVec S16 32) a x).toNat < S128x128.size a)
theorem k0_idx244_inb : ∀ (v1132 : IVec S16 32) (v1240 : IVec S16 32) (k0_hw340 : k0_chk340 v1132 v1240), ∀ a x, ((![v1132, v1240] : Fin 2 → IVec S16 32) a x).toNat < S128x128.size a := fun v1132 v1240 k0_hw340 => k0_hw340

def k0_chk341 (v1130 : IVec S16 32) (v1241 : IVec S16 32) : Prop :=
  (∀ a x, ((![v1130, v1241] : Fin 2 → IVec S16 32) a x).toNat < S128x32.size a)
theorem k0_idx245_inb : ∀ (v1130 : IVec S16 32) (v1241 : IVec S16 32) (k0_hw341 : k0_chk341 v1130 v1241), ∀ a x, ((![v1130, v1241] : Fin 2 → IVec S16 32) a x).toNat < S128x32.size a := fun v1130 v1241 k0_hw341 => k0_hw341

def k0_chk342 (v1132 : IVec S16 32) (v1244 : IVec S16 32) : Prop :=
  (∀ a x, ((![v1132, v1244] : Fin 2 → IVec S16 32) a x).toNat < S128x128.size a)
theorem k0_idx246_inb : ∀ (v1132 : IVec S16 32) (v1244 : IVec S16 32) (k0_hw342 : k0_chk342 v1132 v1244), ∀ a x, ((![v1132, v1244] : Fin 2 → IVec S16 32) a x).toNat < S128x128.size a := fun v1132 v1244 k0_hw342 => k0_hw342

def k0_chk343 (v1130 : IVec S16 32) (v1245 : IVec S16 32) : Prop :=
  (∀ a x, ((![v1130, v1245] : Fin 2 → IVec S16 32) a x).toNat < S128x32.size a)
theorem k0_idx247_inb : ∀ (v1130 : IVec S16 32) (v1245 : IVec S16 32) (k0_hw343 : k0_chk343 v1130 v1245), ∀ a x, ((![v1130, v1245] : Fin 2 → IVec S16 32) a x).toNat < S128x32.size a := fun v1130 v1245 k0_hw343 => k0_hw343

def k0_chk344 (v1132 : IVec S16 32) (v1248 : IVec S16 32) : Prop :=
  (∀ a x, ((![v1132, v1248] : Fin 2 → IVec S16 32) a x).toNat < S128x128.size a)
theorem k0_idx248_inb : ∀ (v1132 : IVec S16 32) (v1248 : IVec S16 32) (k0_hw344 : k0_chk344 v1132 v1248), ∀ a x, ((![v1132, v1248] : Fin 2 → IVec S16 32) a x).toNat < S128x128.size a := fun v1132 v1248 k0_hw344 => k0_hw344

def k0_chk345 (v1130 : IVec S16 32) (v1249 : IVec S16 32) : Prop :=
  (∀ a x, ((![v1130, v1249] : Fin 2 → IVec S16 32) a x).toNat < S128x32.size a)
theorem k0_idx249_inb : ∀ (v1130 : IVec S16 32) (v1249 : IVec S16 32) (k0_hw345 : k0_chk345 v1130 v1249), ∀ a x, ((![v1130, v1249] : Fin 2 → IVec S16 32) a x).toNat < S128x32.size a := fun v1130 v1249 k0_hw345 => k0_hw345

def k0_chk346 (v1132 : IVec S16 32) (v1252 : IVec S16 32) : Prop :=
  (∀ a x, ((![v1132, v1252] : Fin 2 → IVec S16 32) a x).toNat < S128x128.size a)
theorem k0_idx250_inb : ∀ (v1132 : IVec S16 32) (v1252 : IVec S16 32) (k0_hw346 : k0_chk346 v1132 v1252), ∀ a x, ((![v1132, v1252] : Fin 2 → IVec S16 32) a x).toNat < S128x128.size a := fun v1132 v1252 k0_hw346 => k0_hw346

def k0_chk347 (v1130 : IVec S16 32) (v1253 : IVec S16 32) : Prop :=
  (∀ a x, ((![v1130, v1253] : Fin 2 → IVec S16 32) a x).toNat < S128x32.size a)
theorem k0_idx251_inb : ∀ (v1130 : IVec S16 32) (v1253 : IVec S16 32) (k0_hw347 : k0_chk347 v1130 v1253), ∀ a x, ((![v1130, v1253] : Fin 2 → IVec S16 32) a x).toNat < S128x32.size a := fun v1130 v1253 k0_hw347 => k0_hw347

def k0_chk348 (v1132 : IVec S16 32) (v1256 : IVec S16 32) : Prop :=
  (∀ a x, ((![v1132, v1256] : Fin 2 → IVec S16 32) a x).toNat < S128x128.size a)
theorem k0_idx252_inb : ∀ (v1132 : IVec S16 32) (v1256 : IVec S16 32) (k0_hw348 : k0_chk348 v1132 v1256), ∀ a x, ((![v1132, v1256] : Fin 2 → IVec S16 32) a x).toNat < S128x128.size a := fun v1132 v1256 k0_hw348 => k0_hw348

def k0_chk349 (v1130 : IVec S16 32) (v1257 : IVec S16 32) : Prop :=
  (∀ a x, ((![v1130, v1257] : Fin 2 → IVec S16 32) a x).toNat < S128x32.size a)
theorem k0_idx253_inb : ∀ (v1130 : IVec S16 32) (v1257 : IVec S16 32) (k0_hw349 : k0_chk349 v1130 v1257), ∀ a x, ((![v1130, v1257] : Fin 2 → IVec S16 32) a x).toNat < S128x32.size a := fun v1130 v1257 k0_hw349 => k0_hw349

def k0_chk350 (v1132 : IVec S16 32) (v1260 : IVec S16 32) : Prop :=
  (∀ a x, ((![v1132, v1260] : Fin 2 → IVec S16 32) a x).toNat < S128x128.size a)
theorem k0_idx254_inb : ∀ (v1132 : IVec S16 32) (v1260 : IVec S16 32) (k0_hw350 : k0_chk350 v1132 v1260), ∀ a x, ((![v1132, v1260] : Fin 2 → IVec S16 32) a x).toNat < S128x128.size a := fun v1132 v1260 k0_hw350 => k0_hw350

def k0_chk351 (v1130 : IVec S16 32) (v1261 : IVec S16 32) : Prop :=
  (∀ a x, ((![v1130, v1261] : Fin 2 → IVec S16 32) a x).toNat < S128x32.size a)
theorem k0_idx255_inb : ∀ (v1130 : IVec S16 32) (v1261 : IVec S16 32) (k0_hw351 : k0_chk351 v1130 v1261), ∀ a x, ((![v1130, v1261] : Fin 2 → IVec S16 32) a x).toNat < S128x32.size a := fun v1130 v1261 k0_hw351 => k0_hw351

def k0_chk352 (v1132 : IVec S16 32) (v1264 : IVec S16 32) : Prop :=
  (∀ a x, ((![v1132, v1264] : Fin 2 → IVec S16 32) a x).toNat < S128x128.size a)
theorem k0_idx256_inb : ∀ (v1132 : IVec S16 32) (v1264 : IVec S16 32) (k0_hw352 : k0_chk352 v1132 v1264), ∀ a x, ((![v1132, v1264] : Fin 2 → IVec S16 32) a x).toNat < S128x128.size a := fun v1132 v1264 k0_hw352 => k0_hw352
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := v2
  let c0_i32_246 : BitVec 32 := 0#32
  let v268 : BitVec 1 := Scalar.cmpi .sgt v3 c0_i32_246
  let v269 : BitVec 32 := Scalar.extui v268
  let c0_i32_247 : BitVec 32 := 0#32
  let v270 : BitVec 1 := Scalar.cmpi .slt v3 c0_i32_247
  let v271 : BitVec 32 := Scalar.extui v270
  let v272 : BitVec 32 := Scalar.subi v269 v271
  let c4_i32 : BitVec 32 := 4#32
  let c0_i32_248 : BitVec 32 := 0#32
  let v273 : BitVec 1 := Scalar.cmpi .sgt c4_i32 c0_i32_248
  let v274 : BitVec 32 := Scalar.extui v273
  let c0_i32_249 : BitVec 32 := 0#32
  let v275 : BitVec 1 := Scalar.cmpi .slt c4_i32 c0_i32_249
  let v276 : BitVec 32 := Scalar.extui v275
  let v277 : BitVec 32 := Scalar.subi v274 v276
  let v278 : BitVec 1 := Scalar.cmpi .ne v272 v277
  let v279 : BitVec 32 := Scalar.remsi v3 c4_i32
  let c0_i32_250 : BitVec 32 := 0#32
  let v280 : BitVec 1 := Scalar.cmpi .ne v279 c0_i32_250
  let v281 : BitVec 1 := Scalar.andi v278 v280
  let v267 : BitVec 32 := Scalar.divsi v3 c4_i32
  let c1_i32_251 : BitVec 32 := 1#32
  let v282 : BitVec 32 := Scalar.subi v267 c1_i32_251
  let v283 : BitVec 32 := Scalar.select v281 v282 v267
  v283
def k0_off106 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := v2
  let c0_i32_246 : BitVec 32 := 0#32
  let v268 : BitVec 1 := Scalar.cmpi .sgt v3 c0_i32_246
  let v269 : BitVec 32 := Scalar.extui v268
  let c0_i32_247 : BitVec 32 := 0#32
  let v270 : BitVec 1 := Scalar.cmpi .slt v3 c0_i32_247
  let v271 : BitVec 32 := Scalar.extui v270
  let v272 : BitVec 32 := Scalar.subi v269 v271
  let c4_i32 : BitVec 32 := 4#32
  let c0_i32_248 : BitVec 32 := 0#32
  let v273 : BitVec 1 := Scalar.cmpi .sgt c4_i32 c0_i32_248
  let v274 : BitVec 32 := Scalar.extui v273
  let c0_i32_249 : BitVec 32 := 0#32
  let v275 : BitVec 1 := Scalar.cmpi .slt c4_i32 c0_i32_249
  let v276 : BitVec 32 := Scalar.extui v275
  let v277 : BitVec 32 := Scalar.subi v274 v276
  let v278 : BitVec 1 := Scalar.cmpi .ne v272 v277
  let v279 : BitVec 32 := Scalar.remsi v3 c4_i32
  let c0_i32_250 : BitVec 32 := 0#32
  let v280 : BitVec 1 := Scalar.cmpi .ne v279 c0_i32_250
  let v281 : BitVec 1 := Scalar.andi v278 v280
  let v267 : BitVec 32 := Scalar.divsi v3 c4_i32
  let c1_i32_251 : BitVec 32 := 1#32
  let v282 : BitVec 32 := Scalar.subi v267 c1_i32_251
  let v283 : BitVec 32 := Scalar.select v281 v282 v267
  let v284 : BitVec 32 := v283
  let c0_i32_252_r2 : BitVec 32 := 0#32
  ![v284.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x32 : Shape := ⟨2, ![1000000, 32]⟩
abbrev S100000x32 : Shape := ⟨2, ![100000, 32]⟩
abbrev S64x64 : Shape := ⟨2, ![64, 64]⟩
abbrev S64 : Shape := ⟨1, ![64]⟩
abbrev S64x16 : Shape := ⟨2, ![64, 16]⟩
abbrev S16 : Shape := ⟨1, ![16]⟩
abbrev S64x8 : Shape := ⟨2, ![64, 8]⟩
abbrev S8 : Shape := ⟨1, ![8]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩
abbrev S16384x64 : Shape := ⟨2, ![16384, 64]⟩
abbrev S1x64 : Shape := ⟨2, ![1, 64]⟩
abbrev S16384x16 : Shape := ⟨2, ![16384, 16]⟩
abbrev S1x16 : Shape := ⟨2, ![1, 16]⟩
abbrev S16384x8 : Shape := ⟨2, ![16384, 8]⟩
abbrev S1x8 : Shape := ⟨2, ![1, 8]⟩

abbrev nBuf : Space → Nat
  | .hbm => 72
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S100000x32, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S64x8, .f32⟩
  | .hbm, ⟨9, _⟩ => ⟨S8, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x32, .f32⟩
  | .hbm, ⟨29, _⟩ => ⟨S16384x32, .i1⟩
  | .hbm, ⟨30, _⟩ => ⟨S_, .f32⟩
  | .hbm, ⟨31, _⟩ => ⟨S16384x32, .f32⟩
  | .hbm, ⟨32, _⟩ => ⟨S16384x32, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384x32, .f32⟩
  | .hbm, ⟨52, _⟩ => ⟨S16384x32, .i1⟩
  | .hbm, ⟨53, _⟩ => ⟨S_, .f32⟩
  | .hbm, ⟨54, _⟩ => ⟨S16384x32, .f32⟩
  | .hbm, ⟨55, _⟩ => ⟨S16384x32, .f32⟩
  | .hbm, ⟨56, _⟩ => ⟨S16384x64, .f32⟩
  | .hbm, ⟨57, _⟩ => ⟨S16384x64, .f32⟩
  | .hbm, ⟨58, _⟩ => ⟨S1x64, .f32⟩
  | .hbm, ⟨59, _⟩ => ⟨S16384x64, .f32⟩
  | .hbm, ⟨60, _⟩ => ⟨S16384x64, .f32⟩
  | .hbm, ⟨61, _⟩ => ⟨S_, .f32⟩
  | .hbm, ⟨62, _⟩ => ⟨S16384x64, .f32⟩
  | .hbm, ⟨63, _⟩ => ⟨S16384x64, .f32⟩
  | .hbm, ⟨64, _⟩ => ⟨S16384x16, .f32⟩
  | .hbm, ⟨65, _⟩ => ⟨S1x16, .f32⟩
  | .hbm, ⟨66, _⟩ => ⟨S16384x16, .f32⟩
  | .hbm, ⟨67, _⟩ => ⟨S16384x16, .f32⟩
  | .hbm, ⟨68, _⟩ => ⟨S16384x8, .f32⟩
  | .hbm, ⟨69, _⟩ => ⟨S1x8, .f32⟩
  | .hbm, ⟨70, _⟩ => ⟨S16384x8, .f32⟩
  | .hbm, ⟨71, _⟩ => ⟨S16384x8, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_call2_cst : Ref sig .tc := ⟨.hbm, 61, rfl⟩
abbrev main_call2_v0 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩

abbrev nD : Nat := 1
abbrev τ : Topo := Topo.v7x

variable {F : FTy → Type} [FloatOps F]
-- ==== Proof.Prog.lean ====
/-
  The gather's body, restated compactly. The printed body is one long straight line: every group of sixteen lanes is
  fetched by sixteen checked transfers, drained by sixteen waits and spread by thirty-two indexed loads and stores, each
  spelt out. Here a lane, a group and a trip are each written once, over any table, buffer and semaphore, and the
  printed body is shown equal to the restatement (`gather_eq`), one operation after the other.
-/
module

public import proofs.«01_k».proof.Defs
public import proofs.«01_k».proof.Proof.Gen.KernelIdeal
public import Idealize.ShloMosaic.Lib.Tactic

@[expose] public section

noncomputable section

namespace Cert.Proof

open Cert.KernelIdeal Cert.KernelIdeal.Gen
open Idealize.ShloMosaic Idealize.SL.Sem

variable {F : FTy → Type} [FloatOps F]

/-- The tile at launch coordinates `i`, and its programs. -/
abbrev tileOf (i : grid0.Coords) : Proc τ := .scVector ((i 0).castLE hcore0) ((i 1).castLE hsub0)
abbrev TEff (F : FTy → Type) (i : grid0.Coords) : Type → Type := TpuEff nD τ sig (Elt F) Λ₀ (tileOf i)
abbrev TProg (F : FTy → Type) (i : grid0.Coords) : Type 1 := Prog (TEff F i) PUnit

/-! ## Stepping an equality of programs -/

theorem op_congr {i : grid0.Coords} {A B : Type} (e : TEff F i B) {k k' : B → Prog (TEff F i) A} (h : ∀ x, k x = k' x) :
    Prog.op e k = Prog.op e k' := by rw [funext h]

theorem assume_congr {i : grid0.Coords} {A : Type} {P Q : Prop} {dP : Decidable P} {dQ : Decidable Q}
    {k : PLift P → Prog (TEff F i) A} {k' : PLift Q → Prog (TEff F i) A} (h : P ↔ Q) (hk : ∀ (p : P) (q : Q), k ⟨p⟩ = k' ⟨q⟩) :
    Prog.op (TpuEff.assume P dP : TEff F i _) k = Prog.op (TpuEff.assume Q dQ : TEff F i _) k' := by
  obtain rfl : P = Q := propext h
  obtain rfl : dP = dQ := Subsingleton.elim _ _
  exact op_congr _ fun x => hk x.down x.down

theorem bind_congr {i : grid0.Coords} {A B : Type} {p p' : Prog (TEff F i) B} {k k' : B → Prog (TEff F i) A} (hp : p = p') (h : ∀ x, k x = k' x) :
    p >>= k = p' >>= k' := by rw [hp, funext h]

/-! ## The pieces -/

/-- A table of `n` tiles of eight rows. -/
abbrev ST (n : ℕ) : Shape := ⟨3, ![n, 8, 32]⟩

/-- `f 0 (f 1 (… (f (r-1) k)))`, from `j` on. -/
def seqN {α : Type 1} (f : ℕ → α → α) : ℕ → ℕ → α → α
  | 0, _, k => k
  | r + 1, j, k => f j (seqN f r (j + 1) k)

theorem rows_inb (j : Fin 16) : ∀ a, (![8 * j.val, 0] : Fin 2 → Nat) a + S8x32.size a ≤ S128x32.size a := by
  have := j.isLt
  intro a; fin_cases a
  · show 8 * j.val + 8 ≤ 128; omega
  · show 0 + 32 ≤ 32; omega

theorem lane_slices : ∀ j : Fin 16, S16.Slices ![j.val] S1 := by decide

abbrev tileFits (n : ℕ) (off : Fin 3 → ℕ) : Prop := ∀ a, off a + S1x8x32.size a ≤ (ST n).size a

section Pieces
variable {i : grid0.Coords}

/-- The tile of eight rows at `off` of a table. -/
abbrev srcTile {n : ℕ} (tab : Memref sig .scVector .hbm (ST n) .f32) (off : Fin 3 → ℕ) (h : tileFits n off) :
    Memref sig .scVector .hbm S8x32 .f32 :=
  (tab.slice (Rect.unit (s := ST n) off S1x8x32.size h) (fun _ => rfl)).squeeze S8x32 squeezes_S1x8x32_S8x32

/-- Lane `j`'s eight rows of a buffer. -/
abbrev dstRows (buf : Memref sig .scVector .vmem S128x32 .f32) (j : Fin 16) : Memref sig .scVector .vmem S8x32 .f32 :=
  buf.slice (Rect.unit (s := S128x32) ![8 * j.val, 0] S8x32.size (rows_inb j)) (fun _ => rfl)

/-- Lane `j` of an index vector. -/
def laneOf (v : IVec S16 32) (j : Fin 16) : BitVec 32 := extractAt ![0] (extractStridedSlice S1 ![j.val] v (lane_slices j)) inpos_S1_p0

/-- Lane `j`'s fetch: its tile number checked, its transfer started. -/
def fireLane {n : ℕ} (tab : Memref sig .scVector .hbm (ST n) .f32) (buf : Memref sig .scVector .vmem S128x32 .f32) (sem : DmaSems sig S_)
    (v : IVec S16 32) (j : ℕ) (k : TProg F i) : TProg F i :=
  .op (.assume (tileFits n ![(laneOf v (Fin.ofNat 16 j)).toNat, 0, 0]) inferInstance) fun h =>
  .op (.enqueueDma (srcTile tab ![(laneOf v (Fin.ofNat 16 j)).toNat, 0, 0] h.down) (.here (dstRows buf (Fin.ofNat 16 j))) (.dma sem.sem)
    ((View.wordExact_bits rfl).reshape _ _) (View.wordExact_bits rfl) ⟨Or.inl rfl, trivial⟩) fun _ => k

/-- A group's fetch: its sixteen indices loaded, its sixteen lanes started. -/
def fire {n : ℕ} (tab : Memref sig .scVector .hbm (ST n) .f32) (buf : Memref sig .scVector .vmem S128x32 .f32) (sem : DmaSems sig S_)
    (idx : Memref sig .scVector .vmem S512 .i32) (off : Fin 1 → ℕ) (hoff : ∀ a, off a + S16.size a ≤ S512.size a) (k : TProg F i) : TProg F i :=
  .op (.load idx (Rect.unit (s := S512) off S16.size hoff).toLoadRect (View.loadsAt_vmem h_S16)) fun (v : Vec F S16 .i32) =>
    seqN (fireLane tab buf sem (shrui v (broadcast S16 3#32))) 16 0 k

/-- Lane `j`'s wait. -/
def drainLane {n : ℕ} (tab : Memref sig .scVector .hbm (ST n) .f32) (buf : Memref sig .scVector .vmem S128x32 .f32) (sem : DmaSems sig S_)
    (h0 : tileFits n ![0, 0, 0]) (j : ℕ) (k : TProg F i) : TProg F i :=
  .op (.waitDma2 sem.sem (srcTile tab ![0, 0, 0] h0) (dstRows buf (Fin.ofNat 16 j)) ((View.wordExact_bits rfl).reshape _ _) (View.wordExact_bits rfl)) fun _ => k

def drain {n : ℕ} (tab : Memref sig .scVector .hbm (ST n) .f32) (buf : Memref sig .scVector .vmem S128x32 .f32) (sem : DmaSems sig S_)
    (h0 : tileFits n ![0, 0, 0]) (k : TProg F i) : TProg F i := seqN (drainLane tab buf sem h0) 16 0 k

abbrev inBox (s : Shape) (ix : Fin s.rank → IVec S16 32) : Prop := ∀ a x, (ix a x).toNat < s.size a

/-- Word `w` of every lane's row, moved to its place in the packed rows. -/
def spreadWord (buf : Memref sig .scVector .vmem S128x32 .f32) (out : Memref sig .scVector .vmem S128x128 .f32)
    (ri ro co : IVec S16 32) (w : ℕ) (k : TProg F i) : TProg F i :=
  .op (.assume (inBox S128x32 ![ri, broadcast S16 (BitVec.ofNat 32 w)]) inferInstance) fun h =>
  SparseCore.vectorLoadIdx buf ![ri, broadcast S16 (BitVec.ofNat 32 w)] h.down (View.loads_vmem h_S128x32) >>= fun x =>
  .op (.assume (inBox S128x128 ![ro, addi co (broadcast S16 (BitVec.ofNat 32 w))]) inferInstance) fun h' =>
  SparseCore.vectorStoreIdx out ![ro, addi co (broadcast S16 (BitVec.ofNat 32 w))] x (fun _ => 1#1) false h'.down (View.stores_vmem_bits_univ h_S128x128 rfl) >>= fun _ => k

/-- The lanes' numbers, each lane's row in its buffer, and its place in the packed rows. -/
abbrev lanes : IVec S16 32 := iota .scVector S16 32 [0] iota_S16_d0_w32_scVector
abbrev rowIn (v : IVec S16 32) : IVec S16 32 := addi (muli lanes (broadcast S16 8#32)) (andi v (broadcast S16 7#32))
abbrev posOf (g : BitVec 32) : IVec S16 32 := addi (broadcast S16 (Scalar.muli g 16#32)) lanes
abbrev rowOut (g : BitVec 32) : IVec S16 32 := shrui (posOf g) (broadcast S16 2#32)
abbrev colOut (g : BitVec 32) : IVec S16 32 := muli (andi (posOf g) (broadcast S16 3#32)) (broadcast S16 32#32)

/-- A group's rows moved from its buffer to the packed rows. -/
def spread (buf : Memref sig .scVector .vmem S128x32 .f32) (out : Memref sig .scVector .vmem S128x128 .f32)
    (idx : Memref sig .scVector .vmem S512 .i32) (off : Fin 1 → ℕ) (hoff : ∀ a, off a + S16.size a ≤ S512.size a) (g : BitVec 32) (k : TProg F i) : TProg F i :=
  .op (.load idx (Rect.unit (s := S512) off S16.size hoff).toLoadRect (View.loadsAt_vmem h_S16)) fun (v : Vec F S16 .i32) =>
    seqN (spreadWord buf out (rowIn v) (rowOut g) (colOut g)) 32 0 k

end Pieces

/-! ## The trips' conditions and groups -/

abbrev Trip : Type := Fin k0_t1_loop.trips

def grpA (t : Trip) : BitVec 32 := Scalar.addi (Scalar.muli (Scf.iv 0#32 1#32 t) 2#32) 0#32
def grpB (t : Trip) : BitVec 32 := Scalar.addi (Scalar.muli (Scf.iv 0#32 1#32 t) 2#32) 1#32

theorem cond1_true : ∀ t : Trip, k0_cond1 t = 1#1 := by decide
theorem cond2_iff : ∀ t : Trip, k0_cond2 t = 1#1 ↔ t.val < 15 := by decide

theorem zero_fits_c : tileFits 125000 ![0, 0, 0] := inb_S125000x8x32_S1x8x32_0_0_0
theorem zero_fits_s : tileFits 12500 ![0, 0, 0] := inb_S12500x8x32_S1x8x32_0_0_0

/-! ## The printed body, as its pieces -/

section Body
variable (i : grid0.Coords) (arg2 : Memref sig .scVector .hbm S16384 .i32) (harg2 : arg2.IsWhole) (arg3 : Memref sig .scVector .hbm S16384 .i32) (harg3 : arg3.IsWhole) (arg4 : Memref sig .scVector .hbm S125000x8x32 .f32) (harg4 : arg4.IsWhole) (arg5 : Memref sig .scVector .hbm S12500x8x32 .f32) (harg5 : arg5.IsWhole) (arg6 : Memref sig .scVector .hbm S4096x128 .f32) (harg6 : arg6.IsWhole) (arg7 : Memref sig .scVector .hbm S4096x128 .f32) (harg7 : arg7.IsWhole) (arg8 : Memref sig .scVector .vmem S512 .i32) (harg8 : arg8.IsWhole) (arg9 : Memref sig .scVector .vmem S512 .i32) (harg9 : arg9.IsWhole) (arg10 : Memref sig .scVector .vmem S128x32 .f32) (harg10 : arg10.IsWhole) (arg11 : Memref sig .scVector .vmem S128x32 .f32) (harg11 : arg11.IsWhole) (arg12 : Memref sig .scVector .vmem S128x32 .f32) (harg12 : arg12.IsWhole) (arg13 : Memref sig .scVector .vmem S128x32 .f32) (harg13 : arg13.IsWhole) (arg14 : Memref sig .scVector .vmem S128x128 .f32) (harg14 : arg14.IsWhole) (arg15 : Memref sig .scVector .vmem S128x128 .f32) (harg15 : arg15.IsWhole) (arg16 : DmaSems sig S_) (arg17 : DmaSems sig S_) (arg18 : DmaSems sig S_) (arg19 : DmaSems sig S_) (v285_r0 : DmaSems sig S_) (v285_r1 : DmaSems sig S_) (v285_r2 : DmaSems sig S_) (v285_r3 : DmaSems sig S_)

/-- The second half of a trip. -/
def tripB (t : Trip) : TProg F i :=
  drain arg4 arg11 arg17 zero_fits_c <| spread arg11 arg14 arg8 (k0_off104 t) (k0_off104_inb t) (grpB t) <|
  drain arg5 arg13 arg19 zero_fits_s <| spread arg13 arg15 arg9 (k0_off105 t) (k0_off105_inb t) (grpB t) <|
  .ret ⟨⟩

/-- A trip: the odd group's fetch, the even group's drain and spread, the next even group's fetch (but for the last
    trip), the odd group's drain and spread. -/
def trip (t : Trip) : TProg F i :=
  fire arg4 arg11 arg17 arg8 (k0_off34 t) (k0_off34_inb t (cond1_true t)) <|
  fire arg5 arg13 arg19 arg9 (k0_off51 t) (k0_off51_inb t (cond1_true t)) <|
  drain arg4 arg10 arg16 zero_fits_c <| spread arg10 arg14 arg8 (k0_off68 t) (k0_off68_inb t) (grpA t) <|
  drain arg5 arg12 arg18 zero_fits_s <| spread arg12 arg15 arg9 (k0_off69 t) (k0_off69_inb t) (grpA t) <|
  if h : k0_cond2 t = 1#1 then
    fire arg4 arg10 arg16 arg8 (k0_off70 t) (k0_off70_inb t h) <|
    fire arg5 arg12 arg18 arg9 (k0_off87 t) (k0_off87_inb t h) <|
    tripB i arg4 arg5 arg8 arg9 arg11 arg13 arg14 arg15 arg17 arg19 t
  else tripB i arg4 arg5 arg8 arg9 arg11 arg13 arg14 arg15 arg17 arg19 t

/-- The tile's 512 indices of an index array; its 128 packed rows of a result. -/
abbrev idxPart (a : Memref sig .scVector .hbm S16384 .i32) : Memref sig .scVector .hbm S512 .i32 :=
  a.slice (Rect.unit (s := S16384) (k0_off1 i) S512.size (k0_off1_inb i)) (fun _ => rfl)
abbrev outPart (a : Memref sig .scVector .hbm S4096x128 .f32) : Memref sig .scVector .hbm S128x128 .f32 :=
  a.slice (Rect.unit (s := S4096x128) (k0_off106 i) S128x128.size (k0_off106_inb i)) (fun _ => rfl)

/-- The packed rows written out. -/
def writeOut : TProg F i :=
  .op (.enqueueDma arg14 (.here (outPart i arg6)) (.dma v285_r2.sem) harg14.wordExact (View.wordExact_bits rfl) ⟨Or.inl rfl, trivial⟩) fun _ =>
  .op (.waitDma2 v285_r2.sem arg14 (outPart i arg6) harg14.wordExact (View.wordExact_bits rfl)) fun _ =>
  .op (.enqueueDma arg15 (.here (outPart i arg7)) (.dma v285_r3.sem) harg15.wordExact (View.wordExact_bits rfl) ⟨Or.inl rfl, trivial⟩) fun _ =>
  .op (.waitDma2 v285_r3.sem arg15 (outPart i arg7) harg15.wordExact (View.wordExact_bits rfl)) fun _ => .ret ⟨⟩

def gather : TProg F i :=
  .op (.enqueueDma (idxPart i arg2) (.here arg8) (.dma v285_r0.sem) (View.wordExact_bits rfl) harg8.wordExact ⟨Or.inl rfl, trivial⟩) fun _ =>
  .op (.waitDma2 v285_r0.sem (idxPart i arg2) arg8 (View.wordExact_bits rfl) harg8.wordExact) fun _ =>
  .op (.enqueueDma (idxPart i arg3) (.here arg9) (.dma v285_r1.sem) (View.wordExact_bits rfl) harg9.wordExact ⟨Or.inl rfl, trivial⟩) fun _ =>
  .op (.waitDma2 v285_r1.sem (idxPart i arg3) arg9 (View.wordExact_bits rfl) harg9.wordExact) fun _ =>
  fire arg4 arg10 arg16 arg8 ![0] inb_S512_S16_0 <|
  fire arg5 arg12 arg18 arg9 ![0] inb_S512_S16_0 <|
  Scf.Loop.for k0_t1_loop k0_t1_ok ⟨⟩ (fun t _ => trip i arg4 arg5 arg8 arg9 arg10 arg11 arg12 arg13 arg14 arg15 arg16 arg17 arg18 arg19 t) >>= fun _ =>
  writeOut i arg6 arg7 arg14 harg14 arg15 harg15 v285_r2 v285_r3

end Body

end Cert.Proof
end
-- ==== Proof.Fetch.lean ====
/-
  A group's fetch and its wait, over any table, buffer and semaphore. `wp_fire`: sixteen checked transfers started on one
  cell, a counted batch of sixteen (Lib/Batch.lean); the table is held at a share, each transfer reading through a token of
  it. `wp_drain`: sixteen waits, the last of which hands back the buffer with every lane's eight rows in it.
-/
module

public import proofs.«01_k».proof.Proof.Prog
public import Idealize.ShloMosaic.Lib.SparseCore.Quiescent
public import Idealize.ShloMosaic.Lib.SparseCore.Ops
public import Idealize.ShloMosaic.Lib.Batch
public import Idealize.ShloMosaic.Lib.ValueLayout

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F]

/-- The tile's thread on device `d`. -/
abbrev thr (d : Dev nD) (i : grid0.Coords) : Thread nD τ := (d, tileOf i)

section Sets
variable {i : grid0.Coords}

theorem dstRows_set (buf : Memref sig .scVector .vmem S128x32 .f32) (j : Fin 16) :
    (dstRows buf j).view.set = (Rect.unit (s := S128x32) ![8 * j.val, 0] S8x32.size (rows_inb j)).set.map buf.view.emb :=
  View.set_slice buf.view (Rect.unit (s := S128x32) ![8 * j.val, 0] S8x32.size (rows_inb j))

theorem disj_dstRows (buf : Memref sig .scVector .vmem S128x32 .f32) (j j' : Fin 16) (h : j ≠ j') :
    Disjoint (dstRows buf j).view.set (dstRows buf j').view.set := by
  rw [dstRows_set, dstRows_set, Finset.disjoint_map, Finset.disjoint_left]
  intro x hx hx'
  rw [Rect.mem_set_unit] at hx hx'
  have h0 := hx 0; have h0' := hx' 0
  simp [S8x32] at h0 h0'
  apply h; apply Fin.ext; omega

theorem union_dstRows (buf : Memref sig .scVector .vmem S128x32 .f32) :
    Finset.univ.biUnion (fun j : Fin 16 => (dstRows buf j).view.set) = buf.view.set := by
  ext y
  rw [Finset.mem_biUnion]
  constructor
  · rintro ⟨j, -, hj⟩; exact View.set_slice_subset _ _ hj
  · intro hy
    obtain ⟨x, -, rfl⟩ := Finset.mem_map.mp hy
    have h0 : (x 0).val < 128 := (x 0).isLt
    have h1 : (x 1).val < 32 := (x 1).isLt
    refine ⟨⟨(x 0).val / 8, by omega⟩, Finset.mem_univ _, ?_⟩
    rw [dstRows_set]
    refine Finset.mem_map_of_mem _ ?_
    rw [Rect.mem_set_unit]
    intro a; fin_cases a
    · simp [S8x32]; omega
    · simp [S8x32]; omega

/-- A lane's fetch at its own number. -/
def fireLaneAt {n : ℕ} (tab : Memref sig .scVector .hbm (ST n) .f32) (buf : Memref sig .scVector .vmem S128x32 .f32) (sem : DmaSems sig S_)
    (v : IVec S16 32) (j : Fin 16) (k : TProg F i) : TProg F i :=
  .op (.assume (tileFits n ![(laneOf v j).toNat, 0, 0]) inferInstance) fun h =>
  .op (.enqueueDma (srcTile tab ![(laneOf v j).toNat, 0, 0] h.down) (.here (dstRows buf j)) (.dma sem.sem)
    ((View.wordExact_bits rfl).reshape _ _) (View.wordExact_bits rfl) ⟨Or.inl rfl, trivial⟩) fun _ => k

theorem fireLane_at {n : ℕ} (tab : Memref sig .scVector .hbm (ST n) .f32) (buf : Memref sig .scVector .vmem S128x32 .f32) (sem : DmaSems sig S_)
    (v : IVec S16 32) (j : ℕ) (hj : j < 16) (k : TProg F i) : fireLane tab buf sem v j k = fireLaneAt tab buf sem v ⟨j, hj⟩ k := by
  rw [show fireLane tab buf sem v j k = fireLaneAt tab buf sem v (Fin.ofNat 16 j) k from rfl,
    show (Fin.ofNat 16 j) = ⟨j, hj⟩ from Fin.ext (Nat.mod_eq_of_lt hj)]

end Sets

section Wp
variable {i : grid0.Coords} {U : Type} [URA U]
local notation "𝕄" => MT nD τ sig (HIx 1) (Elt F) ℕ U ℕ
variable (EC : UEmb Counters (MT nD τ sig (HIx 1) (Elt F) ℕ U ℕ)) [EC.LandsIn (upEmb : UEmb _ (MT nD τ sig (HIx 1) (Elt F) ℕ U ℕ))]
variable {defs : Defs nD τ sig (Elt F) Λ₀} (𝒱 : Variants) (d : Dev nD) (bd : Option 𝒱.V)
variable {Q : PUnit → sProp (MT nD τ sig (HIx 1) (Elt F) ℕ U ℕ)}
variable {n : ℕ} (tab : Memref sig .scVector .hbm (ST n) .f32) (buf : Memref sig .scVector .vmem S128x32 .f32) (sem : DmaSems sig S_)

/-- Every lane's tile is one of the table's. -/
abbrev Fits (n : ℕ) (v : IVec S16 32) : Prop := ∀ j : Fin 16, tileFits n ![(laneOf v j).toNat, 0, 0]

/-- A lane's tile, and its credit. -/
abbrev laneSrc (v : IVec S16 32) (h : Fits n v) (j : Fin 16) : Memref sig .scVector .hbm S8x32 .f32 :=
  srcTile tab ![(laneOf v j).toNat, 0, 0] (h j)
abbrev NL : ℕ := (dstRows buf 0).view.dmaCredit

/-- What a lane's transfer delivers: its rows of the buffer at the tile, the tile's token back. -/
def laneDlv (ft : Buf (Elt F) (tab.view.loc (thr d i))) (q : PosShare TreeShare) (v : IVec S16 32) (h : Fits n v)
    (fb : Buf (Elt F) (buf.view.loc (thr d i))) (j : Fin 16) : sProp 𝕄 :=
  iprop((buf.view.loc (thr d i) ↦[(dstRows buf j).view.set]{fullShare}
      ((dstRows buf j).view.write (Elt F) fb ((laneSrc tab v h j).view.read (Elt F) ft) Finset.univ))
    ∗ (tab.view.loc (thr d i) ↦[(laneSrc tab v h j).view.set]{shareTokN q j.val} ft))

instance laneDlv_storable (ft : Buf (Elt F) (tab.view.loc (thr d i))) (q : PosShare TreeShare) (v : IVec S16 32) (h : Fits n v)
    (fb : Buf (Elt F) (buf.view.loc (thr d i))) (j : Fin 16) : Storable (upEmb : UEmb _ 𝕄) (laneDlv (U := U) d tab buf ft q v h fb j) := by
  unfold laneDlv; infer_instance

theorem wp_fireLanes (ft : Buf (Elt F) (tab.view.loc (thr d i))) (q : PosShare TreeShare) (v : IVec S16 32) (h : Fits n v)
    (fb : Buf (Elt F) (buf.view.loc (thr d i))) (k : TProg F i) (r j : ℕ) (hrj : j + r = 16) :
    iprop(Batch EC (thr d i) (.dma sem.sem) none (NL buf) (laneDlv d tab buf ft q v h fb) j 0
        ∗ bigSep (pending j) (fun j : Fin 16 => iprop((buf.view.loc (thr d i) ↦[(dstRows buf j).view.set]{fullShare} fb)
            ∗ (tab.view.loc (thr d i) ↦[(laneSrc tab v h j).view.set]{shareTokN q j.val} ft))))
      ⊢ iprop((Batch EC (thr d i) (.dma sem.sem) none (NL buf) (laneDlv d tab buf ft q v h fb) 16 0
          -∗ wp frame (wpE defs 𝒱 (thr d i) bd) Set.univ k Q)
        -∗ wp frame (wpE defs 𝒱 (thr d i) bd) Set.univ (seqN (fireLane tab buf sem v) r j k) Q) := by
  induction r generalizing j with
  | zero =>
    obtain rfl : j = 16 := by omega
    iintro ⟨HB, -⟩ Hk
    iapply Hk; iexact HB
  | succ r ih =>
    have hj : j < 16 := by omega
    rw [bigSep_pending_step _ _ hj]
    show _ ⊢ iprop(_ -∗ wp _ _ _ (fireLane tab buf sem v j (seqN (fireLane tab buf sem v) r (j + 1) k)) Q)
    rw [fireLane_at tab buf sem v j hj]
    unfold fireLaneAt
    rw [wp_assume_of _ _ _ _ (h ⟨j, hj⟩)]
    iintro ⟨HB, ⟨Hd, Hs⟩, HR⟩ Hk
    iapply (wp_dmaBatch EC 𝒱 (thr d i) bd (src := laneSrc tab v h ⟨j, hj⟩) (dst := dstRows buf ⟨j, hj⟩)
      (Sd := (dstRows buf ⟨j, hj⟩).view.set) (D := laneDlv d tab buf ft q v h fb) (j := j) none (NL buf) rfl subset_rfl hj (Nat.zero_le _)
      (by unfold laneDlv; exact .rfl)) $$ [HB Hd Hs]
    · isplitl [Hs]; · iexact Hs
      isplitl [Hd]; · iexact Hd
      iexact HB
    iintro HB
    iapply (ih (j + 1) (by omega)) $$ [HB HR]
    · isplitl [HB]; · iexact HB
      iexact HR
    iexact Hk

theorem wp_drainLanes (D : Fin 16 → sProp 𝕄) (h0 : tileFits n ![0, 0, 0]) (O : CellTallies nD τ sig (HIx 1)) (k : TProg F i) (r j : ℕ) (hrj : j + r = 15) (W : Waits sig (HIx 1)) :
    iprop(Batch EC (thr d i) (.dma sem.sem) none (NL buf) D 16 (j * NL buf) ∗ owes (thr d i) O W ∗ MayWaits (thr d i) none O)
      ⊢ iprop((iprop(bigSep Finset.univ D ∗ semVal (thr d i, .dma sem.sem) 0 ∗ ∃ W', ⌜∀ p ∈ W', p ∈ W ∨ p.2 = none⌝ ∗ owes (thr d i) O W')
          -∗ wp frame (wpE defs 𝒱 (thr d i) bd) Set.univ k Q)
        -∗ wp frame (wpE defs 𝒱 (thr d i) bd) Set.univ (seqN (drainLane tab buf sem h0) (r + 1) j k) Q) := by
  have hN : 0 < NL buf := View.dmaCredit_pos _ (by decide)
  have step : ∀ {P : sProp 𝕄} {W W₁ : Waits sig (HIx 1)}, (∀ p ∈ W, p ∈ W₁ ∨ p.2 = none) → ∀ p ∈ insert (SemLoc.dma sem.sem, (none : HIx 1)) W, p ∈ W₁ ∨ p.2 = none := by
    intro P W W₁ hw p hp
    rcases Finset.mem_insert.mp hp with hp | hp
    · exact .inr (hp ▸ rfl)
    · exact hw p hp
  induction r generalizing j W with
  | zero =>
    obtain rfl : j = 15 := by omega
    show _ ⊢ iprop(_ -∗ wp _ _ _ (drainLane tab buf sem h0 15 k) Q)
    unfold drainLane
    iintro ⟨HB, HO, #HM⟩ Hk
    iapply (wp_waitBatchLastO EC 𝒱 (thr d i) bd (dstw := dstRows buf (Fin.ofNat 16 15)) (D := D) (u := 15 * NL buf) none (N := NL buf) rfl hN (by omega)) $$ [HB HO]
    · isplitl [HB]; · iexact HB
      isplitl [HO]; · iexact HO
      iapply (MayWaits.elim (SemLoc.dma sem.sem)) $$ HM
    iintro ⟨HD, Hv, HO⟩
    iapply Hk
    isplitl [HD]; · iexact HD
    isplitl [Hv]; · iexact Hv
    iexists _; isplitr
    rotate_left
    · iexact HO
    · ipureintro; exact step (P := iprop(emp)) fun p hp => .inl hp
  | succ r ih =>
    show _ ⊢ iprop(_ -∗ wp _ _ _ (drainLane tab buf sem h0 j (seqN (drainLane tab buf sem h0) (r + 1) (j + 1) k)) Q)
    unfold drainLane
    iintro ⟨HB, HO, #HM⟩ Hk
    iapply (wp_waitBatchO EC 𝒱 (thr d i) bd (dstw := dstRows buf (Fin.ofNat 16 j)) (D := D) (u := j * NL buf) none (N := NL buf) rfl
      (by have : (j + 1) * NL buf < 16 * NL buf := Nat.mul_lt_mul_of_pos_right (by omega) hN
          rw [Nat.add_mul] at this; omega)) $$ [HB HO]
    · isplitl [HB]; · iexact HB
      isplitl [HO]; · iexact HO
      iapply (MayWaits.elim (SemLoc.dma sem.sem)) $$ HM
    iintro ⟨HB, HO⟩
    iapply (ih (j + 1) (by omega) _) $$ [HB HO]
    · isplitl [HB]
      · rw [show (j + 1) * NL buf = j * NL buf + NL buf from by rw [Nat.add_mul, Nat.one_mul]]; iexact HB
      isplitl [HO]; · iexact HO
      iexact HM
    iintro ⟨HD, Hv, %W', %hW', HO⟩
    iapply Hk
    isplitl [HD]; · iexact HD
    isplitl [Hv]; · iexact Hv
    iexists W'; isplitr
    · ipureintro
      intro p hp
      rcases hW' p hp with h | h
      · exact step (P := iprop(emp)) (fun p hp => .inl hp) p h
      · exact .inr h
    · iexact HO

/-- A group in flight: its batch, and what is left of the table's share beside it. -/
def InFlight (ft : Buf (Elt F) (tab.view.loc (thr d i))) (q : PosShare TreeShare) (v : IVec S16 32) : sProp 𝕄 :=
  iprop(∃ (h : Fits n v) (fb : Buf (Elt F) (buf.view.loc (thr d i))),
    Batch EC (thr d i) (.dma sem.sem) none (NL buf) (laneDlv d tab buf ft q v h fb) 16 0
    ∗ bigSep Finset.univ (fun j : Fin 16 => (tab.view.loc (thr d i) ↦[Finset.univ \ (laneSrc tab v h j).view.set]{shareTokN q j.val} ft))
    ∗ (tab.view.loc (thr d i) ↦{shareDrop q 16} ft))

/-- The buffer holds every lane's tile. -/
def Fetched (ft : Buf (Elt F) (tab.view.loc (thr d i))) (v : IVec S16 32) (g : Buf (Elt F) (buf.view.loc (thr d i))) : Prop :=
  ∀ (j : Fin 16) (x : S128x32.Idx) (y : (ST n).Idx), (x 0).val / 8 = j.val → (y 0).val = (laneOf v j).toNat → (y 1).val = (x 0).val % 8 →
    (y 2).val = (x 1).val → buf.view.read (Elt F) g x = tab.view.read (Elt F) ft y

theorem toks_fin {ℓ : Loc nD τ sig} {f : Buf (Elt F) ℓ} (q : PosShare TreeShare) :
    (ℓ ↦{q} f : sProp 𝕄) ⊣⊢ iprop((ℓ ↦{shareDrop q 16} f) ∗ bigSep Finset.univ (fun j : Fin 16 => (ℓ ↦{shareTokN q j.val} f : sProp 𝕄))) := by
  have : bigSep (Finset.range 16) (fun i => (ℓ ↦{shareTokN q i} f : sProp 𝕄)) = bigSep Finset.univ (fun j : Fin 16 => (ℓ ↦{shareTokN q j.val} f : sProp 𝕄)) := by
    refine Eq.trans (congrArg (fun s => bigSep s _) ?_) (bigSep_map (Fin.valEmbedding (n := 16)) (s := Finset.univ) (Φ := fun i => (ℓ ↦{shareTokN q i} f : sProp 𝕄)))
    ext x; simp only [Finset.mem_range, Finset.mem_map, Finset.mem_univ, true_and]
    exact ⟨fun h => ⟨⟨x, h⟩, rfl⟩, fun ⟨y, hy⟩ => hy ▸ y.isLt⟩
  rw [← this]
  exact pointsTo_toks_range q 16

/-- What a lane's rows read after its transfer. -/
theorem lane_read (ft : Buf (Elt F) (tab.view.loc (thr d i))) (v : IVec S16 32) (h : Fits n v) (fb : Buf (Elt F) (buf.view.loc (thr d i)))
    (j : Fin 16) (x : S128x32.Idx) (y : (ST n).Idx) (hx : (x 0).val / 8 = j.val) (h0 : (y 0).val = (laneOf v j).toNat) (h1 : (y 1).val = (x 0).val % 8)
    (h2 : (y 2).val = (x 1).val) :
    buf.view.read (Elt F) ((dstRows buf j).view.write (Elt F) fb ((laneSrc tab v h j).view.read (Elt F) ft) Finset.univ) x = tab.view.read (Elt F) ft y := by
  have hx1 : (x 1).val < 32 := (x 1).isLt
  set r := Rect.unit (s := S128x32) ![8 * j.val, 0] S8x32.size (rows_inb j) with hr
  obtain ⟨z, hz⟩ : ∃ z : S8x32.Idx, z = ix2 (⟨(x 0).val % 8, Nat.mod_lt _ (by decide)⟩ : Fin 8) (⟨(x 1).val, hx1⟩ : Fin 32) := ⟨_, rfl⟩
  have hxz : x = r.emb z := by
    funext a; apply Fin.ext; rw [Rect.emb_apply, hz]
    fin_cases a
    · show (x 0).val = 8 * j.val + 1 * ((x 0).val % 8); omega
    · show (x 1).val = 0 + 1 * (x 1).val; omega
  have e1 := View.read_slice_write_emb (v := buf.view) (Val := Elt F) r fb ((laneSrc tab v h j).view.read (Elt F) ft) (M := Finset.univ) (x := z) (Finset.mem_univ _)
  rw [← hxz] at e1
  refine e1.trans ?_
  show tab.view.read (Elt F) ft ((Rect.unit (s := ST n) ![(laneOf v j).toNat, 0, 0] S1x8x32.size (h j)).emb
    (Shape.reshapeEquiv squeezes_S1x8x32_S8x32.numel_eq z)) = _
  congr 1
  rw [hz, reshapeEquiv_ix2_1ab]
  funext a; apply Fin.ext; rw [Rect.emb_apply]
  fin_cases a
  · show (laneOf v j).toNat + 1 * 0 = (y 0).val; omega
  · show 0 + 1 * ((x 0).val % 8) = (y 1).val; omega
  · show 0 + 1 * (x 1).val = (y 2).val; omega

theorem wp_fire (ft : Buf (Elt F) (tab.view.loc (thr d i))) (q : PosShare TreeShare)
    (idx : Memref sig .scVector .vmem S512 .i32) (qi : PosShare TreeShare) (fi : Buf (Elt F) (idx.view.loc (thr d i)))
    (fb : Buf (Elt F) (buf.view.loc (thr d i))) (off : Fin 1 → ℕ) (hoff : ∀ a, off a + S16.size a ≤ S512.size a) (k : TProg F i)
    (h : Fits n (shrui (idx.view.readAt (Elt F) (Rect.unit (s := S512) off S16.size hoff).toLoadRect fi : IVec S16 32) (broadcast S16 3#32))) :
    iprop((tab.view.loc (thr d i) ↦{q} ft) ∗ (buf.view.loc (thr d i) ↦[buf.view.set]{fullShare} fb) ∗ (idx.view.loc (thr d i) ↦{qi} fi)
        ∗ semVal (thr d i, .dma sem.sem) 0)
      ⊢ iprop((iprop(InFlight EC d tab buf sem ft q (shrui (idx.view.readAt (Elt F) (Rect.unit (s := S512) off S16.size hoff).toLoadRect fi : IVec S16 32) (broadcast S16 3#32))
            ∗ (idx.view.loc (thr d i) ↦{qi} fi))
          -∗ wp frame (wpE defs 𝒱 (thr d i) bd) Set.univ k Q)
        -∗ wp frame (wpE defs 𝒱 (thr d i) bd) Set.univ (fire tab buf sem idx off hoff k) Q) := by
  unfold fire
  iintro ⟨Ht, Hb, Hi, Hv⟩ Hk
  iapply (wp_load 𝒱 (thr d i) bd Set.univ (m := idx) (S := Finset.univ) (Finset.subset_univ _)) $$ Hi
  iintro Hi
  imod (batch_alloc' EC (thr d i) none (NL buf) (laneDlv d tab buf ft q _ h fb)) $$ Hv with HB
  ihave Ht := (toks_fin (U := U) q).1 $$ Ht
  icases Ht with ⟨Hdrop, Htoks⟩
  ihave Htoks := (show _ ⊢ iprop(bigSep Finset.univ (fun j : Fin 16 => (tab.view.loc (thr d i) ↦[(laneSrc tab _ h j).view.set]{shareTokN q j.val} ft : sProp 𝕄))
      ∗ bigSep Finset.univ (fun j : Fin 16 => (tab.view.loc (thr d i) ↦[Finset.univ \ (laneSrc tab _ h j).view.set]{shareTokN q j.val} ft : sProp 𝕄)))
    from (bigSep_mono fun j _ => (pointsTo_split_subset (Finset.subset_univ _)).1).trans (Entails.of_eq (bigSep_sep' _ _ _))) $$ Htoks
  icases Htoks with ⟨Hsrc, Hcomp⟩
  ihave Hb := (Entails.of_eq (show _ = bigSep Finset.univ (fun j : Fin 16 => (buf.view.loc (thr d i) ↦[(dstRows buf j).view.set]{fullShare} fb : sProp 𝕄)) from by
    rw [← pointsTo_biUnion _ _ (fun j _ j' _ hne => disj_dstRows buf j j' hne), union_dstRows])) $$ Hb
  ihave HR := (Entails.of_eq (bigSep_sep' _ _ _).symm) $$ [Hb Hsrc]
  · isplitl [Hb]; · iexact Hb
    iexact Hsrc
  iapply (wp_fireLanes EC 𝒱 d bd tab buf sem ft q _ h fb k 16 0 rfl) $$ [HB HR]
  · isplitl [HB]; · iexact HB
    rw [pending_zero]; iexact HR
  iintro HB
  iapply Hk
  isplitr [Hi]
  · unfold InFlight
    iexists h, fb
    isplitl [HB]; · iexact HB
    isplitl [Hcomp]; · iexact Hcomp
    iexact Hdrop
  · iexact Hi

theorem wp_drain (ft : Buf (Elt F) (tab.view.loc (thr d i))) (q : PosShare TreeShare) (v : IVec S16 32) (h0 : tileFits n ![0, 0, 0])
    (O : CellTallies nD τ sig (HIx 1)) (W : Waits sig (HIx 1)) (k : TProg F i) :
    iprop(InFlight EC d tab buf sem ft q v ∗ MayWaits (thr d i) none O ∗ (∃ W', ⌜∀ p ∈ W', p ∈ W ∨ p.2 = none⌝ ∗ owes (thr d i) O W'))
      ⊢ iprop((iprop((tab.view.loc (thr d i) ↦{q} ft) ∗ (∃ g, ⌜Fetched d tab buf ft v g⌝ ∗ (buf.view.loc (thr d i) ↦[buf.view.set]{fullShare} g))
            ∗ semVal (thr d i, .dma sem.sem) 0 ∗ ∃ W', ⌜∀ p ∈ W', p ∈ W ∨ p.2 = none⌝ ∗ owes (thr d i) O W')
          -∗ wp frame (wpE defs 𝒱 (thr d i) bd) Set.univ k Q)
        -∗ wp frame (wpE defs 𝒱 (thr d i) bd) Set.univ (drain tab buf sem h0 k) Q) := by
  unfold drain InFlight
  iintro ⟨⟨%h, %fb, HB, Hcomp, Hdrop⟩, #HM, %W₁, %hW₁, HO⟩ Hk
  iapply (wp_drainLanes EC 𝒱 d bd tab buf sem (laneDlv d tab buf ft q v h fb) h0 O k 15 0 rfl W₁) $$ [HB HO]
  · isplitl [HB]; · rw [Nat.zero_mul]; iexact HB
    isplitl [HO]; · iexact HO
    iexact HM
  iintro ⟨HD, Hv, %W₂, %hW₂, HO⟩
  iapply Hk
  ihave HD := (show bigSep Finset.univ (laneDlv (U := U) d tab buf ft q v h fb) ⊢ _ from Entails.of_eq (bigSep_sep' _ _ _)) $$ HD
  icases HD with ⟨Hb, Hs⟩
  isplitl [Hs Hcomp Hdrop]
  · iapply (toks_fin (U := U) q).2
    isplitl [Hdrop]; · iexact Hdrop
    iapply (show iprop(bigSep Finset.univ (fun j : Fin 16 => (tab.view.loc (thr d i) ↦[(laneSrc tab v h j).view.set]{shareTokN q j.val} ft : sProp 𝕄))
        ∗ bigSep Finset.univ (fun j : Fin 16 => (tab.view.loc (thr d i) ↦[Finset.univ \ (laneSrc tab v h j).view.set]{shareTokN q j.val} ft : sProp 𝕄))) ⊢ _
      from (Entails.of_eq (bigSep_sep' _ _ _).symm).trans (bigSep_mono fun j _ => (pointsTo_split_subset (Finset.subset_univ _)).2))
    isplitl [Hs]; · iexact Hs
    iexact Hcomp
  isplitl [Hb]
  · ihave Hb := (pointsTo_biUnion_join Finset.univ (fun j : Fin 16 => (dstRows buf j).view.set)
      (fun j => (dstRows buf j).view.write (Elt F) fb ((laneSrc tab v h j).view.read (Elt F) ft) Finset.univ) fb
      (fun j _ j' _ hne => disj_dstRows buf j j' hne)) $$ Hb
    icases Hb with ⟨%g, %hg, Hb⟩
    iexists g; isplitr
    · ipureintro
      intro j x y hx h0 h1 h2
      rw [← lane_read d tab buf ft v h fb j x y hx h0 h1 h2]
      have hx0 : (x 0).val < 128 := (x 0).isLt
      have hx1 : (x 1).val < 32 := (x 1).isLt
      rw [View.read_apply, View.read_apply]
      congr 1
      refine hg j (Finset.mem_univ _) _ ?_
      rw [dstRows_set]
      refine Finset.mem_map_of_mem _ ?_
      rw [Rect.mem_set_unit]
      intro a; fin_cases a
      · simp [S8x32]; omega
      · simp [S8x32]; omega
    · rw [union_dstRows]; iexact Hb
  isplitl [Hv]; · iexact Hv
  iexists W₂; isplitr
  · ipureintro
    intro p hp
    rcases hW₂ p hp with h | h
    · exact hW₁ p h
    · exact .inr h
  · iexact HO

end Wp

end Cert.Proof
end
-- ==== Proof.Lanes.lean ====
/-
  The lane arithmetic of the gather: what the index vectors hold lane by lane, and an indexed store read at one element.
-/
module

public import proofs.«01_k».proof.Proof.Prog
public import Idealize.ShloMosaic.Lib.ValueLayout

@[expose] public section

noncomputable section

namespace Cert.Proof

open Cert.KernelIdeal Cert.KernelIdeal.Gen
open Idealize.ShloMosaic Idealize.SL.Sem

variable {F : FTy → Type} [FloatOps F]

/-- Lane `j` as a one-coordinate index. -/
abbrev lane16 (j : Fin 16) : S16.Idx := Shape.ofLane j

theorem lane16_zero (j : Fin 16) : ((lane16 j) 0).val = j.val := rfl

theorem laneOf_eq (v : IVec S16 32) (j : Fin 16) : laneOf v j = v (lane16 j) := by
  unfold laneOf extractAt extractStridedSlice
  congr 1
  funext a; apply Fin.ext
  obtain rfl : a = 0 := Fin.eq_zero a
  show j.val + 0 = j.val; rfl

theorem shr3_toNat (v : IVec S16 32) (x : S16.Idx) : (shrui v (broadcast S16 3#32) x).toNat = (v x).toNat / 8 := by
  show (IntOp.shrui _ (v x) 3#32).toNat = _
  unfold IntOp.shrui
  rw [if_pos (by decide)]
  show (v x >>> (3#32).toNat).toNat = _
  rw [BitVec.toNat_ushiftRight, Nat.shiftRight_eq_div_pow]
  rfl

theorem lanes_toNat (j : Fin 16) : (lanes (lane16 j)).toNat = j.val := by
  revert j; decide

theorem rowIn_toNat (v : IVec S16 32) (j : Fin 16) : (rowIn v (lane16 j)).toNat = 8 * j.val + (v (lane16 j)).toNat % 8 := by
  show (lanes (lane16 j) * 8#32 + (v (lane16 j) &&& 7#32)).toNat = _
  rw [BitVec.toNat_add, BitVec.toNat_mul, BitVec.toNat_and, lanes_toNat]
  have h7 : (7#32).toNat = 2 ^ 3 - 1 := by decide
  rw [h7, Nat.and_two_pow_sub_one_eq_mod]
  have := j.isLt
  have h8 : (8#32).toNat = 8 := by decide
  rw [h8]
  have : (v (lane16 j)).toNat % 2 ^ 3 < 8 := Nat.mod_lt _ (by decide)
  omega

theorem posOf_toNat (g : BitVec 32) (hg : g.toNat < 32) (j : Fin 16) : (posOf g (lane16 j)).toNat = 16 * g.toNat + j.val := by
  show (g * 16#32 + lanes (lane16 j)).toNat = _
  rw [BitVec.toNat_add, BitVec.toNat_mul, lanes_toNat]
  have := j.isLt
  have h16 : (16#32).toNat = 16 := by decide
  rw [h16]
  omega

theorem rowOut_toNat (g : BitVec 32) (hg : g.toNat < 32) (j : Fin 16) : (rowOut g (lane16 j)).toNat = (16 * g.toNat + j.val) / 4 := by
  show (IntOp.shrui _ (posOf g (lane16 j)) 2#32).toNat = _
  unfold IntOp.shrui
  rw [if_pos (by decide)]
  show (posOf g (lane16 j) >>> (2#32).toNat).toNat = _
  rw [BitVec.toNat_ushiftRight, Nat.shiftRight_eq_div_pow, posOf_toNat g hg]
  rfl

theorem colOut_toNat (g : BitVec 32) (hg : g.toNat < 32) (j : Fin 16) (w : ℕ) (hw : w < 32) :
    (addi (colOut g) (broadcast S16 (BitVec.ofNat 32 w)) (lane16 j)).toNat = ((16 * g.toNat + j.val) % 4) * 32 + w := by
  show ((posOf g (lane16 j) &&& 3#32) * 32#32 + BitVec.ofNat 32 w).toNat = _
  rw [BitVec.toNat_add, BitVec.toNat_mul, BitVec.toNat_and, posOf_toNat g hg]
  have h3 : (3#32).toNat = 2 ^ 2 - 1 := by decide
  rw [h3, Nat.and_two_pow_sub_one_eq_mod]
  have h32 : (32#32).toNat = 32 := by decide
  rw [h32, BitVec.toNat_ofNat]
  omega

/-- Every index of a sixteen-lane vector is a lane. -/
theorem eq_lane16 (x : S16.Idx) : x = lane16 ⟨(x 0).val, (x 0).isLt⟩ := by
  funext a; apply Fin.ext
  obtain rfl : a = 0 := Fin.eq_zero a
  rfl

/-! ## An indexed store at an element -/

theorem fold_keep {s : Shape} {e : EltTy} {d : Fin 1 → ℕ} (idxs : Fin s.rank → IVec ⟨1, d⟩ 32) (v : Vec F ⟨1, d⟩ e)
    (h : ∀ a x, (idxs a x).toNat < s.size a) (z : s.Idx) (l : List (Fin (d 0)))
    (f : Vec F s e) (hl : ∀ k ∈ l, ¬ ∀ a, (z a).val = (idxAt idxs h (Shape.ofLane k) a).val) :
    (l.foldl (fun g k => fun j => if (∀ a, (j a).val = (idxAt idxs h (Shape.ofLane k) a).val) then v (Shape.ofLane k) else g j) f) z = f z := by
  induction l generalizing f with
  | nil => rfl
  | cons k l ih =>
    rw [List.foldl_cons, ih _ fun k' hk' => hl k' (List.mem_cons_of_mem _ hk')]
    exact if_neg (hl k List.mem_cons_self)

theorem fold_take {s : Shape} {e : EltTy} {d : Fin 1 → ℕ} (idxs : Fin s.rank → IVec ⟨1, d⟩ 32) (v : Vec F ⟨1, d⟩ e)
    (h : ∀ a x, (idxs a x).toNat < s.size a) (z : s.Idx) (l : List (Fin (d 0))) (k₀ : Fin (d 0)) (hk₀ : k₀ ∈ l)
    (hz : ∀ a, (z a).val = (idxAt idxs h (Shape.ofLane k₀) a).val)
    (hu : ∀ k, (∀ a, (z a).val = (idxAt idxs h (Shape.ofLane k) a).val) → k = k₀) (f : Vec F s e) :
    (l.foldl (fun g k => fun j => if (∀ a, (j a).val = (idxAt idxs h (Shape.ofLane k) a).val) then v (Shape.ofLane k) else g j) f) z = v (Shape.ofLane k₀) := by
  induction l generalizing f with
  | nil => exact absurd hk₀ List.not_mem_nil
  | cons k l ih =>
    rw [List.foldl_cons]
    by_cases hm : k₀ ∈ l
    · exact ih hm _
    · obtain rfl : k₀ = k := by
        rcases List.mem_cons.mp hk₀ with h' | h'
        · exact h'
        · exact absurd h' hm
      rw [fold_keep idxs v h z l _ fun k' hk' hc => hm (hu k' hc ▸ hk')]
      exact if_pos hz

theorem storeIdx_eq {s : Shape} {e : EltTy} {d : Fin 1 → ℕ} (f : Vec F s e) (idxs : Fin s.rank → IVec ⟨1, d⟩ 32) (v : Vec F ⟨1, d⟩ e)
    (h : ∀ a x, (idxs a x).toNat < s.size a) :
    storeIdx f idxs v (fun _ => 1#1) false h
      = (List.finRange (d 0)).foldl (fun g k => fun j => if (∀ a, (j a).val = (idxAt idxs h (Shape.ofLane k) a).val) then v (Shape.ofLane k) else g j) f := by
  unfold storeIdx
  congr 1
  funext g k
  dsimp only
  rw [if_pos (show (1#1 : BitVec 1) = 1 from rfl)]
  funext j
  rw [if_neg (show ¬ (false = true) from Bool.false_ne_true)]
  split <;> rfl

/-- No lane names the element: it stays. -/
theorem storeIdx_keep {s : Shape} {e : EltTy} {d : Fin 1 → ℕ} (f : Vec F s e) (idxs : Fin s.rank → IVec ⟨1, d⟩ 32) (v : Vec F ⟨1, d⟩ e)
    (h : ∀ a x, (idxs a x).toNat < s.size a) (z : s.Idx) (hz : ∀ k, ¬ ∀ a, (z a).val = (idxs a (Shape.ofLane k)).toNat) :
    storeIdx f idxs v (fun _ => 1#1) false h z = f z := by
  rw [storeIdx_eq]; exact fold_keep idxs v h z _ f fun k _ => hz k

/-- One lane names it: it takes that lane's value. -/
theorem storeIdx_take {s : Shape} {e : EltTy} {d : Fin 1 → ℕ} (f : Vec F s e) (idxs : Fin s.rank → IVec ⟨1, d⟩ 32) (v : Vec F ⟨1, d⟩ e)
    (h : ∀ a x, (idxs a x).toNat < s.size a) (z : s.Idx) (k₀ : Fin (d 0)) (hz : ∀ a, (z a).val = (idxs a (Shape.ofLane k₀)).toNat)
    (hu : ∀ k, (∀ a, (z a).val = (idxs a (Shape.ofLane k)).toNat) → k = k₀) :
    storeIdx f idxs v (fun _ => 1#1) false h z = v (Shape.ofLane k₀) := by
  rw [storeIdx_eq]; exact fold_take idxs v h z _ k₀ (List.mem_finRange _) hz hu f

/-! ## The trips' groups -/

theorem grpA_toNat : ∀ t : Trip, (grpA t).toNat = 2 * t.val := by decide
theorem grpB_toNat : ∀ t : Trip, (grpB t).toNat = 2 * t.val + 1 := by decide

end Cert.Proof
end
-- ==== Proof.Spread.lean ====
/-
  A group's rows moved to the packed rows (`wp_spread`): thirty-two words, each an indexed load of the sixteen lanes' word
  and an indexed store of it at the lanes' places.
-/
module

public import proofs.«01_k».proof.Proof.Fetch
public import proofs.«01_k».proof.Proof.Lanes

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F]

/-- The gathered index a packed element belongs to (four rows of thirty-two words to a packed row), and its word. -/
abbrev posAt (z : S128x128.Idx) : ℕ := 4 * (z 0).val + (z 1).val / 32
abbrev wordAt (z : S128x128.Idx) : ℕ := (z 1).val % 32

section
variable {i : grid0.Coords} {U : Type} [URA U] (d : Dev nD)
variable {n : ℕ} (tab : Memref sig .scVector .hbm (ST n) .f32) (buf : Memref sig .scVector .vmem S128x32 .f32)
  (out : Memref sig .scVector .vmem S128x128 .f32)

/-- Group `g`'s elements below word `w` hold the lanes' rows; the other groups' are as in `O₀`. -/
def SpreadTo (ft : Buf (Elt F) (tab.view.loc (thr d i))) (v : IVec S16 32) (g w : ℕ) (O₀ O : Buf (Elt F) (out.view.loc (thr d i))) : Prop :=
  (∀ z, posAt z / 16 ≠ g → out.view.read (Elt F) O z = out.view.read (Elt F) O₀ z)
  ∧ ∀ (j : Fin 16) z, posAt z = 16 * g + j.val → wordAt z < w → ∀ y : (ST n).Idx, (y 0).val = (v (lane16 j)).toNat / 8 → (y 1).val = (v (lane16 j)).toNat % 8 →
      (y 2).val = wordAt z → out.view.read (Elt F) O z = tab.view.read (Elt F) ft y

variable (EC : UEmb Counters (MT nD τ sig (HIx 1) (Elt F) ℕ U ℕ)) [EC.LandsIn (upEmb : UEmb _ (MT nD τ sig (HIx 1) (Elt F) ℕ U ℕ))]
variable {defs : Defs nD τ sig (Elt F) Λ₀} (𝒱 : Variants) (bd : Option 𝒱.V)
variable {Q : PUnit → sProp (MT nD τ sig (HIx 1) (Elt F) ℕ U ℕ)}
local notation "𝕄" => MT nD τ sig (HIx 1) (Elt F) ℕ U ℕ

theorem rowIn_box (v : IVec S16 32) (w : ℕ) (hw : w < 32) : inBox S128x32 ![rowIn v, broadcast S16 (BitVec.ofNat 32 w)] := by
  intro a x
  rw [eq_lane16 x]
  generalize (⟨(x 0).val, (x 0).isLt⟩ : Fin 16) = j
  fin_cases a
  · show (rowIn v (lane16 j)).toNat < 128
    rw [rowIn_toNat]
    have := j.isLt
    have : (v (lane16 j)).toNat % 8 < 8 := Nat.mod_lt _ (by decide)
    omega
  · show (BitVec.ofNat 32 w).toNat < 32
    rw [BitVec.toNat_ofNat]; omega

theorem rowOut_box (g : BitVec 32) (hg : g.toNat < 32) (w : ℕ) (hw : w < 32) :
    inBox S128x128 ![rowOut g, addi (colOut g) (broadcast S16 (BitVec.ofNat 32 w))] := by
  intro a x
  rw [eq_lane16 x]
  generalize (⟨(x 0).val, (x 0).isLt⟩ : Fin 16) = j
  have := j.isLt
  fin_cases a
  · show (rowOut g (lane16 j)).toNat < 128
    rw [rowOut_toNat g hg]; omega
  · show (addi (colOut g) (broadcast S16 (BitVec.ofNat 32 w)) (lane16 j)).toNat < 128
    rw [colOut_toNat g hg j w hw]; omega

/-- One word's move takes `SpreadTo` at `w` to `w + 1`. -/
theorem spreadTo_step (ft : Buf (Elt F) (tab.view.loc (thr d i))) (v : IVec S16 32) (g : BitVec 32) (hg : g.toNat < 32) (w : ℕ) (hw : w < 32)
    (fb : Buf (Elt F) (buf.view.loc (thr d i))) (hfb : Fetched d tab buf ft (shrui v (broadcast S16 3#32)) fb)
    (O₀ O O' : Buf (Elt F) (out.view.loc (thr d i))) (hO : SpreadTo d tab out ft v g.toNat w O₀ O)
    (hO' : out.view.read (Elt F) O' = storeIdx (out.view.read (Elt F) O) ![rowOut g, addi (colOut g) (broadcast S16 (BitVec.ofNat 32 w))]
      (loadIdx (buf.view.read (Elt F) fb) ![rowIn v, broadcast S16 (BitVec.ofNat 32 w)] (rowIn_box v w hw)) (fun _ => 1#1) false (rowOut_box g hg w hw)) :
    SpreadTo d tab out ft v g.toNat (w + 1) O₀ O' := by
  -- the lane that names an element
  have hit : ∀ (k : Fin 16) (z : S128x128.Idx), (∀ a, (z a).val = ((![rowOut g, addi (colOut g) (broadcast S16 (BitVec.ofNat 32 w))] : Fin 2 → IVec S16 32) a (Shape.ofLane k)).toNat)
      ↔ posAt z = 16 * g.toNat + k.val ∧ wordAt z = w := by
    intro k z
    have h1 : (z 1).val < 128 := (z 1).isLt
    have hk := k.isLt
    constructor
    · intro h
      have a0 := (h 0).trans (rowOut_toNat g hg k)
      have a1 := (h 1).trans (colOut_toNat g hg k w hw)
      show 4 * (z 0).val + (z 1).val / 32 = _ ∧ (z 1).val % 32 = w
      omega
    · intro ⟨hp, hwz⟩
      change 4 * (z 0).val + (z 1).val / 32 = _ at hp
      change (z 1).val % 32 = w at hwz
      intro a; fin_cases a
      · refine Eq.trans ?_ (rowOut_toNat g hg k).symm
        show (z 0).val = _; omega
      · refine Eq.trans ?_ (colOut_toNat g hg k w hw).symm
        show (z 1).val = _; omega
  refine ⟨fun z hz => ?_, fun j z hp hwz y h0 h1 h2 => ?_⟩
  · rw [hO', storeIdx_keep _ _ _ _ z fun k hc => ?_]
    · exact hO.1 z hz
    · have := ((hit k z).mp hc).1
      have hk : k.val < 16 := k.isLt
      omega
  · rcases Nat.lt_or_ge (wordAt z) w with hlt | hge
    · rw [hO', storeIdx_keep _ _ _ _ z fun k hc => ?_]
      · exact hO.2 j z hp hlt y h0 h1 h2
      · have := ((hit k z).mp hc).2; omega
    · have hwz' : wordAt z = w := by omega
      rw [hO', storeIdx_take _ _ _ _ z j ((hit j z).mpr ⟨hp, hwz'⟩) fun k hc => Fin.ext (by have := ((hit k z).mp hc).1; omega)]
      show buf.view.read (Elt F) fb (idxAt _ _ (lane16 j)) = _
      have e0 : ((idxAt (s := S128x32) ![rowIn v, broadcast S16 (BitVec.ofNat 32 w)] (rowIn_box v w hw) (lane16 j)) 0).val = 8 * j.val + (v (lane16 j)).toNat % 8 := rowIn_toNat v j
      have e1 : ((idxAt (s := S128x32) ![rowIn v, broadcast S16 (BitVec.ofNat 32 w)] (rowIn_box v w hw) (lane16 j)) 1).val = w := by
        show (BitVec.ofNat 32 w).toNat = w
        rw [BitVec.toNat_ofNat]; omega
      refine hfb j _ y ?_ ?_ ?_ ?_
      · rw [e0]; omega
      · rw [laneOf_eq, shr3_toNat]; exact h0
      · rw [e0, h1]; omega
      · rw [e1, h2]; exact hwz'

theorem access_set {s : Shape} {e : EltTy} (m : Memref sig .scVector .vmem s e) : (m.access (.whole s)).set = m.view.set := by
  show (m.view.slice _).set = _
  rw [View.set_slice, Rect.set_whole]; rfl
theorem access_read {s : Shape} {e : EltTy} (m : Memref sig .scVector .vmem s e) (f : m.view.ty.Contents (Elt F)) :
    (m.access (.whole s)).read (Elt F) f = m.view.read (Elt F) f := by
  funext x
  show m.view.read (Elt F) f ((Rect.whole s).emb x) = _
  rw [Rect.emb_whole_apply]

theorem access_write {s : Shape} {e : EltTy} (m : Memref sig .scVector .vmem s e) (f : m.view.ty.Contents (Elt F)) (w : Vec F s e) :
    m.view.read (Elt F) ((m.access (.whole s)).write (Elt F) f w Finset.univ) = w := by
  rw [← access_read]; exact View.read_write_univ _ _

theorem wp_spreadWords (ft : Buf (Elt F) (tab.view.loc (thr d i))) (v : IVec S16 32) (g : BitVec 32) (hg : g.toNat < 32)
    (fb : Buf (Elt F) (buf.view.loc (thr d i))) (hfb : Fetched d tab buf ft (shrui v (broadcast S16 3#32)) fb)
    (O₀ : Buf (Elt F) (out.view.loc (thr d i))) (k : TProg F i) (r w : ℕ) (hr : w + r = 32)
    (O : Buf (Elt F) (out.view.loc (thr d i))) (hO : SpreadTo d tab out ft v g.toNat w O₀ O) :
    iprop((buf.view.loc (thr d i) ↦[buf.view.set]{fullShare} fb) ∗ (out.view.loc (thr d i) ↦[out.view.set]{fullShare} O))
      ⊢ iprop((iprop((buf.view.loc (thr d i) ↦[buf.view.set]{fullShare} fb)
            ∗ ∃ O, ⌜SpreadTo d tab out ft v g.toNat 32 O₀ O⌝ ∗ (out.view.loc (thr d i) ↦[out.view.set]{fullShare} O))
          -∗ wp frame (wpE defs 𝒱 (thr d i) bd) Set.univ k Q)
        -∗ wp (M := 𝕄) frame (wpE defs 𝒱 (thr d i) bd) Set.univ (seqN (spreadWord buf out (rowIn v) (rowOut g) (colOut g)) r w k) Q) := by
  induction r generalizing w O with
  | zero =>
    obtain rfl : w = 32 := by omega
    iintro ⟨Hb, Ho⟩ Hk
    iapply Hk
    isplitl [Hb]; · iexact Hb
    iexists O; isplitr
    · ipureintro; exact hO
    · iexact Ho
  | succ r ih =>
    have hw : w < 32 := by omega
    show _ ⊢ iprop(_ -∗ wp _ _ _ (spreadWord buf out (rowIn v) (rowOut g) (colOut g) w
      (seqN (spreadWord buf out (rowIn v) (rowOut g) (colOut g)) r (w + 1) k)) Q)
    unfold spreadWord
    rw [wp_assume_of _ _ _ _ (rowIn_box v w hw)]
    iintro ⟨Hb, Ho⟩ Hk
    iapply (SparseCore.wp_vectorLoadIdx 𝒱 (thr d i) bd Set.univ (base := buf) (q := fullShare) (f := fb) (S := buf.view.set) (access_set buf).le) $$ [Hb]
    · iexact Hb
    iintro Hb
    rw [wp_assume_of _ _ _ _ (rowOut_box g hg w hw)]
    iapply (SparseCore.wp_vectorStoreIdx 𝒱 (thr d i) bd Set.univ (base := out) (f := O)) $$ [Ho]
    · rw [access_set]; iexact Ho
    iintro Ho
    iapply (ih (w + 1) (by omega) ((out.access (.whole S128x128)).write (Elt F) O
        (storeIdx ((out.access (.whole S128x128)).read (Elt F) O) ![rowOut g, addi (colOut g) (broadcast S16 (BitVec.ofNat 32 w))]
          (loadIdx ((buf.access (.whole S128x32)).read (Elt F) fb) ![rowIn v, broadcast S16 (BitVec.ofNat 32 w)] (rowIn_box v w hw)) (fun _ => 1#1) false
          (rowOut_box g hg w hw)) Finset.univ)
      (spreadTo_step d tab buf out ft v g hg w hw fb hfb O₀ O _ hO
        ((access_write out O _).trans (by rw [access_read, access_read])))) $$ [Hb Ho]
    · isplitl [Hb]; · iexact Hb
      rw [access_set]; iexact Ho
    iexact Hk

theorem wp_spread (ft : Buf (Elt F) (tab.view.loc (thr d i)))
    (idx : Memref sig .scVector .vmem S512 .i32) (qi : PosShare TreeShare) (fi : Buf (Elt F) (idx.view.loc (thr d i)))
    (off : Fin 1 → ℕ) (hoff : ∀ a, off a + S16.size a ≤ S512.size a) (g : BitVec 32) (hg : g.toNat < 32)
    (v : IVec S16 32) (hv : (idx.view.readAt (Elt F) (Rect.unit (s := S512) off S16.size hoff).toLoadRect fi : IVec S16 32) = v)
    (fb : Buf (Elt F) (buf.view.loc (thr d i))) (hfb : Fetched d tab buf ft (shrui v (broadcast S16 3#32)) fb)
    (O₀ : Buf (Elt F) (out.view.loc (thr d i))) (k : TProg F i) :
    iprop((buf.view.loc (thr d i) ↦[buf.view.set]{fullShare} fb) ∗ (idx.view.loc (thr d i) ↦{qi} fi) ∗ (out.view.loc (thr d i) ↦[out.view.set]{fullShare} O₀))
      ⊢ iprop((iprop((buf.view.loc (thr d i) ↦[buf.view.set]{fullShare} fb) ∗ (idx.view.loc (thr d i) ↦{qi} fi)
            ∗ ∃ O, ⌜SpreadTo d tab out ft v g.toNat 32 O₀ O⌝ ∗ (out.view.loc (thr d i) ↦[out.view.set]{fullShare} O))
          -∗ wp frame (wpE defs 𝒱 (thr d i) bd) Set.univ k Q)
        -∗ wp (M := 𝕄) frame (wpE defs 𝒱 (thr d i) bd) Set.univ (spread buf out idx off hoff g k) Q) := by
  subst hv
  unfold spread
  iintro ⟨Hb, Hi, Ho⟩ Hk
  iapply (wp_load 𝒱 (thr d i) bd Set.univ (m := idx) (S := Finset.univ) (Finset.subset_univ _)) $$ Hi
  iintro Hi
  iapply (wp_spreadWords d tab buf out 𝒱 bd ft _ g hg fb hfb O₀ k 32 0 rfl O₀ ⟨fun _ _ => rfl, fun _ _ _ h => absurd h (Nat.not_lt_zero _)⟩) $$ [Hb Ho]
  · isplitl [Hb]; · iexact Hb
    iexact Ho
  iintro ⟨Hb, Ho⟩
  iapply Hk
  isplitl [Hb]; · iexact Hb
  isplitl [Hi]; · iexact Hi
  iexact Ho

end

end Cert.Proof
end
-- ==== Proof.Trip.lean ====
/-
  The gather's loop: a group fetched while its predecessor is drained and spread. The packed rows carry what every group
  before the current one has left in them (`Good`).
-/
module

public import proofs.«01_k».proof.Proof.Spread

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F]

section
variable {i : grid0.Coords} {U : Type} [URA U] (d : Dev nD)
variable {n : ℕ} (tab : Memref sig .scVector .hbm (ST n) .f32) (buf : Memref sig .scVector .vmem S128x32 .f32)
  (out : Memref sig .scVector .vmem S128x128 .f32) (idx : Memref sig .scVector .vmem S512 .i32) (sem : DmaSems sig S_)

/-- The tile's index number `p`. -/
def idxAt' (fi : Buf (Elt F) (idx.view.loc (thr d i))) (p : ℕ) : BitVec 32 :=
  if h : p < 512 then (idx.view.read (Elt F) fi : S512.Idx → BitVec 32) (Shape.ofLane (d := ![512]) ⟨p, h⟩) else 0#32

/-- Group `g`'s sixteen indices. -/
def grpVec (fi : Buf (Elt F) (idx.view.loc (thr d i))) (g : ℕ) : IVec S16 32 := fun x => idxAt' d idx fi (16 * g + (x 0).val)

theorem readAt_grp (fi : Buf (Elt F) (idx.view.loc (thr d i))) (g : ℕ) (hg : g < 32) (off : Fin 1 → ℕ) (hoff : ∀ a, off a + S16.size a ≤ S512.size a)
    (ho : off 0 = 16 * g) :
    (idx.view.readAt (Elt F) (Rect.unit (s := S512) off S16.size hoff).toLoadRect fi : IVec S16 32) = grpVec d idx fi g := by
  funext x
  have hx : (x 0).val < 16 := (x 0).isLt
  unfold grpVec idxAt'
  rw [dif_pos (show 16 * g + (x 0).val < 512 by omega)]
  show (idx.view.read (Elt F) fi : S512.Idx → BitVec 32) _ = _
  congr 1
  funext a; apply Fin.ext
  obtain rfl : a = 0 := Fin.eq_zero a
  show off 0 + 1 * (x 0).val = 16 * g + (x 0).val
  omega

/-- Every index is of the table. -/
def InTab (n : ℕ) (fi : Buf (Elt F) (idx.view.loc (thr d i))) : Prop := ∀ p < 512, (idxAt' d idx fi p).toNat < 8 * n

theorem fits_grp (fi : Buf (Elt F) (idx.view.loc (thr d i))) (h : InTab d idx n fi) (g : ℕ) (hg : g < 32) :
    Fits n (shrui (grpVec d idx fi g) (broadcast S16 3#32)) := by
  intro j
  have hj := j.isLt
  have := h (16 * g + j.val) (by omega)
  rw [laneOf_eq, shr3_toNat]
  have e : (grpVec d idx fi g (lane16 j)) = idxAt' d idx fi (16 * g + j.val) := rfl
  rw [e]
  intro a; fin_cases a
  · show (idxAt' d idx fi (16 * g + j.val)).toNat / 8 + 1 ≤ n; omega
  · show 0 + 8 ≤ 8; omega
  · show 0 + 32 ≤ 32; omega

/-- The groups below `g` are in place. -/
def Good (ft : Buf (Elt F) (tab.view.loc (thr d i))) (fi : Buf (Elt F) (idx.view.loc (thr d i))) (g : ℕ) (O : Buf (Elt F) (out.view.loc (thr d i))) : Prop :=
  ∀ z, posAt z < 16 * g → ∀ y : (ST n).Idx, (y 0).val = (idxAt' d idx fi (posAt z)).toNat / 8 → (y 1).val = (idxAt' d idx fi (posAt z)).toNat % 8 →
    (y 2).val = wordAt z → out.view.read (Elt F) O z = tab.view.read (Elt F) ft y

theorem good_zero (ft : Buf (Elt F) (tab.view.loc (thr d i))) (fi : Buf (Elt F) (idx.view.loc (thr d i))) (O : Buf (Elt F) (out.view.loc (thr d i))) :
    Good d tab out idx ft fi 0 O := fun _ h => absurd h (Nat.not_lt_zero _)

theorem good_succ (ft : Buf (Elt F) (tab.view.loc (thr d i))) (fi : Buf (Elt F) (idx.view.loc (thr d i))) (g : ℕ) (O₀ O : Buf (Elt F) (out.view.loc (thr d i)))
    (h₀ : Good d tab out idx ft fi g O₀) (h : SpreadTo d tab out ft (grpVec d idx fi g) g 32 O₀ O) : Good d tab out idx ft fi (g + 1) O := by
  intro z hz y h0 h1 h2
  rcases Nat.lt_or_ge (posAt z) (16 * g) with hlt | hge
  · rw [h.1 z (by omega)]; exact h₀ z hlt y h0 h1 h2
  · have hj : posAt z - 16 * g < 16 := by omega
    have e : grpVec d idx fi g (lane16 ⟨posAt z - 16 * g, hj⟩) = idxAt' d idx fi (posAt z) := by
      show idxAt' d idx fi (16 * g + (posAt z - 16 * g)) = _
      congr 1; omega
    exact h.2 ⟨posAt z - 16 * g, hj⟩ z (by show posAt z = 16 * g + (posAt z - 16 * g); omega) (Nat.mod_lt _ (by decide)) y
      (by rw [e]; exact h0) (by rw [e]; exact h1) h2

variable (EC : UEmb Counters (MT nD τ sig (HIx 1) (Elt F) ℕ U ℕ)) [EC.LandsIn (upEmb : UEmb _ (MT nD τ sig (HIx 1) (Elt F) ℕ U ℕ))]
variable {defs : Defs nD τ sig (Elt F) Λ₀} (𝒱 : Variants) (bd : Option 𝒱.V)
variable {Q : PUnit → sProp (MT nD τ sig (HIx 1) (Elt F) ℕ U ℕ)}
local notation "𝕄" => MT nD τ sig (HIx 1) (Elt F) ℕ U ℕ

/-- A buffer at rest: its share of the table, the buffer at some contents, its cell at zero. -/
def Idle (ft : Buf (Elt F) (tab.view.loc (thr d i))) (q : PosShare TreeShare) : sProp 𝕄 :=
  iprop((tab.view.loc (thr d i) ↦{q} ft) ∗ (∃ fb, buf.view.loc (thr d i) ↦[buf.view.set]{fullShare} fb) ∗ semVal (thr d i, .dma sem.sem) 0)

/-- The packed rows with the groups below `g` in place. -/
def Packed (ft : Buf (Elt F) (tab.view.loc (thr d i))) (fi : Buf (Elt F) (idx.view.loc (thr d i))) (g : ℕ) : sProp 𝕄 :=
  iprop(∃ O, ⌜Good d tab out idx ft fi g O⌝ ∗ (out.view.loc (thr d i) ↦[out.view.set]{fullShare} O))

/-- What the thread owes, its waits those of `W` and others at the index `none`. -/
def Owing (d : Dev nD) (i : grid0.Coords) (O : CellTallies nD τ sig (HIx 1)) (W : Waits sig (HIx 1)) : sProp 𝕄 :=
  iprop(∃ W', ⌜∀ p ∈ W', p ∈ W ∨ p.2 = none⌝ ∗ owes (thr d i) O W')

theorem wp_fireG (ft : Buf (Elt F) (tab.view.loc (thr d i))) (q : PosShare TreeShare) (fi : Buf (Elt F) (idx.view.loc (thr d i)))
    (hI : InTab d idx n fi) (g : ℕ) (hg : g < 32) (off : Fin 1 → ℕ) (hoff : ∀ a, off a + S16.size a ≤ S512.size a) (ho : off 0 = 16 * g) (k : TProg F i) :
    iprop(Idle d tab buf sem ft q ∗ (idx.view.loc (thr d i) ↦{fullShare} fi))
      ⊢ iprop((iprop(InFlight EC d tab buf sem ft q (shrui (grpVec d idx fi g) (broadcast S16 3#32)) ∗ (idx.view.loc (thr d i) ↦{fullShare} fi))
          -∗ wp frame (wpE defs 𝒱 (thr d i) bd) Set.univ k Q)
        -∗ wp (M := 𝕄) frame (wpE defs 𝒱 (thr d i) bd) Set.univ (fire tab buf sem idx off hoff k) Q) := by
  unfold Idle
  iintro ⟨⟨Ht, ⟨%fb, Hb⟩, Hv⟩, Hi⟩ Hk
  have key := wp_fire EC 𝒱 (defs := defs) (Q := Q) d bd tab buf sem ft q idx fullShare fi fb off hoff k (by
    rw [readAt_grp d idx fi g hg off hoff ho]; exact fits_grp d idx fi hI g hg)
  rw [readAt_grp d idx fi g hg off hoff ho] at key
  iapply key $$ [Ht Hb Hi Hv]
  · isplitl [Ht]; · iexact Ht
    isplitl [Hb]; · iexact Hb
    isplitl [Hi]; · iexact Hi
    iexact Hv
  iexact Hk

theorem wp_land (ft : Buf (Elt F) (tab.view.loc (thr d i))) (q : PosShare TreeShare) (fi : Buf (Elt F) (idx.view.loc (thr d i)))
    (h0 : tileFits n ![0, 0, 0]) (g : ℕ) (hg : g < 32) (off : Fin 1 → ℕ) (hoff : ∀ a, off a + S16.size a ≤ S512.size a) (ho : off 0 = 16 * g)
    (gw : BitVec 32) (hgw : gw.toNat = g) (O : CellTallies nD τ sig (HIx 1)) (W : Waits sig (HIx 1)) (k : TProg F i) :
    iprop(InFlight EC d tab buf sem ft q (shrui (grpVec d idx fi g) (broadcast S16 3#32)) ∗ (idx.view.loc (thr d i) ↦{fullShare} fi)
        ∗ Packed d tab out idx ft fi g ∗ MayWaits (thr d i) none O ∗ Owing d i O W)
      ⊢ iprop((iprop(Idle d tab buf sem ft q ∗ (idx.view.loc (thr d i) ↦{fullShare} fi) ∗ Packed d tab out idx ft fi (g + 1) ∗ Owing d i O W)
          -∗ wp frame (wpE defs 𝒱 (thr d i) bd) Set.univ k Q)
        -∗ wp (M := 𝕄) frame (wpE defs 𝒱 (thr d i) bd) Set.univ (drain tab buf sem h0 (spread buf out idx off hoff gw k)) Q) := by
  subst hgw
  unfold Packed Owing
  iintro ⟨HF, Hi, ⟨%O₀, %hO₀, Ho⟩, HM, HO⟩ Hk
  iapply (wp_drain EC 𝒱 (defs := defs) d bd tab buf sem ft q _ h0 O W) $$ [HF HM HO]
  · isplitl [HF]; · iexact HF
    isplitl [HM]; · iexact HM
    iexact HO
  iintro ⟨Ht, ⟨%fb, %hfb, Hb⟩, Hv, HO⟩
  iapply (wp_spread d tab buf out 𝒱 bd ft idx fullShare fi off hoff gw hg _ (readAt_grp d idx fi _ hg off hoff ho) fb hfb O₀) $$ [Hb Hi Ho]
  · isplitl [Hb]; · iexact Hb
    isplitl [Hi]; · iexact Hi
    iexact Ho
  iintro ⟨Hb, Hi, ⟨%O₁, %hO₁, Ho⟩⟩
  iapply Hk
  unfold Idle
  isplitl [Ht Hb Hv]
  · isplitl [Ht]; · iexact Ht
    isplitl [Hb]; · iexists fb; iexact Hb
    iexact Hv
  isplitl [Hi]; · iexact Hi
  isplitl [Ho]
  · iexists O₁; isplitr
    · ipureintro; exact good_succ d tab out idx ft fi _ O₀ O₁ hO₀ hO₁
    · iexact Ho
  iexact HO

end

/-! ## The loop -/

theorem trips_eq : k0_t1_loop.trips = 16 := by decide

section Rule
variable {i : grid0.Coords} {U : Type} [URA U] (d : Dev nD) {defs : Defs nD τ sig (Elt F) Λ₀} (𝒱 : Variants) (bd : Option 𝒱.V)
variable {Q : PUnit → sProp (MT nD τ sig (HIx 1) (Elt F) ℕ U ℕ)}
local notation "𝕄" => MT nD τ sig (HIx 1) (Elt F) ℕ U ℕ

/-- A body's sixteen trips by an invariant. -/
theorem wp_trips (body : Trip → TProg F i) (I : ℕ → sProp 𝕄)
    (hb : ∀ t : Trip, I t.val ⊢ wp frame (wpE defs 𝒱 (thr d i) bd) Set.univ (body t) fun _ => I (t.val + 1)) (k : TProg F i) :
    I 0 ⊢ iprop((I 16 -∗ wp frame (wpE defs 𝒱 (thr d i) bd) Set.univ k Q)
        -∗ wp (M := 𝕄) frame (wpE defs 𝒱 (thr d i) bd) Set.univ (Scf.Loop.for k0_t1_loop k0_t1_ok PUnit.unit (fun t _ => body t) >>= fun _ => k) Q) := by
  have key := Scf.wp_for_bind (M := 𝕄) (E := TEff F i) frame (wpE defs 𝒱 (thr d i) bd) Set.univ k0_t1_loop.lb k0_t1_loop.ub k0_t1_loop.st k0_t1_ok PUnit.unit
    (fun t _ => body t) (fun t _ => I t) (fun t _ => hb t) (kk := fun _ => k) (Q := Q)
  have e : I (Scf.trips k0_t1_loop.lb k0_t1_loop.ub k0_t1_loop.st) = I 16 := congrArg I trips_eq
  iintro H Hk
  iapply key $$ H
  iintro %_ H
  ihave H' := (Entails.of_eq e) $$ H
  iapply Hk; iexact H'

end Rule

section Loop
variable {i : grid0.Coords} {U : Type} [URA U] (d : Dev nD)
variable (arg4 : Memref sig .scVector .hbm S125000x8x32 .f32) (arg5 : Memref sig .scVector .hbm S12500x8x32 .f32)
  (arg8 : Memref sig .scVector .vmem S512 .i32) (arg9 : Memref sig .scVector .vmem S512 .i32)
  (arg10 arg11 arg12 arg13 : Memref sig .scVector .vmem S128x32 .f32) (arg14 arg15 : Memref sig .scVector .vmem S128x128 .f32)
  (arg16 arg17 arg18 arg19 : DmaSems sig S_)
variable (EC : UEmb Counters (MT nD τ sig (HIx 1) (Elt F) ℕ U ℕ)) [EC.LandsIn (upEmb : UEmb _ (MT nD τ sig (HIx 1) (Elt F) ℕ U ℕ))]
variable {defs : Defs nD τ sig (Elt F) Λ₀} (𝒱 : Variants) (bd : Option 𝒱.V)
variable {Q : PUnit → sProp (MT nD τ sig (HIx 1) (Elt F) ℕ U ℕ)}
variable (f4 : Buf (Elt F) (arg4.view.loc (thr d i))) (f5 : Buf (Elt F) (arg5.view.loc (thr d i)))
  (f8 : Buf (Elt F) (arg8.view.loc (thr d i))) (f9 : Buf (Elt F) (arg9.view.loc (thr d i))) (q₀ q₁ : PosShare TreeShare)
  (O : CellTallies nD τ sig (HIx 1)) (W : Waits sig (HIx 1))
local notation "𝕄" => MT nD τ sig (HIx 1) (Elt F) ℕ U ℕ

/-- The even buffers before trip `t`: group `2 t` in flight, nothing after the last trip. -/
def Even (t : ℕ) : sProp 𝕄 :=
  if t < 16 then iprop(InFlight EC d arg4 arg10 arg16 f4 q₀ (shrui (grpVec d arg8 f8 (2 * t)) (broadcast S16 3#32))
      ∗ InFlight EC d arg5 arg12 arg18 f5 q₀ (shrui (grpVec d arg9 f9 (2 * t)) (broadcast S16 3#32)))
  else iprop(Idle d arg4 arg10 arg16 f4 q₀ ∗ Idle d arg5 arg12 arg18 f5 q₀)

/-- The loop's invariant. -/
def LoopInv (t : ℕ) : sProp 𝕄 :=
  iprop(Even d arg4 arg5 arg8 arg9 arg10 arg12 arg16 arg18 EC f4 f5 f8 f9 q₀ t
    ∗ Idle d arg4 arg11 arg17 f4 q₁ ∗ Idle d arg5 arg13 arg19 f5 q₁
    ∗ (arg8.view.loc (thr d i) ↦{fullShare} f8) ∗ (arg9.view.loc (thr d i) ↦{fullShare} f9)
    ∗ Packed d arg4 arg14 arg8 f4 f8 (2 * t) ∗ Packed d arg5 arg15 arg9 f5 f9 (2 * t)
    ∗ MayWaits (thr d i) none O ∗ Owing d i O W)

theorem wp_tripB (t : Trip) (P : sProp 𝕄) :
    iprop(InFlight EC d arg4 arg11 arg17 f4 q₁ (shrui (grpVec d arg8 f8 (2 * t.val + 1)) (broadcast S16 3#32))
        ∗ InFlight EC d arg5 arg13 arg19 f5 q₁ (shrui (grpVec d arg9 f9 (2 * t.val + 1)) (broadcast S16 3#32))
        ∗ (arg8.view.loc (thr d i) ↦{fullShare} f8) ∗ (arg9.view.loc (thr d i) ↦{fullShare} f9)
        ∗ Packed d arg4 arg14 arg8 f4 f8 (2 * t.val + 1) ∗ Packed d arg5 arg15 arg9 f5 f9 (2 * t.val + 1)
        ∗ MayWaits (thr d i) none O ∗ Owing d i O W ∗ P)
      ⊢ wp (M := 𝕄) frame (wpE defs 𝒱 (thr d i) bd) Set.univ (tripB i arg4 arg5 arg8 arg9 arg11 arg13 arg14 arg15 arg17 arg19 t)
        fun _ => iprop(Idle d arg4 arg11 arg17 f4 q₁ ∗ Idle d arg5 arg13 arg19 f5 q₁
          ∗ (arg8.view.loc (thr d i) ↦{fullShare} f8) ∗ (arg9.view.loc (thr d i) ↦{fullShare} f9)
          ∗ Packed d arg4 arg14 arg8 f4 f8 (2 * (t.val + 1)) ∗ Packed d arg5 arg15 arg9 f5 f9 (2 * (t.val + 1))
          ∗ MayWaits (thr d i) none O ∗ Owing d i O W ∗ P) := by
  have ht : t.val < 16 := trips_eq ▸ t.isLt
  unfold tripB
  iintro ⟨HF4, HF5, H8, H9, HP4, HP5, #HM, HO, HP⟩
  iapply (wp_land d arg4 arg11 arg14 arg8 arg17 EC 𝒱 bd (defs := defs) f4 q₁ f8 zero_fits_c (2 * t.val + 1) (by omega) _ _
    (by rw [k0_off104_eq]; show 32 * t.val + 16 = _; omega) (grpB t) (grpB_toNat t) O W) $$ [HF4 H8 HP4 HO]
  · isplitl [HF4]; · iexact HF4
    isplitl [H8]; · iexact H8
    isplitl [HP4]; · iexact HP4
    isplitr; · iexact HM
    iexact HO
  iintro ⟨HI4, H8, HP4, HO⟩
  iapply (wp_land d arg5 arg13 arg15 arg9 arg19 EC 𝒱 bd (defs := defs) f5 q₁ f9 zero_fits_s (2 * t.val + 1) (by omega) _ _
    (by rw [k0_off105_eq]; show 32 * t.val + 16 = _; omega) (grpB t) (grpB_toNat t) O W) $$ [HF5 H9 HP5 HO]
  · isplitl [HF5]; · iexact HF5
    isplitl [H9]; · iexact H9
    isplitl [HP5]; · iexact HP5
    isplitr; · iexact HM
    iexact HO
  iintro ⟨HI5, H9, HP5, HO⟩
  rw [wp_ret]; imodintro
  isplitl [HI4]; · iexact HI4
  isplitl [HI5]; · iexact HI5
  isplitl [H8]; · iexact H8
  isplitl [H9]; · iexact H9
  isplitl [HP4]; · iexact HP4
  isplitl [HP5]; · iexact HP5
  isplitr; · iexact HM
  isplitl [HO]; · iexact HO
  iexact HP

theorem wp_trip (h8 : InTab d arg8 125000 f8) (h9 : InTab d arg9 12500 f9) (t : Trip) :
    LoopInv d arg4 arg5 arg8 arg9 arg10 arg11 arg12 arg13 arg14 arg15 arg16 arg17 arg18 arg19 EC f4 f5 f8 f9 q₀ q₁ O W t.val
      ⊢ wp (M := 𝕄) frame (wpE defs 𝒱 (thr d i) bd) Set.univ
          (trip i arg4 arg5 arg8 arg9 arg10 arg11 arg12 arg13 arg14 arg15 arg16 arg17 arg18 arg19 t)
        fun _ => LoopInv d arg4 arg5 arg8 arg9 arg10 arg11 arg12 arg13 arg14 arg15 arg16 arg17 arg18 arg19 EC f4 f5 f8 f9 q₀ q₁ O W (t.val + 1) := by
  have ht : t.val < 16 := trips_eq ▸ t.isLt
  have hpost : iprop(Idle d arg4 arg11 arg17 f4 q₁ ∗ Idle d arg5 arg13 arg19 f5 q₁
          ∗ (arg8.view.loc (thr d i) ↦{fullShare} f8) ∗ (arg9.view.loc (thr d i) ↦{fullShare} f9)
          ∗ Packed d arg4 arg14 arg8 f4 f8 (2 * (t.val + 1)) ∗ Packed d arg5 arg15 arg9 f5 f9 (2 * (t.val + 1))
          ∗ MayWaits (thr d i) none O ∗ Owing d i O W ∗ Even d arg4 arg5 arg8 arg9 arg10 arg12 arg16 arg18 EC f4 f5 f8 f9 q₀ (t.val + 1))
      ⊢ LoopInv d arg4 arg5 arg8 arg9 arg10 arg11 arg12 arg13 arg14 arg15 arg16 arg17 arg18 arg19 EC f4 f5 f8 f9 q₀ q₁ O W (t.val + 1) := by
    unfold LoopInv
    iintro ⟨HI4, HI5, H8, H9, HP4, HP5, HM, HO, HP⟩
    isplitl [HP]; · iexact HP
    isplitl [HI4]; · iexact HI4
    isplitl [HI5]; · iexact HI5
    isplitl [H8]; · iexact H8
    isplitl [H9]; · iexact H9
    isplitl [HP4]; · iexact HP4
    isplitl [HP5]; · iexact HP5
    isplitl [HM]; · iexact HM
    iexact HO
  refine BIBase.Entails.trans ?_ (wp_mono frame _ _ fun _ => hpost)
  unfold LoopInv trip
  conv_lhs => rw [show Even d arg4 arg5 arg8 arg9 arg10 arg12 arg16 arg18 EC f4 f5 f8 f9 q₀ t.val = _ from if_pos ht]
  iintro ⟨⟨HE4, HE5⟩, HI4, HI5, H8, H9, HP4, HP5, #HM, HO⟩
  iapply (wp_fireG d arg4 arg11 arg8 arg17 EC 𝒱 bd (defs := defs) f4 q₁ f8 h8 (2 * t.val + 1) (by omega) _ _
    (by rw [k0_off34_eq]; show 32 * t.val + 16 = _; omega)) $$ [HI4 H8]
  · isplitl [HI4]; · iexact HI4
    iexact H8
  iintro ⟨HF4, H8⟩
  iapply (wp_fireG d arg5 arg13 arg9 arg19 EC 𝒱 bd (defs := defs) f5 q₁ f9 h9 (2 * t.val + 1) (by omega) _ _
    (by rw [k0_off51_eq]; show 32 * t.val + 16 = _; omega)) $$ [HI5 H9]
  · isplitl [HI5]; · iexact HI5
    iexact H9
  iintro ⟨HF5, H9⟩
  iapply (wp_land d arg4 arg10 arg14 arg8 arg16 EC 𝒱 bd (defs := defs) f4 q₀ f8 zero_fits_c (2 * t.val) (by omega) _ _
    (by rw [k0_off68_eq]; show 32 * t.val = _; omega) (grpA t) (grpA_toNat t) O W) $$ [HE4 H8 HP4 HO]
  · isplitl [HE4]; · iexact HE4
    isplitl [H8]; · iexact H8
    isplitl [HP4]; · iexact HP4
    isplitr; · iexact HM
    iexact HO
  iintro ⟨HE4, H8, HP4, HO⟩
  iapply (wp_land d arg5 arg12 arg15 arg9 arg18 EC 𝒱 bd (defs := defs) f5 q₀ f9 zero_fits_s (2 * t.val) (by omega) _ _
    (by rw [k0_off69_eq]; show 32 * t.val = _; omega) (grpA t) (grpA_toNat t) O W) $$ [HE5 H9 HP5 HO]
  · isplitl [HE5]; · iexact HE5
    isplitl [H9]; · iexact H9
    isplitl [HP5]; · iexact HP5
    isplitr; · iexact HM
    iexact HO
  iintro ⟨HE5, H9, HP5, HO⟩
  by_cases hc : k0_cond2 t = 1#1
  · have ht' : t.val < 15 := (cond2_iff t).mp hc
    rw [dif_pos hc]
    iapply (wp_fireG d arg4 arg10 arg8 arg16 EC 𝒱 bd (defs := defs) f4 q₀ f8 h8 (2 * (t.val + 1)) (by omega) _ _
      (by rw [k0_off70_eq]; show 32 * t.val + 32 = _; omega)) $$ [HE4 H8]
    · isplitl [HE4]; · iexact HE4
      iexact H8
    iintro ⟨HE4, H8⟩
    iapply (wp_fireG d arg5 arg12 arg9 arg18 EC 𝒱 bd (defs := defs) f5 q₀ f9 h9 (2 * (t.val + 1)) (by omega) _ _
      (by rw [k0_off87_eq]; show 32 * t.val + 32 = _; omega)) $$ [HE5 H9]
    · isplitl [HE5]; · iexact HE5
      iexact H9
    iintro ⟨HE5, H9⟩
    iapply (wp_tripB d arg4 arg5 arg8 arg9 arg11 arg13 arg14 arg15 arg17 arg19 EC 𝒱 bd f4 f5 f8 f9 q₁ O W t
      (Even d arg4 arg5 arg8 arg9 arg10 arg12 arg16 arg18 EC f4 f5 f8 f9 q₀ (t.val + 1)))
    isplitl [HF4]; · iexact HF4
    isplitl [HF5]; · iexact HF5
    isplitl [H8]; · iexact H8
    isplitl [H9]; · iexact H9
    isplitl [HP4]; · iexact HP4
    isplitl [HP5]; · iexact HP5
    isplitr; · iexact HM
    isplitl [HO]; · iexact HO
    rw [show Even d arg4 arg5 arg8 arg9 arg10 arg12 arg16 arg18 EC f4 f5 f8 f9 q₀ (t.val + 1) = _ from if_pos (by omega)]
    isplitl [HE4]; · iexact HE4
    iexact HE5
  · have ht' : ¬ t.val + 1 < 16 := fun h => hc ((cond2_iff t).mpr (by omega))
    rw [dif_neg hc]
    iapply (wp_tripB d arg4 arg5 arg8 arg9 arg11 arg13 arg14 arg15 arg17 arg19 EC 𝒱 bd f4 f5 f8 f9 q₁ O W t
      (Even d arg4 arg5 arg8 arg9 arg10 arg12 arg16 arg18 EC f4 f5 f8 f9 q₀ (t.val + 1)))
    isplitl [HF4]; · iexact HF4
    isplitl [HF5]; · iexact HF5
    isplitl [H8]; · iexact H8
    isplitl [H9]; · iexact H9
    isplitl [HP4]; · iexact HP4
    isplitl [HP5]; · iexact HP5
    isplitr; · iexact HM
    isplitl [HO]; · iexact HO
    rw [show Even d arg4 arg5 arg8 arg9 arg10 arg12 arg16 arg18 EC f4 f5 f8 f9 q₀ (t.val + 1) = _ from if_neg ht']
    isplitl [HE4]; · iexact HE4
    iexact HE5

/-- The loop: from the invariant before the first trip to the invariant after the last. -/
theorem wp_loop (h8 : InTab d arg8 125000 f8) (h9 : InTab d arg9 12500 f9) (k : TProg F i) :
    LoopInv d arg4 arg5 arg8 arg9 arg10 arg11 arg12 arg13 arg14 arg15 arg16 arg17 arg18 arg19 EC f4 f5 f8 f9 q₀ q₁ O W 0
      ⊢ iprop((LoopInv d arg4 arg5 arg8 arg9 arg10 arg11 arg12 arg13 arg14 arg15 arg16 arg17 arg18 arg19 EC f4 f5 f8 f9 q₀ q₁ O W 16
          -∗ wp frame (wpE defs 𝒱 (thr d i) bd) Set.univ k Q)
        -∗ wp (M := 𝕄) frame (wpE defs 𝒱 (thr d i) bd) Set.univ
          (Scf.Loop.for k0_t1_loop k0_t1_ok PUnit.unit
            (fun t _ => trip i arg4 arg5 arg8 arg9 arg10 arg11 arg12 arg13 arg14 arg15 arg16 arg17 arg18 arg19 t) >>= fun _ => k) Q) :=
  wp_trips d 𝒱 bd _ (LoopInv d arg4 arg5 arg8 arg9 arg10 arg11 arg12 arg13 arg14 arg15 arg16 arg17 arg18 arg19 EC f4 f5 f8 f9 q₀ q₁ O W)
    (wp_trip d arg4 arg5 arg8 arg9 arg10 arg11 arg12 arg13 arg14 arg15 arg16 arg17 arg18 arg19 EC 𝒱 bd f4 f5 f8 f9 q₀ q₁ O W h8 h9) k

end Loop

end Cert.Proof
end
-- ==== Proof.ProgEq.lean ====
/-
  The printed body of the gather is its compact restatement (Prog.lean `gather`): both are stepped operation by operation.
-/
module

public import proofs.«01_k».proof.Proof.Prog

@[expose] public section

noncomputable section

namespace Cert.Proof

open Cert.KernelIdeal Cert.KernelIdeal.Gen
open Idealize.ShloMosaic Idealize.SL.Sem

variable {F : FTy → Type} [FloatOps F]

theorem bind2_congr {i : grid0.Coords} {A B C : Type} {p p' : Prog (TEff F i) A} {f : A → Prog (TEff F i) B} {g : B → Prog (TEff F i) C}
    {k : A → Prog (TEff F i) C} (hp : p = p') (h : ∀ a, f a >>= g = k a) : p >>= f >>= g = p' >>= k := by
  rw [hp, Prog.bind_assoc]; exact congrArg _ (funext h)

section Body
variable (i : grid0.Coords) (arg2 : Memref sig .scVector .hbm S16384 .i32) (harg2 : arg2.IsWhole) (arg3 : Memref sig .scVector .hbm S16384 .i32) (harg3 : arg3.IsWhole) (arg4 : Memref sig .scVector .hbm S125000x8x32 .f32) (harg4 : arg4.IsWhole) (arg5 : Memref sig .scVector .hbm S12500x8x32 .f32) (harg5 : arg5.IsWhole) (arg6 : Memref sig .scVector .hbm S4096x128 .f32) (harg6 : arg6.IsWhole) (arg7 : Memref sig .scVector .hbm S4096x128 .f32) (harg7 : arg7.IsWhole) (arg8 : Memref sig .scVector .vmem S512 .i32) (harg8 : arg8.IsWhole) (arg9 : Memref sig .scVector .vmem S512 .i32) (harg9 : arg9.IsWhole) (arg10 : Memref sig .scVector .vmem S128x32 .f32) (harg10 : arg10.IsWhole) (arg11 : Memref sig .scVector .vmem S128x32 .f32) (harg11 : arg11.IsWhole) (arg12 : Memref sig .scVector .vmem S128x32 .f32) (harg12 : arg12.IsWhole) (arg13 : Memref sig .scVector .vmem S128x32 .f32) (harg13 : arg13.IsWhole) (arg14 : Memref sig .scVector .vmem S128x128 .f32) (harg14 : arg14.IsWhole) (arg15 : Memref sig .scVector .vmem S128x128 .f32) (harg15 : arg15.IsWhole) (arg16 : DmaSems sig S_) (arg17 : DmaSems sig S_) (arg18 : DmaSems sig S_) (arg19 : DmaSems sig S_) (v285_r0 : DmaSems sig S_) (v285_r1 : DmaSems sig S_) (v285_r2 : DmaSems sig S_) (v285_r3 : DmaSems sig S_)

set_option maxHeartbeats 40000000 in
theorem gather_eq : (cc0__gather_body i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v285_r0 v285_r1 v285_r2 v285_r3 : TProg F i) =
    gather i arg2 arg3 arg4 arg5 arg6 arg7 arg8 harg8 arg9 harg9 arg10 arg11 arg12 arg13 arg14 harg14 arg15 harg15 arg16 arg17 arg18 arg19 v285_r0 v285_r1 v285_r2 v285_r3 := by
  refine op_congr _ fun _ => ?_
  refine op_congr _ fun _ => ?_
  refine op_congr _ fun _ => ?_
  refine op_congr _ fun _ => ?_
  refine op_congr _ fun v => ?_
  iterate 16
    refine assume_congr Iff.rfl fun _ _ => ?_
    refine op_congr _ fun _ => ?_
  refine op_congr _ fun v => ?_
  iterate 16
    refine assume_congr Iff.rfl fun _ _ => ?_
    refine op_congr _ fun _ => ?_
  refine Eq.trans (b := (Scf.Loop.for k0_t1_loop k0_t1_ok PUnit.unit _ >>= _) >>= _) rfl ?_
  refine bind2_congr ?_ fun _ => ?_
  · congr 1
    funext t _
    unfold k0_part19
    rw [dif_pos (cond1_true t)]
    refine op_congr _ fun v => ?_
    iterate 16
      refine assume_congr ⟨fun h => h (cond1_true t), fun h _ => h⟩ fun _ _ => ?_
      refine op_congr _ fun _ => ?_
    refine op_congr _ fun v => ?_
    iterate 16
      refine assume_congr ⟨fun h => h (cond1_true t), fun h _ => h⟩ fun _ _ => ?_
      refine op_congr _ fun _ => ?_
    iterate 16 refine op_congr _ fun _ => ?_
    refine op_congr _ fun v => ?_
    iterate 32
      refine assume_congr Iff.rfl fun _ _ => ?_
      refine op_congr _ fun _ => ?_
      refine assume_congr Iff.rfl fun _ _ => ?_
      refine op_congr _ fun _ => ?_
      refine op_congr _ fun _ => ?_
    iterate 16 refine op_congr _ fun _ => ?_
    refine op_congr _ fun v => ?_
    iterate 32
      refine assume_congr Iff.rfl fun _ _ => ?_
      refine op_congr _ fun _ => ?_
      refine assume_congr Iff.rfl fun _ _ => ?_
      refine op_congr _ fun _ => ?_
      refine op_congr _ fun _ => ?_
    by_cases h2 : k0_cond2 t = 1#1
    · rw [dif_pos h2, dif_pos h2]
      refine op_congr _ fun v => ?_
      iterate 16
        refine assume_congr ⟨fun h => h h2, fun h _ => h⟩ fun _ _ => ?_
        refine op_congr _ fun _ => ?_
      refine op_congr _ fun v => ?_
      iterate 16
        refine assume_congr ⟨fun h => h h2, fun h _ => h⟩ fun _ _ => ?_
        refine op_congr _ fun _ => ?_
      iterate 16 refine op_congr _ fun _ => ?_
      refine op_congr _ fun v => ?_
      iterate 32
        refine assume_congr Iff.rfl fun _ _ => ?_
        refine op_congr _ fun _ => ?_
        refine assume_congr Iff.rfl fun _ _ => ?_
        refine op_congr _ fun _ => ?_
        refine op_congr _ fun _ => ?_
      iterate 16 refine op_congr _ fun _ => ?_
      refine op_congr _ fun v => ?_
      iterate 32
        refine assume_congr Iff.rfl fun _ _ => ?_
        refine op_congr _ fun _ => ?_
        refine assume_congr Iff.rfl fun _ _ => ?_
        refine op_congr _ fun _ => ?_
        refine op_congr _ fun _ => ?_
      rfl
    · rw [dif_neg h2, dif_neg h2]
      iterate 16 refine op_congr _ fun _ => ?_
      refine op_congr _ fun v => ?_
      iterate 32
        refine assume_congr Iff.rfl fun _ _ => ?_
        refine op_congr _ fun _ => ?_
        refine assume_congr Iff.rfl fun _ _ => ?_
        refine op_congr _ fun _ => ?_
        refine op_congr _ fun _ => ?_
      iterate 16 refine op_congr _ fun _ => ?_
      refine op_congr _ fun v => ?_
      iterate 32
        refine assume_congr Iff.rfl fun _ _ => ?_
        refine op_congr _ fun _ => ?_
        refine assume_congr Iff.rfl fun _ _ => ?_
        refine op_congr _ fun _ => ?_
        refine op_congr _ fun _ => ?_
      rfl
  · refine op_congr _ fun _ => ?_
    refine op_congr _ fun _ => ?_
    refine op_congr _ fun _ => ?_
    refine op_congr _ fun _ => ?_
    rfl
end Body
end Cert.Proof
end
-- ==== Proof.Tile.lean ====
/-
  The gather's body on one tile: its indices copied in, the loop, the packed rows written out.
-/
module

public import proofs.«01_k».proof.Proof.Trip
public import proofs.«01_k».proof.Proof.ProgEq

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F]

section Copy
variable {i : grid0.Coords} {U : Type} [URA U] (d : Dev nD)
variable (EC : UEmb Counters (MT nD τ sig (HIx 1) (Elt F) ℕ U ℕ)) [EC.LandsIn (upEmb : UEmb _ (MT nD τ sig (HIx 1) (Elt F) ℕ U ℕ))]
variable {defs : Defs nD τ sig (Elt F) Λ₀} (𝒱 : Variants) (bd : Option 𝒱.V)
variable {Q : PUnit → sProp (MT nD τ sig (HIx 1) (Elt F) ℕ U ℕ)}
local notation "𝕄" => MT nD τ sig (HIx 1) (Elt F) ℕ U ℕ

include EC in
/-- A copy issued and waited for. -/
theorem wp_copy {sp sp' : Space} {s : Shape} {e : EltTy} (src : Memref sig .scVector sp s e) (dst : Memref sig .scVector sp' s e) (sem : DmaSem sig)
    {hsrc : src.view.WordExact} {hdst : dst.view.WordExact} {hsem : DmaTarget.Typed (nD := nD) (τ := τ) (p := tileOf i) sp (SemLoc.dma sem) (.here dst)}
    {hsrc' : src.view.WordExact} {hdst' : dst.view.WordExact}
    (hs : 0 < s.numel) (q : PosShare TreeShare) (fs : Buf (Elt F) (src.view.loc (thr d i))) (Sd : Finset (Idx (dst.view.loc (thr d i))))
    (fd : Buf (Elt F) (dst.view.loc (thr d i))) (hSd : dst.view.set ⊆ Sd) (O : CellTallies nD τ sig (HIx 1)) (W : Waits sig (HIx 1)) (k : TProg F i) :
    iprop((src.view.loc (thr d i) ↦[src.view.set]{q} fs) ∗ (dst.view.loc (thr d i) ↦[Sd]{fullShare} fd) ∗ semVal (thr d i, .dma sem) 0
        ∗ MayWaits (thr d i) none O ∗ Owing d i O W)
      ⊢ iprop((iprop((src.view.loc (thr d i) ↦[src.view.set]{q} fs)
            ∗ (dst.view.loc (thr d i) ↦[Sd]{fullShare} (dst.view.write (Elt F) fd (src.view.read (Elt F) fs) Finset.univ))
            ∗ semVal (thr d i, .dma sem) 0 ∗ Owing d i O W) -∗ wp frame (wpE defs 𝒱 (thr d i) bd) Set.univ k Q)
        -∗ wp (M := 𝕄) frame (wpE defs 𝒱 (thr d i) bd) Set.univ
          (.op (.enqueueDma src (.here dst) (.dma sem) hsrc hdst hsem) fun _ => .op (.waitDma2 sem src dst hsrc' hdst') fun _ => k) Q) := by
  unfold Owing
  iintro ⟨Hs, Hd, Hv, HM, %W', %hW', HO⟩ Hk
  iapply (wp_dmaLocal EC 𝒱 (thr d i) bd (defs := defs) (src := src) (dst := dst) (via := ReadAs.same) (sm := .dma sem) (none : HIx 1) (dst.view.dmaCredit)
    rfl (View.dmaCredit_pos _ hs) hSd (fs := fs) (fd := fd) (q := q)) $$ [Hs Hd Hv]
  · isplitl [Hs]; · iexact Hs
    isplitl [Hd]; · iexact Hd
    iexact Hv
  iintro HF
  ihave HM' := (MayWaits.elim (SemLoc.dma sem)) $$ HM
  iapply (wp_waitLocalO EC 𝒱 (thr d i) bd (defs := defs) (sem := sem) (none : HIx 1) (N := dst.view.dmaCredit) rfl (O := O) (W := W')) $$ [HF HO HM']
  · isplitl [HF]; · iexact HF
    isplitl [HO]; · iexact HO
    iexact HM'
  iintro ⟨⟨Hd, Hs⟩, Hv, HO⟩
  iapply Hk
  isplitl [Hs]; · iexact Hs
  isplitl [Hd]; · iexact Hd
  isplitl [Hv]; · iexact Hv
  iexists (insert (SemLoc.dma sem, (none : HIx 1)) W'); isplitr
  · ipureintro; intro p hp
    rcases Finset.mem_insert.mp hp with hp | hp
    · exact .inr (hp ▸ rfl)
    · exact hW' p hp
  · iexact HO

end Copy

/-! ## The body -/

section Body
variable {i : grid0.Coords} {U : Type} [URA U] (d : Dev nD)
variable (arg2 : Memref sig .scVector .hbm S16384 .i32) (harg2 : arg2.IsWhole) (arg3 : Memref sig .scVector .hbm S16384 .i32) (harg3 : arg3.IsWhole) (arg4 : Memref sig .scVector .hbm S125000x8x32 .f32) (harg4 : arg4.IsWhole) (arg5 : Memref sig .scVector .hbm S12500x8x32 .f32) (harg5 : arg5.IsWhole) (arg6 : Memref sig .scVector .hbm S4096x128 .f32) (harg6 : arg6.IsWhole) (arg7 : Memref sig .scVector .hbm S4096x128 .f32) (harg7 : arg7.IsWhole) (arg8 : Memref sig .scVector .vmem S512 .i32) (harg8 : arg8.IsWhole) (arg9 : Memref sig .scVector .vmem S512 .i32) (harg9 : arg9.IsWhole) (arg10 : Memref sig .scVector .vmem S128x32 .f32) (harg10 : arg10.IsWhole) (arg11 : Memref sig .scVector .vmem S128x32 .f32) (harg11 : arg11.IsWhole) (arg12 : Memref sig .scVector .vmem S128x32 .f32) (harg12 : arg12.IsWhole) (arg13 : Memref sig .scVector .vmem S128x32 .f32) (harg13 : arg13.IsWhole) (arg14 : Memref sig .scVector .vmem S128x128 .f32) (harg14 : arg14.IsWhole) (arg15 : Memref sig .scVector .vmem S128x128 .f32) (harg15 : arg15.IsWhole) (arg16 : DmaSems sig S_) (arg17 : DmaSems sig S_) (arg18 : DmaSems sig S_) (arg19 : DmaSems sig S_) (v285_r0 : DmaSems sig S_) (v285_r1 : DmaSems sig S_) (v285_r2 : DmaSems sig S_) (v285_r3 : DmaSems sig S_)
variable (EC : UEmb Counters (MT nD τ sig (HIx 1) (Elt F) ℕ U ℕ)) [EC.LandsIn (upEmb : UEmb _ (MT nD τ sig (HIx 1) (Elt F) ℕ U ℕ))]
variable {defs : Defs nD τ sig (Elt F) Λ₀} (𝒱 : Variants) (bd : Option 𝒱.V)
variable (f2 : Buf (Elt F) (arg2.view.loc (thr d i))) (f3 : Buf (Elt F) (arg3.view.loc (thr d i)))
  (f4 : Buf (Elt F) (arg4.view.loc (thr d i))) (f5 : Buf (Elt F) (arg5.view.loc (thr d i))) (qi q₀ q₁ : PosShare TreeShare)
  (O : CellTallies nD τ sig (HIx 1)) (W : Waits sig (HIx 1))
local notation "𝕄" => MT nD τ sig (HIx 1) (Elt F) ℕ U ℕ

/-- Index `p` of the tile's part of an index array. -/
def partIdx (a : Memref sig .scVector .hbm S16384 .i32) (f : Buf (Elt F) (a.view.loc (thr d i))) (p : ℕ) : BitVec 32 :=
  if h : p < 512 then ((idxPart i a).view.read (Elt F) f : S512.Idx → BitVec 32) (Shape.ofLane (d := ![512]) ⟨p, h⟩) else 0#32

/-- The tile's part of a result holds the rows its indices name, packed. -/
def PartGood {n : ℕ} (a : Memref sig .scVector .hbm S16384 .i32) (tab : Memref sig .scVector .hbm (ST n) .f32) (r : Memref sig .scVector .hbm S4096x128 .f32)
    (fa : Buf (Elt F) (a.view.loc (thr d i))) (ft : Buf (Elt F) (tab.view.loc (thr d i))) (g : Buf (Elt F) (r.view.loc (thr d i))) : Prop :=
  ∀ z : S128x128.Idx, ∀ y : (ST n).Idx, (y 0).val = (partIdx d a fa (posAt z)).toNat / 8 → (y 1).val = (partIdx d a fa (posAt z)).toNat % 8 →
    (y 2).val = wordAt z → (outPart i r).view.read (Elt F) g z = tab.view.read (Elt F) ft y

theorem posAt_lt (z : S128x128.Idx) : posAt z < 512 := by
  have h0 : (z 0).val < 128 := (z 0).isLt
  have h1 : (z 1).val < 128 := (z 1).isLt
  unfold posAt; omega

theorem idxAt_write (a : Memref sig .scVector .hbm S16384 .i32) (b : Memref sig .scVector .vmem S512 .i32) (f : Buf (Elt F) (a.view.loc (thr d i)))
    (fd : Buf (Elt F) (b.view.loc (thr d i))) (p : ℕ) :
    idxAt' (i := i) d b (b.view.write (Elt F) fd ((idxPart i a).view.read (Elt F) f) Finset.univ) p = partIdx d a f p := by
  unfold idxAt' partIdx
  split
  · rw [View.read_write_univ]
  · rfl

theorem partGood_of {n : ℕ} (a : Memref sig .scVector .hbm S16384 .i32) (tab : Memref sig .scVector .hbm (ST n) .f32) (r : Memref sig .scVector .hbm S4096x128 .f32)
    (b : Memref sig .scVector .vmem S512 .i32) (o : Memref sig .scVector .vmem S128x128 .f32)
    (fa : Buf (Elt F) (a.view.loc (thr d i))) (ft : Buf (Elt F) (tab.view.loc (thr d i))) (g : Buf (Elt F) (r.view.loc (thr d i)))
    (fd : Buf (Elt F) (b.view.loc (thr d i))) (fo : Buf (Elt F) (o.view.loc (thr d i)))
    (h : Good d tab o b ft (b.view.write (Elt F) fd ((idxPart i a).view.read (Elt F) fa) Finset.univ) 32 fo) :
    PartGood d a tab r fa ft ((outPart i r).view.write (Elt F) g (o.view.read (Elt F) fo) Finset.univ) := by
  intro z y h0 h1 h2
  rw [View.read_write_univ]
  exact h z (by have := posAt_lt z; omega) y (by rw [idxAt_write]; exact h0) (by rw [idxAt_write]; exact h1) h2

/-- What the tile holds of its scratch and its cells, at whatever contents and at zero. -/
def Scratch : sProp 𝕄 :=
  iprop((∃ f, arg8.view.loc (thr d i) ↦{fullShare} f) ∗ (∃ f, arg9.view.loc (thr d i) ↦{fullShare} f)
    ∗ (∃ f, arg10.view.loc (thr d i) ↦[arg10.view.set]{fullShare} f) ∗ (∃ f, arg11.view.loc (thr d i) ↦[arg11.view.set]{fullShare} f)
    ∗ (∃ f, arg12.view.loc (thr d i) ↦[arg12.view.set]{fullShare} f) ∗ (∃ f, arg13.view.loc (thr d i) ↦[arg13.view.set]{fullShare} f)
    ∗ (∃ f, arg14.view.loc (thr d i) ↦[arg14.view.set]{fullShare} f) ∗ (∃ f, arg15.view.loc (thr d i) ↦[arg15.view.set]{fullShare} f)
    ∗ semVal (thr d i, .dma arg16.sem) 0 ∗ semVal (thr d i, .dma arg17.sem) 0 ∗ semVal (thr d i, .dma arg18.sem) 0 ∗ semVal (thr d i, .dma arg19.sem) 0
    ∗ semVal (thr d i, .dma v285_r0.sem) 0 ∗ semVal (thr d i, .dma v285_r1.sem) 0 ∗ semVal (thr d i, .dma v285_r2.sem) 0 ∗ semVal (thr d i, .dma v285_r3.sem) 0)

/-- What the tile reads: its indices, two shares of each table. -/
def Reads : sProp 𝕄 :=
  iprop(((idxPart i arg2).view.loc (thr d i) ↦[(idxPart i arg2).view.set]{qi} f2) ∗ ((idxPart i arg3).view.loc (thr d i) ↦[(idxPart i arg3).view.set]{qi} f3)
    ∗ (arg4.view.loc (thr d i) ↦{q₀} f4) ∗ (arg4.view.loc (thr d i) ↦{q₁} f4) ∗ (arg5.view.loc (thr d i) ↦{q₀} f5) ∗ (arg5.view.loc (thr d i) ↦{q₁} f5))

include EC in
set_option maxHeartbeats 4000000 in
/-- The gather on one tile: what it reads kept, its parts of the results at the rows its indices name. -/
theorem wp_gather (h2 : ∀ p < 512, (partIdx d arg2 f2 p).toNat < 8 * 125000) (h3 : ∀ p < 512, (partIdx d arg3 f3 p).toNat < 8 * 12500) :
    iprop(Reads d arg2 arg3 arg4 arg5 f2 f3 f4 f5 qi q₀ q₁
        ∗ (∃ g, (outPart i arg6).view.loc (thr d i) ↦[(outPart i arg6).view.set]{fullShare} g) ∗ (∃ g, (outPart i arg7).view.loc (thr d i) ↦[(outPart i arg7).view.set]{fullShare} g)
        ∗ Scratch (i := i) d arg8 arg9 arg10 arg11 arg12 arg13 arg14 arg15 arg16 arg17 arg18 arg19 v285_r0 v285_r1 v285_r2 v285_r3 ∗ MayWaits (thr d i) none O ∗ Owing d i O W)
      ⊢ wp (M := 𝕄) frame (wpE defs 𝒱 (thr d i) bd) Set.univ
          (gather i arg2 arg3 arg4 arg5 arg6 arg7 arg8 harg8 arg9 harg9 arg10 arg11 arg12 arg13 arg14 harg14 arg15 harg15 arg16 arg17 arg18 arg19 v285_r0 v285_r1 v285_r2 v285_r3)
        fun _ => iprop(Reads d arg2 arg3 arg4 arg5 f2 f3 f4 f5 qi q₀ q₁
          ∗ (∃ g, ⌜PartGood d arg2 arg4 arg6 f2 f4 g⌝ ∗ (outPart i arg6).view.loc (thr d i) ↦[(outPart i arg6).view.set]{fullShare} g)
          ∗ (∃ g, ⌜PartGood d arg3 arg5 arg7 f3 f5 g⌝ ∗ (outPart i arg7).view.loc (thr d i) ↦[(outPart i arg7).view.set]{fullShare} g)
          ∗ Scratch (i := i) d arg8 arg9 arg10 arg11 arg12 arg13 arg14 arg15 arg16 arg17 arg18 arg19 v285_r0 v285_r1 v285_r2 v285_r3 ∗ Owing d i O W) := by
  unfold Reads Scratch gather
  iintro ⟨⟨H2, H3, H4a, H4b, H5a, H5b⟩, ⟨%g6, H6⟩, ⟨%g7, H7⟩, ⟨⟨%f8, H8⟩, ⟨%f9, H9⟩, ⟨%f10, H10⟩, ⟨%f11, H11⟩, ⟨%f12, H12⟩, ⟨%f13, H13⟩, ⟨%f14, H14⟩, ⟨%f15, H15⟩, Hs16, Hs17, Hs18, Hs19, Hr0, Hr1, Hr2, Hr3⟩, #HM, HO⟩
  iapply (wp_copy d EC 𝒱 bd (defs := defs) (idxPart i arg2) arg8 v285_r0.sem (by decide) qi f2 Finset.univ f8 (Finset.subset_univ _) O W) $$ [H2 H8 Hr0 HO]
  · isplitl [H2]; · iexact H2
    isplitl [H8]; · iexact H8
    isplitl [Hr0]; · iexact Hr0
    isplitr; · iexact HM
    iexact HO
  iintro ⟨H2, H8, Hr0, HO⟩
  iapply (wp_copy d EC 𝒱 bd (defs := defs) (idxPart i arg3) arg9 v285_r1.sem (by decide) qi f3 Finset.univ f9 (Finset.subset_univ _) O W) $$ [H3 H9 Hr1 HO]
  · isplitl [H3]; · iexact H3
    isplitl [H9]; · iexact H9
    isplitl [Hr1]; · iexact Hr1
    isplitr; · iexact HM
    iexact HO
  iintro ⟨H3, H9, Hr1, HO⟩
  have k8 : InTab d arg8 125000 (arg8.view.write (Elt F) f8 ((idxPart i arg2).view.read (Elt F) f2) Finset.univ) := fun p hp => by
    rw [idxAt_write]; exact h2 p hp
  have k9 : InTab d arg9 12500 (arg9.view.write (Elt F) f9 ((idxPart i arg3).view.read (Elt F) f3) Finset.univ) := fun p hp => by
    rw [idxAt_write]; exact h3 p hp
  iapply (wp_fireG d arg4 arg10 arg8 arg16 EC 𝒱 bd (defs := defs) f4 q₀ _ k8 0 (by decide) _ _ rfl) $$ [H4a H10 Hs16 H8]
  · isplitr [H8]
    · unfold Idle
      isplitl [H4a]; · iexact H4a
      isplitl [H10]; · iexists f10; iexact H10
      iexact Hs16
    iexact H8
  iintro ⟨HF4, H8⟩
  iapply (wp_fireG d arg5 arg12 arg9 arg18 EC 𝒱 bd (defs := defs) f5 q₀ _ k9 0 (by decide) _ _ rfl) $$ [H5a H12 Hs18 H9]
  · isplitr [H9]
    · unfold Idle
      isplitl [H5a]; · iexact H5a
      isplitl [H12]; · iexists f12; iexact H12
      iexact Hs18
    iexact H9
  iintro ⟨HF5, H9⟩
  iapply (wp_loop d arg4 arg5 arg8 arg9 arg10 arg11 arg12 arg13 arg14 arg15 arg16 arg17 arg18 arg19 EC 𝒱 bd (defs := defs) f4 f5 _ _ q₀ q₁ O W k8 k9)
    $$ [HF4 HF5 H8 H9 H4b H11 Hs17 H5b H13 Hs19 H14 H15 HO]
  · unfold LoopInv Even
    rw [if_pos (show (0 : ℕ) < 16 from Nat.succ_pos _)]
    isplitl [HF4 HF5]
    · isplitl [HF4]; · iexact HF4
      iexact HF5
    isplitl [H4b H11 Hs17]
    · unfold Idle
      isplitl [H4b]; · iexact H4b
      isplitl [H11]; · iexists f11; iexact H11
      iexact Hs17
    isplitl [H5b H13 Hs19]
    · unfold Idle
      isplitl [H5b]; · iexact H5b
      isplitl [H13]; · iexists f13; iexact H13
      iexact Hs19
    isplitl [H8]; · iexact H8
    isplitl [H9]; · iexact H9
    unfold Packed
    isplitl [H14]
    · iexists f14; isplitr
      · ipureintro; exact good_zero d arg4 arg14 arg8 f4 _ f14
      · iexact H14
    isplitl [H15]
    · iexists f15; isplitr
      · ipureintro; exact good_zero d arg5 arg15 arg9 f5 _ f15
      · iexact H15
    isplitr; · iexact HM
    iexact HO
  iintro HI
  ihave HI' := (Entails.of_eq (show LoopInv d arg4 arg5 arg8 arg9 arg10 arg11 arg12 arg13 arg14 arg15 arg16 arg17 arg18 arg19 EC f4 f5
      (arg8.view.write (Elt F) f8 ((idxPart i arg2).view.read (Elt F) f2) Finset.univ) (arg9.view.write (Elt F) f9 ((idxPart i arg3).view.read (Elt F) f3) Finset.univ)
      q₀ q₁ O W 16 = _ from by unfold LoopInv Even Idle Packed; rw [if_neg (Nat.lt_irrefl 16)])) $$ HI
  icases HI' with ⟨⟨⟨H4a, H10, Hs16⟩, ⟨H5a, H12, Hs18⟩⟩, ⟨H4b, H11, Hs17⟩, ⟨H5b, H13, Hs19⟩, H8, H9, ⟨%O14, %hO14, H14⟩, ⟨%O15, %hO15, H15⟩, -, HO⟩
  unfold writeOut
  iapply (wp_copy d EC 𝒱 bd (defs := defs) arg14 (outPart i arg6) v285_r2.sem (by decide) fullShare O14 _ g6 (Finset.Subset.refl _) O W) $$ [H14 H6 Hr2 HO]
  · isplitl [H14]; · iexact H14
    isplitl [H6]; · iexact H6
    isplitl [Hr2]; · iexact Hr2
    isplitr; · iexact HM
    iexact HO
  iintro ⟨H14, H6, Hr2, HO⟩
  iapply (wp_copy d EC 𝒱 bd (defs := defs) arg15 (outPart i arg7) v285_r3.sem (by decide) fullShare O15 _ g7 (Finset.Subset.refl _) O W) $$ [H15 H7 Hr3 HO]
  · isplitl [H15]; · iexact H15
    isplitl [H7]; · iexact H7
    isplitl [Hr3]; · iexact Hr3
    isplitr; · iexact HM
    iexact HO
  iintro ⟨H15, H7, Hr3, HO⟩
  rw [wp_ret]; imodintro
  isplitl [H2 H3 H4a H4b H5a H5b]
  · isplitl [H2]; · iexact H2
    isplitl [H3]; · iexact H3
    isplitl [H4a]; · iexact H4a
    isplitl [H4b]; · iexact H4b
    isplitl [H5a]; · iexact H5a
    iexact H5b
  isplitl [H6]
  · iexists _; isplitr
    · ipureintro; exact partGood_of d arg2 arg4 arg6 arg8 arg14 f2 f4 g6 f8 O14 hO14
    · iexact H6
  isplitl [H7]
  · iexists _; isplitr
    · ipureintro; exact partGood_of d arg3 arg5 arg7 arg9 arg15 f3 f5 g7 f9 O15 hO15
    · iexact H7
  isplitr [HO]
  · isplitl [H8]; · iexists _; iexact H8
    isplitl [H9]; · iexists _; iexact H9
    isplitl [H10]; · iexact H10
    isplitl [H11]; · iexact H11
    isplitl [H12]; · iexact H12
    isplitl [H13]; · iexact H13
    isplitl [H14]; · iexists _; iexact H14
    isplitl [H15]; · iexists _; iexact H15
    isplitl [Hs16]; · iexact Hs16
    isplitl [Hs17]; · iexact Hs17
    isplitl [Hs18]; · iexact Hs18
    isplitl [Hs19]; · iexact Hs19
    isplitl [Hr0]; · iexact Hr0
    isplitl [Hr1]; · iexact Hr1
    isplitl [Hr2]; · iexact Hr2
    iexact Hr3
  iexact HO

end Body

end Cert.Proof
end
-- ==== Proof.Sc.lean ====
/-
  The gather's launch: what the tiles are handed and hand back, each tile's run, the launch's obligations.
-/
module

public import proofs.«01_k».proof.Proof.Tile
public import Idealize.ShloMosaic.Lib.SparseCore.Quiescent
public import Idealize.ShloMosaic.Lib.Pipeline.Regions
public import Idealize.ShloMosaic.Lib.StableHlo.Run
public import proofs.«01_k».proof.Proof.Gen.KernelIdeal.Launch

@[expose] public section

noncomputable section

namespace Cert.Proof

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UK : Type := URounds (GSem nD τ sig) Unit
abbrev UU : Type := UH × (UK × Counters)

local notation "𝕄" => MT nD τ sig (HIx 1) (Elt F) ℕ UU ℕ

/-- The handshakes' rounds, the pipeline's, and the transfers' counters. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UK (MT nD τ sig (HIx 1) (Elt F) ℕ UU ℕ) :=
  ((Emb.inl : Emb UK (UK × Counters)).trans (Emb.inr : Emb (UK × Counters) UU)).trans
    (uEmb (nD := nD) (sig := sig) (Ix := HIx 1) (Val := Elt F) (Name := ℕ) (U := UU) (Lvl := ℕ)).toEmb
abbrev EC : UEmb Counters (MT nD τ sig (HIx 1) (Elt F) ℕ UU ℕ) := countersEmb

instance EH_landsIn : (EH : Emb UH 𝕄).LandsIn (upEmb : UEmb _ 𝕄) := by unfold EH; infer_instance
instance EP_landsIn : (EP : Emb UK 𝕄).LandsIn (upEmb : UEmb _ 𝕄) := by unfold EP; infer_instance
instance EC_landsIn : (EC : UEmb Counters 𝕄).LandsIn (upEmb : UEmb _ 𝕄) := by unfold EC; infer_instance

/-! ## The rows a tile writes -/

def coordsV (c : Fin 2) (s : Fin 16) : grid0.Coords :=
  fun | 0 => c | 1 => s | ⟨_ + 2, h⟩ => absurd h (Nat.not_lt.2 (Nat.le_add_left _ _))

abbrev outSet (i : grid0.Coords) : Finset S4096x128.Idx := (outPart i (Memref.whole main_v2_0_scv)).view.set

theorem mem_outSet (i : grid0.Coords) (z : S4096x128.Idx) : z ∈ outSet i ↔ (z 0).val / 128 = 2 * (i 1).val + (i 0).val := by
  have e : outSet i = (Rect.unit (s := S4096x128) (k0_off106 i) S128x128.size (k0_off106_inb i)).set := by
    show ((View.whole (main_v2_0_scv : Ref sig .scVector)).slice (Rect.unit (s := S4096x128) (k0_off106 i) S128x128.size (k0_off106_inb i))).set = _
    rw [View.set_slice]; exact Finset.map_refl
  rw [e, Rect.mem_set_unit, k0_off106_eq]
  have h1 : (z 1).val < 128 := (z 1).isLt
  constructor
  · intro h
    have h0 := h 0
    simp [S128x128] at h0
    omega
  · intro h a
    fin_cases a
    · simp [S128x128]; omega
    · simp [S128x128]; omega

theorem outSet_disj {c c' : Fin 2} {s s' : Fin 16} (h : c ≠ c' ∨ s ≠ s') : Disjoint (outSet (coordsV c s)) (outSet (coordsV c' s')) := by
  rw [Finset.disjoint_left]
  intro z hz hz'
  rw [mem_outSet] at hz hz'
  have e0 : (coordsV c s 0).val = c.val := rfl
  have e1 : (coordsV c s 1).val = s.val := rfl
  have e0' : (coordsV c' s' 0).val = c'.val := rfl
  have e1' : (coordsV c' s' 1).val = s'.val := rfl
  have hc := c.isLt; have hc' := c'.isLt
  rcases h with h | h <;> exact h (Fin.ext (by omega))

abbrev outCore (c : Fin 2) : Finset S4096x128.Idx := Finset.univ.biUnion fun s : Fin 16 => outSet (coordsV c s)

theorem outCore_disj : ∀ c ∈ (Finset.univ : Finset (Fin 2)), ∀ c' ∈ (Finset.univ : Finset (Fin 2)), c ≠ c' → Disjoint (outCore c) (outCore c') := by
  intro c _ c' _ h
  rw [Finset.disjoint_biUnion_left]; intro s _
  rw [Finset.disjoint_biUnion_right]; intro s' _
  exact outSet_disj (.inl h)

theorem outCore_cover : (Finset.univ : Finset (Fin 2)).biUnion outCore = Finset.univ := by
  ext z
  simp only [Finset.mem_biUnion, Finset.mem_univ, true_and, iff_true]
  have h0 : (z 0).val < 4096 := (z 0).isLt
  refine ⟨⟨(z 0).val / 128 % 2, by omega⟩, ⟨(z 0).val / 128 / 2, by omega⟩, ?_⟩
  rw [mem_outSet]
  show (z 0).val / 128 = 2 * ((z 0).val / 128 / 2) + (z 0).val / 128 % 2
  omega

/-! ## What the gather leaves -/

/-- The entry of a table of tiles of eight rows at row `w`, column `k`. -/
def rowIx (n : ℕ) [NeZero n] (w : ℕ) (k : ℕ) : (ST n).Idx
  | 0 => (Fin.ofNat n (w / 8) : Fin n)
  | 1 => (Fin.ofNat 8 (w % 8) : Fin 8)
  | 2 => (Fin.ofNat 32 k : Fin 32)

/-- Where entry `z` of a packed result finds its index. -/
def idxIx (z : S4096x128.Idx) : S16384.Idx :=
  Shape.ofLane (d := ![16384]) ⟨4 * (z 0).val + (z 1).val / 32, by
    have h0 : (z 0).val < 4096 := (z 0).isLt
    have h1 : (z 1).val < 128 := (z 1).isLt
    show _ < 16384; omega⟩

/-- The rows `fi` names of the table `ft`, packed four to a row. -/
def packed (n : ℕ) [NeZero n] (fi : S16384.Idx → BitVec 32) (ft : (ST n).Idx → Elt F .f32) : S4096x128.Idx → Elt F .f32 :=
  fun z => ft (rowIx n (fi (idxIx z)).toNat ((z 1).val % 32))

abbrev ciLoc (d : Dev nD) : Loc nD τ sig := (SparseCore.T d).loc main_arg0
abbrev siLoc (d : Dev nD) : Loc nD τ sig := (SparseCore.T d).loc main_arg1
abbrev ctLoc (d : Dev nD) : Loc nD τ sig := (SparseCore.T d).loc main_v0
abbrev stLoc (d : Dev nD) : Loc nD τ sig := (SparseCore.T d).loc main_v1
abbrev coLoc (d : Dev nD) : Loc nD τ sig := (SparseCore.T d).loc main_v2_0
abbrev soLoc (d : Dev nD) : Loc nD τ sig := (SparseCore.T d).loc main_v2_1

/-- What the gather reads. -/
structure Ins (F : FTy → Type) where
  ci : Dev nD → S16384.Idx → BitVec 32
  si : Dev nD → S16384.Idx → BitVec 32
  ct : Dev nD → (ST 125000).Idx → Elt F .f32
  st : Dev nD → (ST 12500).Idx → Elt F .f32

/-- Every index names a row. -/
def Ins.OK (N : Ins F) : Prop := (∀ d x, (N.ci d x).toNat < 8 * 125000) ∧ ∀ d x, (N.si d x).toNat < 8 * 12500

instance : NeZero 125000 := ⟨by decide⟩
instance : NeZero 12500 := ⟨by decide⟩

abbrev Ins.co (N : Ins F) (d : Dev nD) : S4096x128.Idx → Elt F .f32 := packed 125000 (N.ci d) (N.ct d)
abbrev Ins.so (N : Ins F) (d : Dev nD) : S4096x128.Idx → Elt F .f32 := packed 12500 (N.si d) (N.st d)

/-- A tile's read share. -/
abbrev tok (c s : ℕ) : PosShare TreeShare := shareTokN (shareTokN fullShare c) s

variable (N : Ins F)

/-- What a tile reads, at its share. -/
def insAt (d : Dev nD) (q : PosShare TreeShare) : sProp 𝕄 :=
  iprop((ciLoc d ↦{q} N.ci d) ∗ (siLoc d ↦{q} N.si d) ∗ (ctLoc d ↦{q} N.ct d) ∗ (stLoc d ↦{q} N.st d))

def goPay (d : Dev nD) (i : grid0.Coords) : sProp 𝕄 :=
  iprop(insAt N d (tok (i 0).val (i 1).val) ∗ (∃ g, coLoc d ↦[outSet i]{fullShare} g) ∗ (∃ g, soLoc d ↦[outSet i]{fullShare} g))
def tdPay (d : Dev nD) (i : grid0.Coords) : sProp 𝕄 :=
  iprop(insAt N d (tok (i 0).val (i 1).val) ∗ (coLoc d ↦[outSet i]{fullShare} N.co d) ∗ (soLoc d ↦[outSet i]{fullShare} N.so d))

instance insAt_storable (d : Dev nD) (q : PosShare TreeShare) : BI.Storable (upEmb : UEmb _ 𝕄) (insAt N d q) := by unfold insAt; infer_instance
instance goPay_storable (d : Dev nD) (i : grid0.Coords) : BI.Storable (upEmb : UEmb _ 𝕄) (goPay N d i) := by unfold goPay; infer_instance
instance tdPay_storable (d : Dev nD) (i : grid0.Coords) : BI.Storable (upEmb : UEmb _ 𝕄) (tdPay N d i) := by unfold tdPay; infer_instance

def P : (K (F := F)).Pay (nD := nD) (Val := Elt F) (Name := ℕ) (U := UU) where
  st := fun q d c => match q with | 0 => bigSep Finset.univ fun s : Fin 16 => goPay N d (coordsV (Fin.cast nCore_zero c) s)
  dn := fun q d c => match q with | 0 => bigSep Finset.univ fun s : Fin 16 => tdPay N d (coordsV (Fin.cast nCore_zero c) s)
  go := fun q d c i => match q with | 0 => goPay N d (coordsV (Fin.cast nCore_zero c) (Fin.cast nSub_zero i))
  td := fun q d c i => match q with | 0 => tdPay N d (coordsV (Fin.cast nCore_zero c) (Fin.cast nSub_zero i))
  x := fun _ _ => iprop(emp)

instance P_storable : (P (F := F) N).IsStorable where
  st q d c := match q with
    | 0 => (inferInstance : BI.Storable (upEmb : UEmb _ 𝕄) (bigSep Finset.univ fun s : Fin 16 => goPay N d (coordsV (Fin.cast nCore_zero c) s)))
  dn q d c := match q with
    | 0 => (inferInstance : BI.Storable (upEmb : UEmb _ 𝕄) (bigSep Finset.univ fun s : Fin 16 => tdPay N d (coordsV (Fin.cast nCore_zero c) s)))
  go q d c i := match q with
    | 0 => (inferInstance : BI.Storable (upEmb : UEmb _ 𝕄) (goPay N d (coordsV (Fin.cast nCore_zero c) (Fin.cast nSub_zero i))))
  td q d c i := match q with
    | 0 => (inferInstance : BI.Storable (upEmb : UEmb _ 𝕄) (tdPay N d (coordsV (Fin.cast nCore_zero c) (Fin.cast nSub_zero i))))

theorem vecSplit : (K (F := F)).VecSplit' (P N) 0 := by
  intro d c
  show (bigSep Finset.univ fun s : Fin 16 => goPay N d (coordsV (Fin.cast nCore_zero c) s)) ⊢ |={Set.univ}=> iprop(
      (bigSep Finset.univ fun s : Fin 16 => goPay N d (coordsV (Fin.cast nCore_zero c) s))
      ∗ ((bigSep Finset.univ fun s : Fin 16 => tdPay N d (coordsV (Fin.cast nCore_zero c) s))
          -∗ bigSep Finset.univ fun s : Fin 16 => tdPay N d (coordsV (Fin.cast nCore_zero c) s)))
  iintro H; imodintro
  isplitl [H]; · iexact H
  iintro H; iexact H

/-! ## A tile's scratch -/

section Own
variable (d : Dev nD) (i : grid0.Coords)

theorem bigSep_take {I : Type} [DecidableEq I] (s : Finset I) (e : Fin 8 → I) (he : Function.Injective e) (h : ∀ k, e k ∈ s) (Φ : I → sProp 𝕄) :
    bigSep s Φ = iprop(Φ (e 0) ∗ Φ (e 1) ∗ Φ (e 2) ∗ Φ (e 3) ∗ Φ (e 4) ∗ Φ (e 5) ∗ Φ (e 6) ∗ Φ (e 7)
      ∗ bigSep ((((((((s.erase (e 0)).erase (e 1)).erase (e 2)).erase (e 3)).erase (e 4)).erase (e 5)).erase (e 6)).erase (e 7)) Φ) := by
  have ne : ∀ a b : Fin 8, a ≠ b → e a ≠ e b := fun a b h h' => h (he h')
  rw [SparseCore.bigSep_erase' (h 0), SparseCore.bigSep_erase' (s := s.erase (e 0)) (i := e 1) (by simp [h, ne]),
    SparseCore.bigSep_erase' (s := (s.erase (e 0)).erase (e 1)) (i := e 2) (by simp [h, ne]),
    SparseCore.bigSep_erase' (s := ((s.erase (e 0)).erase (e 1)).erase (e 2)) (i := e 3) (by simp [h, ne]),
    SparseCore.bigSep_erase' (s := (((s.erase (e 0)).erase (e 1)).erase (e 2)).erase (e 3)) (i := e 4) (by simp [h, ne]),
    SparseCore.bigSep_erase' (s := ((((s.erase (e 0)).erase (e 1)).erase (e 2)).erase (e 3)).erase (e 4)) (i := e 5) (by simp [h, ne]),
    SparseCore.bigSep_erase' (s := (((((s.erase (e 0)).erase (e 1)).erase (e 2)).erase (e 3)).erase (e 4)).erase (e 5)) (i := e 6) (by simp [h, ne]),
    SparseCore.bigSep_erase' (s := ((((((s.erase (e 0)).erase (e 1)).erase (e 2)).erase (e 3)).erase (e 4)).erase (e 5)).erase (e 6)) (i := e 7) (by simp [h, ne])]

def theSems : Fin 8 → DmaSem sig := ![cc0_scratch8.sem, cc0_scratch9.sem, cc0_scratch10.sem, cc0_scratch11.sem, cc0_scoped0.sem, cc0_scoped1.sem, cc0_scoped2.sem, cc0_scoped3.sem]
def theBufs : Fin 8 → Ref sig .scVector := ![cc0_scratch0, cc0_scratch1, cc0_scratch2, cc0_scratch3, cc0_scratch4, cc0_scratch5, cc0_scratch6, cc0_scratch7]

theorem theSems_inj : Function.Injective theSems := by decide
theorem theBufs_inj : Function.Injective theBufs := by decide
theorem theSems_scoped : ∀ k, (SemLoc.dma (theSems k) : SemLoc sig).isScoped .scVector = true := by decide

def semRest : sProp 𝕄 :=
  bigSep ((((((((((ownCells (thr d i)).erase (thr d i, .dma (theSems 0))).erase (thr d i, .dma (theSems 1))).erase (thr d i, .dma (theSems 2))).erase (thr d i, .dma (theSems 3))).erase
    (thr d i, .dma (theSems 4))).erase (thr d i, .dma (theSems 5))).erase (thr d i, .dma (theSems 6))).erase (thr d i, .dma (theSems 7)))) fun g => semVal g 0
def bufRest : sProp 𝕄 :=
  bigSep ((((((((((ownRefs (τ := τ) (sig := sig) (tileOf i)).erase ((tileOf i).devRef (theBufs 0))).erase ((tileOf i).devRef (theBufs 1))).erase ((tileOf i).devRef (theBufs 2))).erase
    ((tileOf i).devRef (theBufs 3))).erase ((tileOf i).devRef (theBufs 4))).erase ((tileOf i).devRef (theBufs 5))).erase ((tileOf i).devRef (theBufs 6))).erase ((tileOf i).devRef (theBufs 7))))
    fun b => iprop(∃ f, ((d, b) : Loc nD τ sig) ↦{fullShare} f)

theorem ownSems0_tile : (ownSems0 (thr d i) : sProp 𝕄) = iprop(semVal (thr d i, .dma (theSems 0)) 0 ∗ semVal (thr d i, .dma (theSems 1)) 0
    ∗ semVal (thr d i, .dma (theSems 2)) 0 ∗ semVal (thr d i, .dma (theSems 3)) 0 ∗ semVal (thr d i, .dma (theSems 4)) 0 ∗ semVal (thr d i, .dma (theSems 5)) 0
    ∗ semVal (thr d i, .dma (theSems 6)) 0 ∗ semVal (thr d i, .dma (theSems 7)) 0 ∗ semRest d i) := by
  unfold SparseCore.Cfg.ownSems0
  exact bigSep_take _ (fun k => ((thr d i, SemLoc.dma (theSems k)) : GSem nD τ sig)) (fun a b h => theSems_inj (SemLoc.dma.inj (Prod.mk.inj h).2))
    (fun k => (mem_ownCells (g := (thr d i, SemLoc.dma (theSems k)))).mpr ⟨rfl, theSems_scoped k⟩) _

theorem ownBufs_tile : (ownBufs (thr d i) : sProp 𝕄) = iprop((∃ f, (thr d i).loc (theBufs 0) ↦{fullShare} f) ∗ (∃ f, (thr d i).loc (theBufs 1) ↦{fullShare} f)
    ∗ (∃ f, (thr d i).loc (theBufs 2) ↦{fullShare} f) ∗ (∃ f, (thr d i).loc (theBufs 3) ↦{fullShare} f) ∗ (∃ f, (thr d i).loc (theBufs 4) ↦{fullShare} f)
    ∗ (∃ f, (thr d i).loc (theBufs 5) ↦{fullShare} f) ∗ (∃ f, (thr d i).loc (theBufs 6) ↦{fullShare} f) ∗ (∃ f, (thr d i).loc (theBufs 7) ↦{fullShare} f)
    ∗ bufRest d i) := by
  unfold SparseCore.Cfg.ownBufs
  exact bigSep_take _ (fun k => (tileOf i).devRef (theBufs k)) (fun a b h => theBufs_inj (Proc.devRef_injective _ h))
    (fun k => SparseCore.Cfg.mem_ownRefs_of_owner (p := tileOf i) (b := (tileOf i).devRef (theBufs k)) (by fin_cases k <;> rfl)) _

end Own

/-! ## A tile's run -/

section Run
variable (d : Dev nD) (i : grid0.Coords)

abbrev rowRect : Rect S4096x128 := Rect.unit (s := S4096x128) (k0_off106 i) S128x128.size (k0_off106_inb i)
abbrev idxRect : Rect S16384 := Rect.unit (s := S16384) (k0_off1 i) S512.size (k0_off1_inb i)

theorem packed_of {n : ℕ} [NeZero n] (fi : S16384.Idx → BitVec 32) (ft : (ST n).Idx → Elt F .f32) (g : S4096x128.Idx → Elt F .f32) (hn : ∀ x, (fi x).toNat < 8 * n)
    (H : ∀ z : S128x128.Idx, ∀ y : (ST n).Idx, ∀ h : posAt z < 512, (y 0).val = (fi ((idxRect i).emb (Shape.ofLane (d := ![512]) ⟨posAt z, h⟩))).toNat / 8 →
      (y 1).val = (fi ((idxRect i).emb (Shape.ofLane (d := ![512]) ⟨posAt z, h⟩))).toNat % 8 → (y 2).val = wordAt z → g ((rowRect i).emb z) = ft y) :
    ∀ x ∈ outSet i, g x = packed n fi ft x := by
  intro x hx
  obtain ⟨z, -, hz⟩ := Finset.mem_map.mp hx
  obtain rfl : (rowRect i).emb z = x := hz
  have hp := posAt_lt z
  have h0 : (z 0).val < 128 := (z 0).isLt
  have h1 : (z 1).val < 128 := (z 1).isLt
  have r0 : (((rowRect i).emb z) 0).val = 256 * (i 1).val + 128 * (i 0).val + (z 0).val := by
    rw [Rect.emb_apply]; simp [k0_off106_eq]
  have r1 : (((rowRect i).emb z) 1).val = (z 1).val := by
    rw [Rect.emb_apply]; simp [k0_off106_eq]
  have ei : idxIx ((rowRect i).emb z) = (idxRect i).emb (Shape.ofLane (d := ![512]) ⟨posAt z, hp⟩) := by
    funext a
    obtain rfl : a = 0 := Subsingleton.elim _ _
    apply Fin.ext
    rw [Rect.emb_apply]
    show 4 * (((rowRect i).emb z) 0).val + (((rowRect i).emb z) 1).val / 32 = k0_off1 i 0 + 1 * posAt z
    rw [r0, r1, k0_off1_eq]
    show _ = 1024 * (i 1).val + 512 * (i 0).val + 1 * posAt z
    unfold posAt; omega
  unfold packed
  rw [ei, r1]
  have hw := hn ((idxRect i).emb (Shape.ofLane (d := ![512]) ⟨posAt z, hp⟩))
  refine H z _ hp ?_ ?_ ?_
  · show (Fin.ofNat n _ : Fin n).val = _
    rw [Fin.val_ofNat, Nat.mod_eq_of_lt (by omega)]
  · show (Fin.ofNat 8 _ : Fin 8).val = _
    rw [Fin.val_ofNat, Nat.mod_mod]
  · show (Fin.ofNat 32 _ : Fin 32).val = _
    rw [Fin.val_ofNat, Nat.mod_mod]

variable [FloatOps F] (N : Ins F)

theorem co_of (hN : N.OK) (g : Buf (Elt F) (coLoc d))
    (h : PartGood (F := F) (i := i) d (Memref.whole main_arg0_scv) (Memref.whole main_v0_scv) (Memref.whole main_v2_0_scv) (N.ci d) (N.ct d) g) :
    ∀ x ∈ outSet i, g x = N.co d x := by
  refine packed_of i (N.ci d) (N.ct d) g (hN.1 d) fun z y hp h0 h1 h2 => ?_
  have e : partIdx (F := F) (i := i) d (Memref.whole main_arg0_scv) (N.ci d) (posAt z) = N.ci d ((idxRect i).emb (Shape.ofLane (d := ![512]) ⟨posAt z, hp⟩)) := by
    unfold partIdx; rw [dif_pos hp]; rfl
  exact h z y (by rw [e]; exact h0) (by rw [e]; exact h1) h2

theorem so_of (hN : N.OK) (g : Buf (Elt F) (soLoc d))
    (h : PartGood (F := F) (i := i) d (Memref.whole main_arg1_scv) (Memref.whole main_v1_scv) (Memref.whole main_v2_1_scv) (N.si d) (N.st d) g) :
    ∀ x ∈ outSet i, g x = N.so d x := by
  refine packed_of i (N.si d) (N.st d) g (hN.2 d) fun z y hp h0 h1 h2 => ?_
  have e : partIdx (F := F) (i := i) d (Memref.whole main_arg1_scv) (N.si d) (posAt z) = N.si d ((idxRect i).emb (Shape.ofLane (d := ![512]) ⟨posAt z, hp⟩)) := by
    unfold partIdx; rw [dif_pos hp]; rfl
  exact h z y (by rw [e]; exact h0) (by rw [e]; exact h1) h2

theorem ci_lt (hN : N.OK) : ∀ p < 512, (partIdx (F := F) (i := i) d (Memref.whole main_arg0_scv) (N.ci d) p).toNat < 8 * 125000 := by
  intro p hp; unfold partIdx; rw [dif_pos hp]; exact hN.1 d _
theorem si_lt (hN : N.OK) : ∀ p < 512, (partIdx (F := F) (i := i) d (Memref.whole main_arg1_scv) (N.si d) p).toNat < 8 * 12500 := by
  intro p hp; unfold partIdx; rw [dif_pos hp]; exact hN.2 d _

abbrev TheScratch : sProp 𝕄 :=
  Scratch (i := i) (U := UU) (F := F) d (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7)
    cc0_scratch8 cc0_scratch9 cc0_scratch10 cc0_scratch11 cc0_scoped0 cc0_scoped1 cc0_scoped2 cc0_scoped3

omit [FloatOps F] in
theorem scratch_open : iprop(scopedBufs (thr d i) ∗ scopedSems0 (thr d i)) ⊢ (iprop(TheScratch (F := F) d i ∗ bufRest d i ∗ semRest d i) : sProp 𝕄) := by
  rw [show (scopedBufs (thr d i) : sProp 𝕄) = ownBufs (thr d i) from (K (F := F)).scopedBufs_V facts d _ _,
    show (scopedSems0 (thr d i) : sProp 𝕄) = ownSems0 (thr d i) from SparseCore.Cfg.scopedSems0_V (Val := Elt F) d _ _, ownSems0_tile, ownBufs_tile]
  unfold TheScratch Scratch
  simp only [Memref.view_whole, View.set_whole]
  iintro ⟨⟨B0, B1, B2, B3, B4, B5, B6, B7, BR⟩, C0, C1, C2, C3, C4, C5, C6, C7, CR⟩
  isplitr [BR CR]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  isplitl [BR] <;> iassumption

omit [FloatOps F] in
theorem scratch_close : iprop(TheScratch (F := F) d i ∗ bufRest d i ∗ semRest d i) ⊢ (iprop(scopedBufs (thr d i) ∗ scopedSems0 (thr d i)) : sProp 𝕄) := by
  rw [show (scopedBufs (thr d i) : sProp 𝕄) = ownBufs (thr d i) from (K (F := F)).scopedBufs_V facts d _ _,
    show (scopedSems0 (thr d i) : sProp 𝕄) = ownSems0 (thr d i) from SparseCore.Cfg.scopedSems0_V (Val := Elt F) d _ _, ownSems0_tile, ownBufs_tile]
  unfold TheScratch Scratch
  simp only [Memref.view_whole, View.set_whole]
  iintro ⟨⟨B0, B1, B2, B3, B4, B5, B6, B7, C0, C1, C2, C3, C4, C5, C6, C7⟩, BR, CR⟩
  isplitl [B0 B1 B2 B3 B4 B5 B6 B7 BR]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact BR
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  iexact CR

abbrev idxSet : Finset S16384.Idx := (idxPart i (Memref.whole main_arg0_scv)).view.set

abbrev TheReads (q : PosShare TreeShare) : sProp 𝕄 :=
  Reads (F := F) (i := i) (U := UU) d (Memref.whole main_arg0_scv) (Memref.whole main_arg1_scv) (Memref.whole main_v0_scv) (Memref.whole main_v1_scv)
    (N.ci d) (N.si d) (N.ct d) (N.st d) q q.left q.right

/-- What a tile is handed to read, as its run reads it: its part of the indices, the tables' shares halved; and back. -/
theorem reads_open (q : PosShare TreeShare) :
    insAt N d q ⊢ (iprop(TheReads d i N q ∗ (ciLoc d ↦[Finset.univ \ idxSet i]{q} N.ci d) ∗ (siLoc d ↦[Finset.univ \ idxSet i]{q} N.si d)) : sProp 𝕄) := by
  unfold insAt TheReads Reads
  iintro ⟨H0, H1, H2, H3⟩
  ihave H0 := (pointsTo_split_subset (Finset.subset_univ (idxSet i))).1 $$ H0
  ihave H1 := (pointsTo_split_subset (Finset.subset_univ (idxSet i))).1 $$ H1
  ihave H2 := (pointsTo_share (PosShare.mem_left_op_right q)).1 $$ H2
  ihave H3 := (pointsTo_share (PosShare.mem_left_op_right q)).1 $$ H3
  icases H0 with ⟨H0, R0⟩
  icases H1 with ⟨H1, R1⟩
  icases H2 with ⟨H2, H2'⟩
  icases H3 with ⟨H3, H3'⟩
  isplitr [R0 R1]
  · isplitl [H0]; · iexact H0
    isplitl [H1]; · iexact H1
    isplitl [H2]; · iexact H2
    isplitl [H2']; · iexact H2'
    isplitl [H3]; · iexact H3
    iexact H3'
  isplitl [R0] <;> iassumption

theorem reads_close (q : PosShare TreeShare) :
    iprop(TheReads d i N q ∗ (ciLoc d ↦[Finset.univ \ idxSet i]{q} N.ci d) ∗ (siLoc d ↦[Finset.univ \ idxSet i]{q} N.si d)) ⊢ (insAt N d q : sProp 𝕄) := by
  unfold insAt TheReads Reads
  iintro ⟨⟨H0, H1, H2, H2', H3, H3'⟩, R0, R1⟩
  isplitl [H0 R0]
  · iapply (pointsTo_split_subset (Finset.subset_univ (idxSet i))).2; isplitl [H0]; · iexact H0
    iexact R0
  isplitl [H1 R1]
  · iapply (pointsTo_split_subset (Finset.subset_univ (idxSet i))).2; isplitl [H1]; · iexact H1
    iexact R1
  isplitl [H2 H2']
  · iapply (pointsTo_share (PosShare.mem_left_op_right q)).2; isplitl [H2]; · iexact H2
    iexact H2'
  iapply (pointsTo_share (PosShare.mem_left_op_right q)).2; isplitl [H3]; · iexact H3
  iexact H3'

theorem tile_body (hN : N.OK) (O : CellTallies nD τ sig (HIx 1)) (W : Waits sig (HIx 1)) (hO : ∀ g, O g none = 0) :
    iprop(levAts (K (F := F)).L (K (F := F)).lev ∗ emp ∗ goPay N d i ∗ scopedBufs (thr d i) ∗ scopedSems0 (thr d i) ∗ owes (thr d i) O W)
      ⊢ wp (M := 𝕄) frame (wpE (defs₀ (F := F)) 𝒱₀ (thr d i) none) Set.univ
          (cc0__gather_body i (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_0_scv) (Memref.isWhole_whole _) (Memref.whole main_v2_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scoped0 cc0_scoped1 cc0_scoped2 cc0_scoped3)
          fun _ => iprop(tdPay N d i ∗ scopedBufs (thr d i) ∗ scopedSems0 (thr d i) ∗ ∃ W', ⌜∀ p ∈ W', p ∈ W ∨ p.2 = none⌝ ∗ owes (thr d i) O W') := by
  rw [gather_eq]
  have key := wp_gather (F := F) (U := UU) (i := i) d (Memref.whole main_arg0_scv) (Memref.whole main_arg1_scv) (Memref.whole main_v0_scv) (Memref.whole main_v1_scv)
    (Memref.whole main_v2_0_scv) (Memref.whole main_v2_1_scv) (Memref.whole cc0_scratch0) (Memref.isWhole_whole _) (Memref.whole cc0_scratch1) (Memref.isWhole_whole _) (Memref.whole cc0_scratch2) (Memref.whole cc0_scratch3) (Memref.whole cc0_scratch4) (Memref.whole cc0_scratch5)
    (Memref.whole cc0_scratch6) (Memref.isWhole_whole _) (Memref.whole cc0_scratch7) (Memref.isWhole_whole _) cc0_scratch8 cc0_scratch9 cc0_scratch10 cc0_scratch11 cc0_scoped0 cc0_scoped1 cc0_scoped2 cc0_scoped3
    EC (defs := defs₀ (F := F)) 𝒱₀ none (N.ci d) (N.si d) (N.ct d) (N.st d) (tok (i 0).val (i 1).val) (tok (i 0).val (i 1).val).left (tok (i 0).val (i 1).val).right O W
    (ci_lt d i N hN) (si_lt d i N hN)
  refine BIBase.Entails.trans ?_ ((sep_mono_left key).trans ((wp_frame_r frame _ Set.univ (R := iprop(((ciLoc d ↦[Finset.univ \ idxSet i]{tok (i 0).val (i 1).val} N.ci d)
    ∗ (siLoc d ↦[Finset.univ \ idxSet i]{tok (i 0).val (i 1).val} N.si d)) ∗ bufRest d i ∗ semRest d i))).trans (wp_mono frame _ _ fun _ => ?_)))
  · unfold goPay Owing
    iintro ⟨#Hlv, -, ⟨Hin, H6, H7⟩, Hsb, Hss, HO⟩
    ihave Hmw := ((K (F := F)).mayWaits_none (thr := thr d i) hO) $$ Hlv
    ihave Hs := (scratch_open (F := F) d i) $$ [Hsb Hss]
    · isplitl [Hsb] <;> iassumption
    icases Hs with ⟨Hs, HB, HC⟩
    ihave Hr := (reads_open d i N _) $$ Hin
    icases Hr with ⟨Hr, R0, R1⟩
    isplitl [Hr H6 H7 Hs Hmw HO]
    · isplitl [Hr]; · iexact Hr
      isplitl [H6]; · iexact H6
      isplitl [H7]; · iexact H7
      isplitl [Hs]; · iexact Hs
      isplitl [Hmw]; · iexact Hmw
      iexists W; isplitr
      · ipureintro; exact fun p hp => .inl hp
      · iexact HO
    isplitl [R0 R1]; · isplitl [R0] <;> iassumption
    isplitl [HB] <;> iassumption
  · unfold tdPay Owing
    iintro ⟨⟨Hr, ⟨%g6, %h6, H6⟩, ⟨%g7, %h7, H7⟩, Hs, HO⟩, ⟨R0, R1⟩, HB, HC⟩
    isplitl [Hr H6 H7 R0 R1]
    · isplitl [Hr R0 R1]
      · iapply (reads_close d i N _)
        isplitl [Hr]; · iexact Hr
        isplitl [R0] <;> iassumption
      isplitl [H6]
      · iapply (Entails.of_eq (pointsTo_congr (co_of d i N hN g6 h6))); iexact H6
      · iapply (Entails.of_eq (pointsTo_congr (so_of d i N hN g7 h7))); iexact H7
    ihave Hc := (scratch_close (F := F) d i) $$ [Hs HB HC]
    · isplitl [Hs]; · iexact Hs
      isplitl [HB] <;> iassumption
    icases Hc with ⟨Hsb, Hss⟩
    isplitl [Hsb]; · iexact Hsb
    isplitl [Hss]; · iexact Hss
    iexact HO

end Run

/-! ## The launch theorem's obligation -/

variable [FloatOps F] (N : Ins F)

theorem defs₀_vector (c : Fin τ.nSC) (s : Fin τ.nSub) :
    defs₀ (F := F) (.scVector c s) 0 ()
      = SparseCore.onTile hcore0 hsub0 (fun c s => cc0__gather_body (coordsV c s) (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_0_scv) (Memref.isWhole_whole _) (Memref.whole main_v2_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hN : N.OK) : (K (F := F)).TileObl (D (F := F)) 𝒱 (P N) v₀ 0 := by
  intro d c i O W hO _ _
  simp only [show (P N).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) N hN O W hO).trans (wp_mono frame _ _ fun _ => obl_post)

end Cert.Proof

end
-- ==== Proof.Mlp.lean ====
/-
  The second kernel's body: what one run leaves in its two result blocks.
-/
module

public import proofs.«01_k».proof.Proof.Sc
public import proofs.«01_k».proof.Proof.Gen.KernelIdeal.Skeleton
public import Idealize.ShloMosaic.Lib.Tactic
public import Idealize.ShloMosaic.Lib.VecWindow

@[expose] public section

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

noncomputable def mlpRun (c : Dev nD) (i : grid1.Coords)
    (M1 : Memref sig .tc .vmem S512x128 .f32) (h1 : M1.IsWhole) (M2 : Memref sig .tc .vmem S512x128 .f32) (h2 : M2.IsWhole)
    (M3 : Memref sig .tc .vmem S64x64 .f32) (h3 : M3.IsWhole) (M4 : Memref sig .tc .vmem S1x64 .f32) (h4 : M4.IsWhole)
    (M5 : Memref sig .tc .vmem S64x16 .f32) (h5 : M5.IsWhole) (M6 : Memref sig .tc .vmem S1x16 .f32) (h6 : M6.IsWhole)
    (M7 : Memref sig .tc .vmem S64x8 .f32) (h7 : M7.IsWhole) (M8 : Memref sig .tc .vmem S1x8 .f32) (h8 : M8.IsWhole)
    (M9 : Memref sig .tc .vmem S512x64 .f32) (h9 : M9.IsWhole) (M10 : Memref sig .tc .vmem S512x32 .f32) (h10 : M10.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9) (f10 : Bf (F := F) c M10) :
    { W : Bf (F := F) c M9 × Bf (F := F) c M10 // ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10
            ∗ (iprop(pt c M1 f1 ∗ pt c M2 f2 ∗ pt c M3 f3 ∗ pt c M4 f4 ∗ pt c M5 f5 ∗ pt c M6 f6 ∗ pt c M7 f7 ∗ pt c M8 f8 ∗ pt c M9 W.1 ∗ pt c M10 W.2) -∗ Q ⟨⟩))
          ⊢ wp frame (wpE (defs₀ (F := F)) Variants.none c none) E (cc1__mlp_body i M1 h1 M2 h2 M3 h3 M4 h4 M5 h5 M6 h6 M7 h7 M8 h8 M9 h9 M10 h10) Q } := by
  refine ⟨(?_, ?_), fun E Q => ?run⟩
  case run =>
    simp only [cc1__mlp_body_eq_skeleton, k1_part1_eq_skeleton, k1_part2_eq_skeleton, k1_part3_eq_skeleton]
    iintro ⟨H1, H2, H3, H4, H5, H6, H7, H8, H9, H10, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-! ## What the two result blocks read -/

section

variable (X1 X2 : Vec F S512x128 .f32) (X3 : Vec F S64x64 .f32) (X4 : Vec F S1x64 .f32)
variable (X5 : Vec F S64x16 .f32) (X6 : Vec F S1x16 .f32) (X7 : Vec F S64x8 .f32) (X8 : Vec F S1x8 .f32)

/-- The four groups of lanes of the first result block, as the body computes them. -/
def roles (k : ℕ) : FVec F S512x16 .f32 :=
  match k with
  | 0 => k1_pay7 X1 X2 X3 X4 X5 X6
  | 1 => k1_pay10 (k1_pay2 X1) (k1_pay3 X2) (k1_pay4 X3) (k1_pay5 X3) X4 X5 X6
  | 2 => k1_pay14 (k1_pay12 (k1_pay2 X1) (k1_pay3 X2) (k1_pay4 X3) (k1_pay5 X3) X4) (Scalar.ofBits .f32 0x00000000#32) X5 X6
  | _ => k1_pay17 (k1_pay2 X1) (k1_pay3 X2) (k1_pay4 X3) (k1_pay5 X3) X4 X5 X6

/-- The four groups of lanes of the second. -/
def peds (k : ℕ) : FVec F S512x8 .f32 :=
  match k with
  | 0 => k1_pay8 X1 X2 X3 X4 X7 X8
  | 1 => k1_pay11 (k1_pay2 X1) (k1_pay3 X2) (k1_pay4 X3) (k1_pay5 X3) X4 X7 X8
  | 2 => k1_pay15 (k1_pay12 (k1_pay2 X1) (k1_pay3 X2) (k1_pay4 X3) (k1_pay5 X3) X4) (Scalar.ofBits .f32 0x00000000#32) X7 X8
  | _ => k1_pay1 (k1_pay16 (k1_pay2 X1) (k1_pay3 X2) (k1_pay4 X3) (k1_pay5 X3) X4) X7 X8

def out9 : S512x64.Idx → Elt F .f32 := fun z =>
  roles X1 X2 X3 X4 X5 X6 ((z 1).val / 16) (ix2 (⟨(z 0).val, (z 0).isLt⟩ : Fin 512) (⟨(z 1).val % 16, Nat.mod_lt _ (by decide)⟩ : Fin 16))

def out10 : S512x32.Idx → Elt F .f32 := fun z =>
  peds X1 X2 X3 X4 X7 X8 ((z 1).val / 8) (ix2 (⟨(z 0).val, (z 0).isLt⟩ : Fin 512) (⟨(z 1).val % 8, Nat.mod_lt _ (by decide)⟩ : Fin 8))

theorem out9_at (k : ℕ) (inb : ∀ a, (![0, 16 * k] : Fin 2 → ℕ) a + S512x16.size a ≤ S512x64.size a) (x : S512x16.Idx) :
    out9 X1 X2 X3 X4 X5 X6 ((Rect.unit (s := S512x64) ![0, 16 * k] S512x16.size inb).emb x) = roles X1 X2 X3 X4 X5 X6 k x := by
  have h0 : (((Rect.unit (s := S512x64) ![0, 16 * k] S512x16.size inb).emb x) 0).val = (x 0).val := by
    show 0 + 1 * (x 0).val = _; omega
  have h1 : (((Rect.unit (s := S512x64) ![0, 16 * k] S512x16.size inb).emb x) 1).val = 16 * k + (x 1).val := by
    show 16 * k + 1 * (x 1).val = _; omega
  have hx : (x 1).val < 16 := (x 1).isLt
  refine congr (congrArg (roles X1 X2 X3 X4 X5 X6) ?_) (funext fun a => ?_)
  · rw [h1]; omega
  fin_cases a
  · exact Fin.ext h0
  · refine Fin.ext ?_
    show ((((Rect.unit (s := S512x64) ![0, 16 * k] S512x16.size inb).emb x) 1).val) % 16 = (x 1).val
    rw [h1]; omega

theorem out10_at (k : ℕ) (inb : ∀ a, (![0, 8 * k] : Fin 2 → ℕ) a + S512x8.size a ≤ S512x32.size a) (x : S512x8.Idx) :
    out10 X1 X2 X3 X4 X7 X8 ((Rect.unit (s := S512x32) ![0, 8 * k] S512x8.size inb).emb x) = peds X1 X2 X3 X4 X7 X8 k x := by
  have h0 : (((Rect.unit (s := S512x32) ![0, 8 * k] S512x8.size inb).emb x) 0).val = (x 0).val := by
    show 0 + 1 * (x 0).val = _; omega
  have h1 : (((Rect.unit (s := S512x32) ![0, 8 * k] S512x8.size inb).emb x) 1).val = 8 * k + (x 1).val := by
    show 8 * k + 1 * (x 1).val = _; omega
  have hx : (x 1).val < 8 := (x 1).isLt
  refine congr (congrArg (peds X1 X2 X3 X4 X7 X8) ?_) (funext fun a => ?_)
  · rw [h1]; omega
  fin_cases a
  · exact Fin.ext h0
  · refine Fin.ext ?_
    show ((((Rect.unit (s := S512x32) ![0, 8 * k] S512x8.size inb).emb x) 1).val) % 8 = (x 1).val
    rw [h1]; omega

end

section

variable (c : Dev nD) (i : grid1.Coords)
    (M1 : Memref sig .tc .vmem S512x128 .f32) (h1 : M1.IsWhole) (M2 : Memref sig .tc .vmem S512x128 .f32) (h2 : M2.IsWhole)
    (M3 : Memref sig .tc .vmem S64x64 .f32) (h3 : M3.IsWhole) (M4 : Memref sig .tc .vmem S1x64 .f32) (h4 : M4.IsWhole)
    (M5 : Memref sig .tc .vmem S64x16 .f32) (h5 : M5.IsWhole) (M6 : Memref sig .tc .vmem S1x16 .f32) (h6 : M6.IsWhole)
    (M7 : Memref sig .tc .vmem S64x8 .f32) (h7 : M7.IsWhole) (M8 : Memref sig .tc .vmem S1x8 .f32) (h8 : M8.IsWhole)
    (M9 : Memref sig .tc .vmem S512x64 .f32) (h9 : M9.IsWhole) (M10 : Memref sig .tc .vmem S512x32 .f32) (h10 : M10.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9) (f10 : Bf (F := F) c M10)

theorem read_out9 : M9.view.read (Elt F) (mlpRun c i M1 h1 M2 h2 M3 h3 M4 h4 M5 h5 M6 h6 M7 h7 M8 h8 M9 h9 M10 h10 f1 f2 f3 f4 f5 f6 f7 f8 f9 f10).1.1
    = out9 (M1.view.read (Elt F) f1) (M2.view.read (Elt F) f2) (M3.view.read (Elt F) f3) (M4.view.read (Elt F) f4) (M5.view.read (Elt F) f5) (M6.view.read (Elt F) f6) := by
  rw [show M1.view.read (Elt F) f1 = M1.view.readAt (Elt F) (Rect.unit (s := S512x128) ![0, 0] S512x128.size inb_S512x128_S512x128_0_0).toLoadRect f1 from (View.readAt_full ..).symm]
  rw [show M2.view.read (Elt F) f2 = M2.view.readAt (Elt F) (Rect.unit (s := S512x128) ![0, 0] S512x128.size inb_S512x128_S512x128_0_0).toLoadRect f2 from (View.readAt_full ..).symm]
  rw [show M3.view.read (Elt F) f3 = M3.view.readAt (Elt F) (Rect.unit (s := S64x64) ![0, 0] S64x64.size inb_S64x64_S64x64_0_0).toLoadRect f3 from (View.readAt_full ..).symm]
  rw [show M4.view.read (Elt F) f4 = M4.view.readAt (Elt F) (Rect.unit (s := S1x64) ![0, 0] S1x64.size inb_S1x64_S1x64_0_0).toLoadRect f4 from (View.readAt_full ..).symm]
  rw [show M5.view.read (Elt F) f5 = M5.view.readAt (Elt F) (Rect.unit (s := S64x16) ![0, 0] S64x16.size inb_S64x16_S64x16_0_0).toLoadRect f5 from (View.readAt_full ..).symm]
  rw [show M6.view.read (Elt F) f6 = M6.view.readAt (Elt F) (Rect.unit (s := S1x16) ![0, 0] S1x16.size inb_S1x16_S1x16_0_0).toLoadRect f6 from (View.readAt_full ..).symm]
  funext y
  refine View.read_writes_apply_of_pieces M9.view _ (out9 _ _ _ _ _ _) (mlpRun.sl.H9_4 c M1 M2 M3 M4 M5 M6 f1 f2 f3 f4 f5 f6) ?_ y ?_
  · intro p hp
    unfold mlpRun.sl.H9_4 at hp
    rcases List.mem_cons.mp hp with rfl | hp
    · exact fun x => (out9_at _ _ _ _ _ _ 3 inb_S512x64_S512x16_0_48 x).symm
    rcases List.mem_cons.mp hp with rfl | hp
    · exact fun x => (out9_at _ _ _ _ _ _ 2 inb_S512x64_S512x16_0_32 x).symm
    rcases List.mem_cons.mp hp with rfl | hp
    · exact fun x => (out9_at _ _ _ _ _ _ 1 inb_S512x64_S512x16_0_16 x).symm
    rcases List.mem_cons.mp hp with rfl | hp
    · exact fun x => (out9_at _ _ _ _ _ _ 0 inb_S512x64_S512x16_0_0 x).symm
    exact absurd hp List.not_mem_nil
  · unfold mlpRun.sl.H9_4
    have hy0 : (y 0).val < 512 := (y 0).isLt
    have hy1 : (y 1).val < 64 := (y 1).isLt
    have hm : ∀ (o : ℕ) inb, o ≤ (y 1).val → (y 1).val < o + 16 → y ∈ (Rect.unit (s := S512x64) ![0, o] S512x16.size inb).set := by
      intro o inb ha hb
      rw [Rect.mem_set_unit]
      intro a; fin_cases a
      · exact ⟨Nat.zero_le _, by show (y 0).val < 0 + 512; omega⟩
      · exact ⟨ha, hb⟩
    by_cases g3 : 48 ≤ (y 1).val
    · exact ⟨_, List.mem_cons_self, hm 48 inb_S512x64_S512x16_0_48 g3 (by omega)⟩
    by_cases g2 : 32 ≤ (y 1).val
    · exact ⟨_, List.mem_cons_of_mem _ List.mem_cons_self, hm 32 inb_S512x64_S512x16_0_32 g2 (by omega)⟩
    by_cases g1 : 16 ≤ (y 1).val
    · exact ⟨_, List.mem_cons_of_mem _ (List.mem_cons_of_mem _ List.mem_cons_self), hm 16 inb_S512x64_S512x16_0_16 g1 (by omega)⟩
    · exact ⟨_, List.mem_cons_of_mem _ (List.mem_cons_of_mem _ (List.mem_cons_of_mem _ List.mem_cons_self)), hm 0 inb_S512x64_S512x16_0_0 (by omega) (by omega)⟩

theorem read_out10 : M10.view.read (Elt F) (mlpRun c i M1 h1 M2 h2 M3 h3 M4 h4 M5 h5 M6 h6 M7 h7 M8 h8 M9 h9 M10 h10 f1 f2 f3 f4 f5 f6 f7 f8 f9 f10).1.2
    = out10 (M1.view.read (Elt F) f1) (M2.view.read (Elt F) f2) (M3.view.read (Elt F) f3) (M4.view.read (Elt F) f4) (M7.view.read (Elt F) f7) (M8.view.read (Elt F) f8) := by
  rw [show M1.view.read (Elt F) f1 = M1.view.readAt (Elt F) (Rect.unit (s := S512x128) ![0, 0] S512x128.size inb_S512x128_S512x128_0_0).toLoadRect f1 from (View.readAt_full ..).symm]
  rw [show M2.view.read (Elt F) f2 = M2.view.readAt (Elt F) (Rect.unit (s := S512x128) ![0, 0] S512x128.size inb_S512x128_S512x128_0_0).toLoadRect f2 from (View.readAt_full ..).symm]
  rw [show M3.view.read (Elt F) f3 = M3.view.readAt (Elt F) (Rect.unit (s := S64x64) ![0, 0] S64x64.size inb_S64x64_S64x64_0_0).toLoadRect f3 from (View.readAt_full ..).symm]
  rw [show M4.view.read (Elt F) f4 = M4.view.readAt (Elt F) (Rect.unit (s := S1x64) ![0, 0] S1x64.size inb_S1x64_S1x64_0_0).toLoadRect f4 from (View.readAt_full ..).symm]
  rw [show M7.view.read (Elt F) f7 = M7.view.readAt (Elt F) (Rect.unit (s := S64x8) ![0, 0] S64x8.size inb_S64x8_S64x8_0_0).toLoadRect f7 from (View.readAt_full ..).symm]
  rw [show M8.view.read (Elt F) f8 = M8.view.readAt (Elt F) (Rect.unit (s := S1x8) ![0, 0] S1x8.size inb_S1x8_S1x8_0_0).toLoadRect f8 from (View.readAt_full ..).symm]
  funext y
  refine View.read_writes_apply_of_pieces M10.view _ (out10 _ _ _ _ _ _) (mlpRun.sl.H10_4 c M1 M2 M3 M4 M7 M8 f1 f2 f3 f4 f7 f8) ?_ y ?_
  · intro p hp
    unfold mlpRun.sl.H10_4 at hp
    rcases List.mem_cons.mp hp with rfl | hp
    · exact fun x => (out10_at _ _ _ _ _ _ 3 inb_S512x32_S512x8_0_24 x).symm
    rcases List.mem_cons.mp hp with rfl | hp
    · exact fun x => (out10_at _ _ _ _ _ _ 2 inb_S512x32_S512x8_0_16 x).symm
    rcases List.mem_cons.mp hp with rfl | hp
    · exact fun x => (out10_at _ _ _ _ _ _ 1 inb_S512x32_S512x8_0_8 x).symm
    rcases List.mem_cons.mp hp with rfl | hp
    · exact fun x => (out10_at _ _ _ _ _ _ 0 inb_S512x32_S512x8_0_0 x).symm
    exact absurd hp List.not_mem_nil
  · unfold mlpRun.sl.H10_4
    have hy0 : (y 0).val < 512 := (y 0).isLt
    have hy1 : (y 1).val < 32 := (y 1).isLt
    have hm : ∀ (o : ℕ) inb, o ≤ (y 1).val → (y 1).val < o + 8 → y ∈ (Rect.unit (s := S512x32) ![0, o] S512x8.size inb).set := by
      intro o inb ha hb
      rw [Rect.mem_set_unit]
      intro a; fin_cases a
      · exact ⟨Nat.zero_le _, by show (y 0).val < 0 + 512; omega⟩
      · exact ⟨ha, hb⟩
    by_cases g3 : 24 ≤ (y 1).val
    · exact ⟨_, List.mem_cons_self, hm 24 inb_S512x32_S512x8_0_24 g3 (by omega)⟩
    by_cases g2 : 16 ≤ (y 1).val
    · exact ⟨_, List.mem_cons_of_mem _ List.mem_cons_self, hm 16 inb_S512x32_S512x8_0_16 g2 (by omega)⟩
    by_cases g1 : 8 ≤ (y 1).val
    · exact ⟨_, List.mem_cons_of_mem _ (List.mem_cons_of_mem _ List.mem_cons_self), hm 8 inb_S512x32_S512x8_0_8 g1 (by omega)⟩
    · exact ⟨_, List.mem_cons_of_mem _ (List.mem_cons_of_mem _ (List.mem_cons_of_mem _ List.mem_cons_self)), hm 0 inb_S512x32_S512x8_0_0 (by omega) (by omega)⟩

end

end Cert.Proof

end
-- ==== Proof.Region.lean ====
/-
  The second kernel as a region of @main: its proof data at an entry valuation, its body obligation, the region.
-/
module

public import proofs.«01_k».proof.Proof.Mlp
public import proofs.«01_k».proof.Proof.Gen.KernelIdeal.Points
public import Idealize.ShloMosaic.Lib.Pipeline.FrameBody

@[expose] public section

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

/-- An entry valuation: the contents of every buffer the TensorCore names. -/
abbrev Vals (F : FTy → Type) : Type := (c : Dev nD) → (b : Ref sig .tc) → Buf (Elt F) ((c : Thread nD τ).loc b)

variable (V : Vals F)

/-- Window 0's block at point `t` as a fetch stages it. -/
def blk0 (c : Dev nD) (t : Fin cfg1.N) : S512x128.Idx → Elt F .f32 := ((cfg1.win 0).blk t).view.read (Elt F) (V c main_v2_0)
/-- Window 1's block at point `t` as a fetch stages it. -/
def blk1 (c : Dev nD) (t : Fin cfg1.N) : S512x128.Idx → Elt F .f32 := ((cfg1.win 1).blk t).view.read (Elt F) (V c main_v2_1)
/-- Window 2's block at point `t` as a fetch stages it. -/
def blk2 (c : Dev nD) (t : Fin cfg1.N) : S64x64.Idx → Elt F .f32 := ((cfg1.win 2).blk t).view.read (Elt F) (V c main_arg4)
/-- Window 3's block at point `t` as a fetch stages it. -/
def blk3 (c : Dev nD) (t : Fin cfg1.N) : S1x64.Idx → Elt F .f32 := ((cfg1.win 3).blk t).view.read (Elt F) (V c main_v3)
/-- Window 4's block at point `t` as a fetch stages it. -/
def blk4 (c : Dev nD) (t : Fin cfg1.N) : S64x16.Idx → Elt F .f32 := ((cfg1.win 4).blk t).view.read (Elt F) (V c main_arg6)
/-- Window 5's block at point `t` as a fetch stages it. -/
def blk5 (c : Dev nD) (t : Fin cfg1.N) : S1x16.Idx → Elt F .f32 := ((cfg1.win 5).blk t).view.read (Elt F) (V c main_v4)
/-- Window 6's block at point `t` as a fetch stages it. -/
def blk6 (c : Dev nD) (t : Fin cfg1.N) : S64x8.Idx → Elt F .f32 := ((cfg1.win 6).blk t).view.read (Elt F) (V c main_arg8)
/-- Window 7's block at point `t` as a fetch stages it. -/
def blk7 (c : Dev nD) (t : Fin cfg1.N) : S1x8.Idx → Elt F .f32 := ((cfg1.win 7).blk t).view.read (Elt F) (V c main_v5)

/-- The proof data of an entry from `V`: nothing owed, the inputs' blocks left in place, the results' at the body's. -/
def dat (b : ℕ) (c : Dev nD) : Dat τ (Elt F) (HIx 1) ℕ UU ℕ cfg1 c where
  A w := V c (Pipeline.arrRef spec1 w)
  after w t := match w with
    | 0 => blk0 V c t
    | 1 => blk1 V c t
    | 2 => blk2 V c t
    | 3 => blk3 V c t
    | 4 => blk4 V c t
    | 5 => blk5 V c t
    | 6 => blk6 V c t
    | 7 => blk7 V c t
    | 8 => out9 (blk0 V c t) (blk1 V c t) (blk2 V c t) (blk3 V c t) (blk4 V c t) (blk5 V c t)
    | 9 => out10 (blk0 V c t) (blk1 V c t) (blk2 V c t) (blk3 V c t) (blk6 V c t) (blk7 V c t)
  Φ _ := BI.emp
  q _ := fullShare
  owed _ := 0
  recorded _ := {p | (K (F := F)).lev ((c : Thread nD τ), p.1) p.2 ≤ b}

theorem before0 (b : ℕ) (c : Dev nD) (t : Fin cfg1.N) (d : (cfg1.win 0).block.Idx → Elt F (cfg1.win 0).elt) : (dat V b c).before 0 t d = blk0 V c t :=
  ((dat V b c).before_in_eq_fetched 0 rfl (fun _ => rfl) (fun _ _ _ => rfl) (fun _ => rfl) t d).trans rfl
theorem before1 (b : ℕ) (c : Dev nD) (t : Fin cfg1.N) (d : (cfg1.win 1).block.Idx → Elt F (cfg1.win 1).elt) : (dat V b c).before 1 t d = blk1 V c t :=
  ((dat V b c).before_in_eq_fetched 1 rfl (fun _ => rfl) (fun _ _ _ => rfl) (fun _ => rfl) t d).trans rfl
theorem before2 (b : ℕ) (c : Dev nD) (t : Fin cfg1.N) (d : (cfg1.win 2).block.Idx → Elt F (cfg1.win 2).elt) : (dat V b c).before 2 t d = blk2 V c t :=
  ((dat V b c).before_in_eq_fetched 2 rfl (fun _ => rfl) (fun _ _ _ => rfl) (fun _ => rfl) t d).trans rfl
theorem before3 (b : ℕ) (c : Dev nD) (t : Fin cfg1.N) (d : (cfg1.win 3).block.Idx → Elt F (cfg1.win 3).elt) : (dat V b c).before 3 t d = blk3 V c t :=
  ((dat V b c).before_in_eq_fetched 3 rfl (fun _ => rfl) (fun _ _ _ => rfl) (fun _ => rfl) t d).trans rfl
theorem before4 (b : ℕ) (c : Dev nD) (t : Fin cfg1.N) (d : (cfg1.win 4).block.Idx → Elt F (cfg1.win 4).elt) : (dat V b c).before 4 t d = blk4 V c t :=
  ((dat V b c).before_in_eq_fetched 4 rfl (fun _ => rfl) (fun _ _ _ => rfl) (fun _ => rfl) t d).trans rfl
theorem before5 (b : ℕ) (c : Dev nD) (t : Fin cfg1.N) (d : (cfg1.win 5).block.Idx → Elt F (cfg1.win 5).elt) : (dat V b c).before 5 t d = blk5 V c t :=
  ((dat V b c).before_in_eq_fetched 5 rfl (fun _ => rfl) (fun _ _ _ => rfl) (fun _ => rfl) t d).trans rfl
theorem before6 (b : ℕ) (c : Dev nD) (t : Fin cfg1.N) (d : (cfg1.win 6).block.Idx → Elt F (cfg1.win 6).elt) : (dat V b c).before 6 t d = blk6 V c t :=
  ((dat V b c).before_in_eq_fetched 6 rfl (fun _ => rfl) (fun _ _ _ => rfl) (fun _ => rfl) t d).trans rfl
theorem before7 (b : ℕ) (c : Dev nD) (t : Fin cfg1.N) (d : (cfg1.win 7).block.Idx → Elt F (cfg1.win 7).elt) : (dat V b c).before 7 t d = blk7 V c t :=
  ((dat V b c).before_in_eq_fetched 7 rfl (fun _ => rfl) (fun _ _ _ => rfl) (fun _ => rfl) t d).trans rfl

/-- A whole memref owned at a reading: its buffer held in full. -/
theorem owns_whole_mem (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

set_option maxHeartbeats 2000000 in
/-- The body over any whole memrefs: the inputs left at their readings, the results at the body's. -/
theorem body_run (c : Dev nD) (i : grid1.Coords)
    (M1 : Memref sig .tc .vmem S512x128 .f32) (h1 : M1.IsWhole)
    (M2 : Memref sig .tc .vmem S512x128 .f32) (h2 : M2.IsWhole)
    (M3 : Memref sig .tc .vmem S64x64 .f32) (h3 : M3.IsWhole)
    (M4 : Memref sig .tc .vmem S1x64 .f32) (h4 : M4.IsWhole)
    (M5 : Memref sig .tc .vmem S64x16 .f32) (h5 : M5.IsWhole)
    (M6 : Memref sig .tc .vmem S1x16 .f32) (h6 : M6.IsWhole)
    (M7 : Memref sig .tc .vmem S64x8 .f32) (h7 : M7.IsWhole)
    (M8 : Memref sig .tc .vmem S1x8 .f32) (h8 : M8.IsWhole)
    (M9 : Memref sig .tc .vmem S512x64 .f32) (h9 : M9.IsWhole)
    (M10 : Memref sig .tc .vmem S512x32 .f32) (h10 : M10.IsWhole)
    (X1 : S512x128.Idx → Elt F .f32)
    (X2 : S512x128.Idx → Elt F .f32)
    (X3 : S64x64.Idx → Elt F .f32)
    (X4 : S1x64.Idx → Elt F .f32)
    (X5 : S64x16.Idx → Elt F .f32)
    (X6 : S1x16.Idx → Elt F .f32)
    (X7 : S64x8.Idx → Elt F .f32)
    (X8 : S1x8.Idx → Elt F .f32)
    (X9 : S512x64.Idx → Elt F .f32)
    (X10 : S512x32.Idx → Elt F .f32)
    (Q : PUnit → sProp 𝕄) :
    iprop((owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10) ∗ ((owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare (out9 X1 X2 X3 X4 X5 X6) ∗ owns (c : Thread nD τ) M10 fullShare (out10 X1 X2 X3 X4 X7 X8)) -∗ Q ⟨⟩))
      ⊢ wp frame (wpE (defs₀ (F := F)) Variants.none (c : Thread nD τ) none) Set.univ (cc1__mlp_body i M1 h1 M2 h2 M3 h3 M4 h4 M5 h5 M6 h6 M7 h7 M8 h8 M9 h9 M10 h10) Q := by
  rw [owns_whole_mem c M1 h1, owns_whole_mem c M2 h2, owns_whole_mem c M3 h3, owns_whole_mem c M4 h4, owns_whole_mem c M5 h5, owns_whole_mem c M6 h6, owns_whole_mem c M7 h7, owns_whole_mem c M8 h8, owns_whole_mem c M9 h9, owns_whole_mem c M10 h10, owns_whole_mem c M9 h9, owns_whole_mem c M10 h10]
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, HQ⟩
  iapply ((mlpRun c i M1 h1 M2 h2 M3 h3 M4 h4 M5 h5 M6 h6 M7 h7 M8 h8 M9 h9 M10 h10 f1 f2 f3 f4 f5 f6 f7 f8 f9 f10).2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, H7, H8, H9, H10⟩
  iapply HQ
  isplitl [H1]
  · iexists f1; isplitr; (· ipureintro; exact e1); iexact H1
  isplitl [H2]
  · iexists f2; isplitr; (· ipureintro; exact e2); iexact H2
  isplitl [H3]
  · iexists f3; isplitr; (· ipureintro; exact e3); iexact H3
  isplitl [H4]
  · iexists f4; isplitr; (· ipureintro; exact e4); iexact H4
  isplitl [H5]
  · iexists f5; isplitr; (· ipureintro; exact e5); iexact H5
  isplitl [H6]
  · iexists f6; isplitr; (· ipureintro; exact e6); iexact H6
  isplitl [H7]
  · iexists f7; isplitr; (· ipureintro; exact e7); iexact H7
  isplitl [H8]
  · iexists f8; isplitr; (· ipureintro; exact e8); iexact H8
  isplitl [H9]
  · iexists _; isplitr; swap; (· iexact H9)
    ipureintro; rw [read_out9, e1, e2, e3, e4, e5, e6]
  iexists _; isplitr; swap; (· iexact H10)
  ipureintro; rw [read_out10, e1, e2, e3, e4, e7, e8]

set_option maxHeartbeats 2000000 in
/-- The library's body obligation. -/
theorem body_obligation (b : ℕ) (c : Dev nD) : BodyObligation (dat V b c) (defs₀ (F := F)) Variants.none (none : HIx 1) Set.univ := fun t => by
  rw [bigSep_W1, bigSep_W1]
  rw [show (dat V b c).Φ t.castSucc = (BI.emp : sProp 𝕄) from rfl, show (dat V b c).Φ t.succ = (BI.emp : sProp 𝕄) from rfl,
    show (dat V b c).owesAt (none : HIx 1) t.succ = (dat V b c).owesAt (none : HIx 1) t.castSucc from rfl]
  iintro ⟨-, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H0 := (Entails.of_eq (congrArg (owns (c : Thread nD τ) ((cfg1.win 0).stage (cfg1.slots t 0)) fullShare) (before0 V b c t d0))) $$ H0
  ihave H1 := (Entails.of_eq (congrArg (owns (c : Thread nD τ) ((cfg1.win 1).stage (cfg1.slots t 1)) fullShare) (before1 V b c t d1))) $$ H1
  ihave H2 := (Entails.of_eq (congrArg (owns (c : Thread nD τ) ((cfg1.win 2).stage (cfg1.slots t 2)) fullShare) (before2 V b c t d2))) $$ H2
  ihave H3 := (Entails.of_eq (congrArg (owns (c : Thread nD τ) ((cfg1.win 3).stage (cfg1.slots t 3)) fullShare) (before3 V b c t d3))) $$ H3
  ihave H4 := (Entails.of_eq (congrArg (owns (c : Thread nD τ) ((cfg1.win 4).stage (cfg1.slots t 4)) fullShare) (before4 V b c t d4))) $$ H4
  ihave H5 := (Entails.of_eq (congrArg (owns (c : Thread nD τ) ((cfg1.win 5).stage (cfg1.slots t 5)) fullShare) (before5 V b c t d5))) $$ H5
  ihave H6 := (Entails.of_eq (congrArg (owns (c : Thread nD τ) ((cfg1.win 6).stage (cfg1.slots t 6)) fullShare) (before6 V b c t d6))) $$ H6
  ihave H7 := (Entails.of_eq (congrArg (owns (c : Thread nD τ) ((cfg1.win 7).stage (cfg1.slots t 7)) fullShare) (before7 V b c t d7))) $$ H7
  iapply (body_run c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9))
    (blk0 V c t) (blk1 V c t) (blk2 V c t) (blk3 V c t) (blk4 V c t) (blk5 V c t) (blk6 V c t) (blk7 V c t) _ _ _)
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro ⟨H0, H1, H2, H3, H4, H5, H6, H7, H8, H9⟩
  isplitr; · iempintro
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Proof

end
-- ==== Proof.Reg.lean ====
/-
  The second kernel as a region of the main program.
-/
module

public import proofs.«01_k».proof.Proof.Region
public import proofs.«01_k».proof.Proof.Gen.KernelIdeal.Launch
public import Idealize.ShloMosaic.Lib.Pipeline.FrameBody
public import Idealize.ShloMosaic.Lib.Pipeline.RegionsLoop

@[expose] public section

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

/-- No pipeline has a prefetched table: nothing is admitted of one. -/
abbrev adm : (p : Fin 1) → (pcfgs (F := F) p).Adm := fun p => (cfgs p).toPCfg_adm

variable (V : Vals F) (b : ℕ)

/-- The one pipeline's proof data. -/
def pdats (p : Fin 1) (c : Dev nD) : Dat τ (Elt F) (HIx 1) ℕ UU ℕ (Pipeline.pin (pcfgs (F := F)) adm p) c := dat V b c

/-- What the core owes across the region: nothing, its recorded waits at most `b`. -/
abbrev owes0 (c : Dev nD) : sProp 𝕄 :=
  iprop(∃ W, ⌜(K (F := F)).WBelow (SparseCore.T c) W b⌝ ∗ owes (SparseCore.T c) (0 : CellTallies nD τ sig (HIx 1)) W)

set_option backward.isDefEq.respectTransparency.types false in
/-- The region from the unscoped buffers at `V` to them at `Vp`: `V` but for the two results, at what the pipeline leaves. -/
def reg (Vp : Vals F) (h8 : ∀ c, Vp c main_v6_0 = (dat V b c).arrAt 8 cfg1.N) (h9 : ∀ c, Vp c main_v6_1 = (dat V b c).arrAt 9 cfg1.N)
    (hne : ∀ c (r : Ref sig .tc), r ≠ main_v6_0 → r ≠ main_v6_1 → Vp c r = V c r) :
    Pipeline.RegionSeg (pcfgs (F := F)) adm (pdats V b) (none : HIx 1) defs₀ Variants.none (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V b c).loose
  hwaits := Pipeline.hwaits_of_owed_zero _ _ _ _ (K (F := F)).L (K (F := F)).lev 0 fun _ _ => rfl
  pre c := iprop(unscopedBufs c (V c) ∗ owes0 b c)
  post c := iprop(unscopedBufs c (Vp c) ∗ owes0 b c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V b) (launch1).win (launch1).arr_whole c
      ((pdats V b 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V b 0 c).Φ 0 = (BI.emp : sProp 𝕄) from rfl]
    iintro ⟨-, -, Hr⟩
    ihave Hr := (Entails.of_eq (scopedRest1_eq c)) $$ Hr
    iexact Hr
  hout c := by
    rw [Pipeline.ownSems0_none, show (pdats V b 0 c).Φ (Fin.last _) = (BI.emp : sProp 𝕄) from rfl]
    iintro Hr
    isplitr; · iempintro
    isplitr; · iempintro
    iapply (Entails.of_eq (scopedRest1_eq c).symm); iexact Hr
  hexit c := by
    have hjoin := Pipeline.unscopedBufs_of_arrays (p := 0) (pcfgs (F := F)) adm (Ix := HIx 1) (Name := ℕ) (U := UU) (Lvl := ℕ) (launch1).win (launch1).arr_whole c
      (pdats V b) ((pdats V b 0 c).share_full fun _ => rfl) (V c) (Vp c) ((pdats V b 0 c).arrAt · cfg1.N)
      (fun w => by
        fin_cases w
        · exact ((dat V b c).arrAt_in 0 rfl _).trans (hne c main_v2_0 (by decide) (by decide)).symm
        · exact ((dat V b c).arrAt_in 1 rfl _).trans (hne c main_v2_1 (by decide) (by decide)).symm
        · exact ((dat V b c).arrAt_in 2 rfl _).trans (hne c main_arg4 (by decide) (by decide)).symm
        · exact ((dat V b c).arrAt_in 3 rfl _).trans (hne c main_v3 (by decide) (by decide)).symm
        · exact ((dat V b c).arrAt_in 4 rfl _).trans (hne c main_arg6 (by decide) (by decide)).symm
        · exact ((dat V b c).arrAt_in 5 rfl _).trans (hne c main_v4 (by decide) (by decide)).symm
        · exact ((dat V b c).arrAt_in 6 rfl _).trans (hne c main_arg8 (by decide) (by decide)).symm
        · exact ((dat V b c).arrAt_in 7 rfl _).trans (hne c main_v5 (by decide) (by decide)).symm
        · exact (h8 c).symm
        · exact (h9 c).symm)
      (fun r hr => hne c r (fun h => hr (h ▸ Finset.mem_image.mpr ⟨8, Finset.mem_univ _, rfl⟩)) fun h => hr (h ▸ Finset.mem_image.mpr ⟨9, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

variable (Vp : Vals F) (h8 : ∀ c, Vp c main_v6_0 = (dat V b c).arrAt 8 cfg1.N) (h9 : ∀ c, Vp c main_v6_1 = (dat V b c).arrAt 9 cfg1.N)
    (hne : ∀ c (r : Ref sig .tc), r ≠ main_v6_0 → r ≠ main_v6_1 → Vp c r = V c r) in
theorem reg_pre (c : Dev nD) : (reg V b Vp h8 h9 hne).pre c = iprop(unscopedBufs c (V c) ∗ owes0 b c) := by unfold reg; rfl

variable (Vp : Vals F) (h8 : ∀ c, Vp c main_v6_0 = (dat V b c).arrAt 8 cfg1.N) (h9 : ∀ c, Vp c main_v6_1 = (dat V b c).arrAt 9 cfg1.N)
    (hne : ∀ c (r : Ref sig .tc), r ≠ main_v6_0 → r ≠ main_v6_1 → Vp c r = V c r) in
theorem reg_post (c : Dev nD) : (reg V b Vp h8 h9 hne).post c = iprop(unscopedBufs c (Vp c) ∗ owes0 b c) := by unfold reg; rfl

/-- The region's call under the kernels' own labels. -/
def entryProg : Prog (TpuEff nD τ sig (Elt F) (ΛP (F := F)) .tc) PUnit := .op (.customCall (Pipeline.entry 0) ()) .ret

theorem lift_entry : (SparseCore.liftProg (entryProg (F := F)) : Prog (TpuEff nD τ sig (Elt F) (SparseCore.Sig (ΛP (F := F)) 1) .tc) PUnit)
    = Prog.lift (.customCall (SparseCore.inner (Pipeline.entry 0)) ()) := rfl

/-- One step of the main program: the region, run as lifted into the SparseCore program's table. -/
theorem wp_region [∀ e, Nonempty (Elt F e)] (Vp : Vals F) (h8 : ∀ c, Vp c main_v6_0 = (dat V b c).arrAt 8 cfg1.N)
    (h9 : ∀ c, Vp c main_v6_1 = (dat V b c).arrAt 9 cfg1.N)
    (hne : ∀ c (r : Ref sig .tc), r ≠ main_v6_0 → r ≠ main_v6_1 → Vp c r = V c r) (c : Dev nD) (Q : PUnit → sProp 𝕄) :
    iprop((iprop(boundary (SparseCore.T c) ∗ unscopedBufs c (Vp c) ∗ owes0 b c) -∗ Q ⟨⟩)
        ∗ boundary (SparseCore.T c) ∗ (unscopedBufs c (V c) ∗ owes0 b c) ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE ((K (F := F)).defs (D (F := F))) 𝒱 (SparseCore.T c) none) Set.univ
          (Prog.lift (.customCall (SparseCore.inner (Pipeline.entry 0)) ())) Q := by
  rw [← lift_entry]
  refine BIBase.Entails.trans ?_ (SparseCore.Cfg.wp_liftProg (K := K (F := F)) (D := D (F := F)) (𝒱 := 𝒱) (SparseCore.T c) Set.univ none entryProg Q)
  refine BIBase.Entails.trans ?_ (Pipeline.RegionSeg.wp (pcfgs (F := F)) adm (pdats V b) (none : HIx 1) cellOf_inj EP defs₀ Variants.none
    (K (F := F)).L (K (F := F)).lev (reg V b Vp h8 h9 hne) c none (fun _ h => nomatch h) .ret Q)
  rw [reg_pre, reg_post]
  iintro ⟨HQ, Hb, Hp, Hl, Hg, Ht⟩
  isplitl [HQ]
  · iintro ⟨Hb, Hp⟩
    rw [wp_ret]; imodintro
    iapply HQ
    isplitl [Hb] <;> iassumption
  isplitl [Hb]; · iexact Hb
  isplitl [Hp]; · iexact Hp
  isplitl [Hl]; · iexact Hl
  isplitl [Hg] <;> iassumption

end Cert.Proof

end
-- ==== Proof.Call.lean ====
/-
  The gather as a step of the main program: its arrays split among the tiles and joined again.
-/
module

public import proofs.«01_k».proof.Proof.Reg
public import proofs.«01_k».proof.Proof.Sc

@[expose] public section

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Idealize.ShloMosaic.Pipeline (Dat Cfg Window BodyObligation cellOf)

variable {F : FTy → Type}

local notation "𝕄" => MT nD τ sig (HIx 1) (Elt F) ℕ UU ℕ

variable (N : Ins F) (d : Dev nD)

theorem insAt_split (q : PosShare TreeShare) (n : ℕ) :
    insAt N d q ⊢ (iprop(insAt N d (shareDrop q n) ∗ bigSep Finset.univ fun i : Fin n => insAt N d (shareTokN q i.val)) : sProp 𝕄) := by
  unfold insAt
  rw [bigSep_sep', bigSep_sep', bigSep_sep']
  iintro ⟨H0, H1, H2, H3⟩
  ihave H0 := (pointsTo_toks_split q n) $$ H0
  ihave H1 := (pointsTo_toks_split q n) $$ H1
  ihave H2 := (pointsTo_toks_split q n) $$ H2
  ihave H3 := (pointsTo_toks_split q n) $$ H3
  icases H0 with ⟨A0, B0⟩
  icases H1 with ⟨A1, B1⟩
  icases H2 with ⟨A2, B2⟩
  icases H3 with ⟨A3, B3⟩
  isplitl [A0 A1 A2 A3]
  · isplitl [A0]; · iexact A0
    isplitl [A1]; · iexact A1
    isplitl [A2] <;> iassumption
  isplitl [B0]; · iexact B0
  isplitl [B1]; · iexact B1
  isplitl [B2] <;> iassumption

theorem insAt_join (q : PosShare TreeShare) (n : ℕ) :
    iprop(insAt N d (shareDrop q n) ∗ bigSep Finset.univ fun i : Fin n => insAt N d (shareTokN q i.val)) ⊢ (insAt N d q : sProp 𝕄) := by
  unfold insAt
  rw [bigSep_sep', bigSep_sep', bigSep_sep']
  iintro ⟨⟨A0, A1, A2, A3⟩, B0, B1, B2, B3⟩
  isplitl [A0 B0]; · iapply (pointsTo_toks q n).2; isplitl [A0] <;> iassumption
  isplitl [A1 B1]; · iapply (pointsTo_toks q n).2; isplitl [A1] <;> iassumption
  isplitl [A2 B2]; · iapply (pointsTo_toks q n).2; isplitl [A2] <;> iassumption
  iapply (pointsTo_toks q n).2; isplitl [A3] <;> iassumption

/-- The read shares the tiles do not take. -/
def insRest : sProp 𝕄 :=
  iprop(insAt N d (shareDrop fullShare 2) ∗ bigSep Finset.univ fun c : Fin 2 => insAt N d (shareDrop (shareTokN fullShare c.val) 16))

/-- The tiles' read shares. -/
def insToks : sProp 𝕄 := bigSep Finset.univ fun c : Fin 2 => bigSep Finset.univ fun s : Fin 16 => insAt N d (tok c.val s.val)

theorem ins_open : insAt N d fullShare ⊢ (iprop(insRest N d ∗ insToks N d) : sProp 𝕄) := by
  refine (insAt_split N d fullShare 2).trans ?_
  unfold insRest insToks
  have h : (bigSep Finset.univ fun c : Fin 2 => insAt N d (shareTokN fullShare c.val)) ⊢ (bigSep Finset.univ fun c : Fin 2 =>
      iprop(insAt N d (shareDrop (shareTokN fullShare c.val) 16) ∗ bigSep Finset.univ fun s : Fin 16 => insAt N d (tok c.val s.val)) : sProp 𝕄) :=
    bigSep_mono fun c _ => insAt_split N d (shareTokN fullShare c.val) 16
  iintro ⟨A, B⟩
  ihave B := h $$ B
  ihave B := (Entails.of_eq (bigSep_sep' ..)) $$ B
  icases B with ⟨B, C⟩
  isplitr [C]
  · isplitl [A] <;> iassumption
  iexact C

theorem ins_close : iprop(insRest N d ∗ insToks N d) ⊢ (insAt N d fullShare : sProp 𝕄) := by
  refine BIBase.Entails.trans ?_ (insAt_join N d fullShare 2)
  unfold insRest insToks
  have h : (bigSep Finset.univ fun c : Fin 2 =>
      iprop(insAt N d (shareDrop (shareTokN fullShare c.val) 16) ∗ bigSep Finset.univ fun s : Fin 16 => insAt N d (tok c.val s.val)))
      ⊢ (bigSep Finset.univ fun c : Fin 2 => insAt N d (shareTokN fullShare c.val) : sProp 𝕄) :=
    bigSep_mono fun c _ => insAt_join N d (shareTokN fullShare c.val) 16
  iintro ⟨⟨A, B⟩, C⟩
  isplitl [A]; · iexact A
  iapply h
  iapply (Entails.of_eq (bigSep_sep' ..).symm)
  isplitl [B] <;> iassumption

theorem co_parts (g : Buf (Elt F) (coLoc d)) : (coLoc d ↦{fullShare} g : sProp 𝕄)
    = bigSep Finset.univ fun c : Fin 2 => bigSep Finset.univ fun s : Fin 16 => (coLoc d ↦[outSet (coordsV c s)]{fullShare} g : sProp 𝕄) := by
  have e : (coLoc d ↦{fullShare} g : sProp 𝕄) = (coLoc d ↦[(Finset.univ : Finset (Fin 2)).biUnion outCore]{fullShare} g) := by rw [outCore_cover]
  rw [e, pointsTo_biUnion _ _ outCore_disj]
  exact bigSep_congr fun c _ => pointsTo_biUnion _ _ fun s _ s' _ h => outSet_disj (.inr h)
theorem so_parts (g : Buf (Elt F) (soLoc d)) : (soLoc d ↦{fullShare} g : sProp 𝕄)
    = bigSep Finset.univ fun c : Fin 2 => bigSep Finset.univ fun s : Fin 16 => (soLoc d ↦[outSet (coordsV c s)]{fullShare} g : sProp 𝕄) := by
  have e : (soLoc d ↦{fullShare} g : sProp 𝕄) = (soLoc d ↦[(Finset.univ : Finset (Fin 2)).biUnion outCore]{fullShare} g) := by rw [outCore_cover]
  rw [e, pointsTo_biUnion _ _ outCore_disj]
  exact bigSep_congr fun c _ => pointsTo_biUnion _ _ fun s _ s' _ h => outSet_disj (.inr h)

theorem co_any (g : Buf (Elt F) (coLoc d)) : (coLoc d ↦{fullShare} g)
    ⊢ (bigSep Finset.univ fun c : Fin 2 => bigSep Finset.univ fun s : Fin 16 => iprop(∃ g, coLoc d ↦[outSet (coordsV c s)]{fullShare} g) : sProp 𝕄) := by
  rw [co_parts]
  refine bigSep_mono fun c _ => bigSep_mono fun s _ => ?_
  show (coLoc d ↦[outSet (coordsV c s)]{fullShare} g : sProp 𝕄) ⊢ _
  iintro H; iexists g; iexact H
theorem so_any (g : Buf (Elt F) (soLoc d)) : (soLoc d ↦{fullShare} g)
    ⊢ (bigSep Finset.univ fun c : Fin 2 => bigSep Finset.univ fun s : Fin 16 => iprop(∃ g, soLoc d ↦[outSet (coordsV c s)]{fullShare} g) : sProp 𝕄) := by
  rw [so_parts]
  refine bigSep_mono fun c _ => bigSep_mono fun s _ => ?_
  show (soLoc d ↦[outSet (coordsV c s)]{fullShare} g : sProp 𝕄) ⊢ _
  iintro H; iexists g; iexact H

theorem st_eq : (bigSep Finset.univ fun c : Fin ((K (F := F)).nCore 0) => (P N).st 0 d c)
    = iprop(insToks N d ∗ (bigSep Finset.univ fun c : Fin 2 => bigSep Finset.univ fun s : Fin 16 => iprop(∃ g, coLoc d ↦[outSet (coordsV c s)]{fullShare} g))
      ∗ bigSep Finset.univ fun c : Fin 2 => bigSep Finset.univ fun s : Fin 16 => (iprop(∃ g, soLoc d ↦[outSet (coordsV c s)]{fullShare} g) : sProp 𝕄)) := by
  show (bigSep (Finset.univ : Finset (Fin 2)) fun c => bigSep (Finset.univ : Finset (Fin 16)) fun s => goPay N d (coordsV c s)) = _
  unfold insToks goPay
  rw [← bigSep_sep', ← bigSep_sep']
  refine bigSep_congr fun c _ => ?_
  rw [← bigSep_sep', ← bigSep_sep']
  rfl

theorem dn_eq : (bigSep Finset.univ fun c : Fin ((K (F := F)).nCore 0) => (P N).dn 0 d c)
    = iprop(insToks N d ∗ (coLoc d ↦{fullShare} N.co d) ∗ (soLoc d ↦{fullShare} N.so d) : sProp 𝕄) := by
  show (bigSep (Finset.univ : Finset (Fin 2)) fun c => bigSep (Finset.univ : Finset (Fin 16)) fun s => tdPay N d (coordsV c s)) = _
  rw [co_parts, so_parts]
  unfold insToks tdPay
  rw [← bigSep_sep', ← bigSep_sep']
  refine bigSep_congr fun c _ => ?_
  rw [← bigSep_sep', ← bigSep_sep']
  rfl

variable [FloatOps F]

/-- The SparseCore call, from its arrays whole to its arrays whole. -/
theorem wp_call (κ : GSem nD τ sig → ℕ) (Φ : PUnit → sProp 𝕄) :
    iprop((K (F := F)).ctx EH (P N) κ ∗ (K (F := F)).tcSt EH d 0 ∗ (insAt N d fullShare ∗ (∃ g, coLoc d ↦{fullShare} g) ∗ (∃ g, soLoc d ↦{fullShare} g))
        ∗ (((K (F := F)).tcSt EH d 1 ∗ insAt N d fullShare ∗ (coLoc d ↦{fullShare} N.co d) ∗ (soLoc d ↦{fullShare} N.so d)) -∗ Φ ⟨⟩))
      ⊢ wp frame (wpE ((K (F := F)).defs (D (F := F))) 𝒱 (SparseCore.T d) none) Set.univ ((K (F := F)).run d 0) Φ := by
  iintro ⟨#Hctx, Hst, ⟨Hin, ⟨%g0, H0⟩, %g1, H1⟩, HΦ⟩
  ihave Hin := (ins_open N d) $$ Hin
  icases Hin with ⟨Hr, Hi⟩
  iapply ((K (F := F)).wp_run (D (F := F)) 𝒱 (EH := EH) (P := P N) κ d 0)
  isplitr; · iexact Hctx
  isplitl [Hst]; · iexact Hst
  isplitl [Hi H0 H1]
  · rw [st_eq]
    isplitl [Hi]; · iexact Hi
    isplitl [H0]
    · iapply (co_any d g0); iexact H0
    · iapply (so_any d g1); iexact H1
  iintro ⟨Hst, Hdn⟩
  ihave Hdn := (Entails.of_eq (dn_eq N d)) $$ Hdn
  icases Hdn with ⟨Hi, H0, H1⟩
  iapply HΦ
  isplitl [Hst]; · iexact Hst
  isplitl [Hr Hi]
  · iapply (ins_close N d); isplitl [Hr] <;> iassumption
  isplitl [H0] <;> iassumption

end Cert.Proof

end
-- ==== Proof.Main.lean ====
/-
  The main program: the contents of its arrays step by step, and the run.
-/
module

public import proofs.«01_k».proof.Proof.Call
public import Idealize.ShloMosaic.Lib.Pipeline.Frame

@[expose] public section

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

/-! ## The contents along the main program -/

abbrev rf (r : Ref sig .tc) : DevRef τ sig := Proc.devRef .tc r

abbrev opC : HloOp τ sig (Elt F) := StableHlo.reshape main_arg2 main_v0 (rfl : (.f32 : EltTy) = .f32) shapeCasts_S1000000x32_S125000x8x32
abbrev opS : HloOp τ sig (Elt F) := StableHlo.reshape main_arg3 main_v1 (rfl : (.f32 : EltTy) = .f32) shapeCasts_S100000x32_S12500x8x32
abbrev opB1 : HloOp τ sig (Elt F) := StableHlo.reshape main_arg5 main_v3 (rfl : (.f32 : EltTy) = .f32) shapeCasts_S64_S1x64
abbrev opB2 : HloOp τ sig (Elt F) := StableHlo.reshape main_arg7 main_v4 (rfl : (.f32 : EltTy) = .f32) shapeCasts_S16_S1x16
abbrev opB3 : HloOp τ sig (Elt F) := StableHlo.reshape main_arg9 main_v5 (rfl : (.f32 : EltTy) = .f32) shapeCasts_S8_S1x8
abbrev opR : HloOp τ sig (Elt F) := StableHlo.reshape main_v6_0 main_v7 (rfl : (.f32 : EltTy) = .f32) shapeCasts_S4096x64_S16384x16
abbrev opQ : HloOp τ sig (Elt F) := StableHlo.reshape main_v6_1 main_v8 (rfl : (.f32 : EltTy) = .f32) shapeCasts_S4096x32_S16384x8

variable (m : (ℓ : Loc nD τ sig) → Buf (Elt F) ℓ) (ρ : Dev nD → PrngReg)

/-- At the launch; after the tables' reshapes. -/
def V0 (d : Dev nD) : Valuation τ sig (Elt F) := fun b => m (d, b)
def V2 (d : Dev nD) : Valuation τ sig (Elt F) := (opS (F := F)).result ((opC (F := F)).result (V0 m d))

/-- What the gather reads. -/
def ins : Ins F where
  ci d := V2 m d (rf main_arg0)
  si d := V2 m d (rf main_arg1)
  ct d := V2 m d (rf main_v0)
  st d := V2 m d (rf main_v1)

/-- After the gather; after the biases' reshapes. -/
def V3 (d : Dev nD) : Valuation τ sig (Elt F) :=
  Function.update (Function.update (V2 m d) (rf main_v2_0) ((ins m).co d)) (rf main_v2_1) ((ins m).so d)
def V6 (d : Dev nD) : Valuation τ sig (Elt F) := (opB3 (F := F)).result ((opB2 (F := F)).result ((opB1 (F := F)).result (V3 m d)))

abbrev V6' : Vals F := fun d b => V6 m d (rf b)

/-- After the second kernel; after the results' reshapes. -/
def V7 (d : Dev nD) : Valuation τ sig (Elt F) :=
  Function.update (Function.update (V6 m d) (rf main_v6_0) ((dat (V6' m) 8 d).arrAt 8 cfg1.N)) (rf main_v6_1) ((dat (V6' m) 8 d).arrAt 9 cfg1.N)
def V9 (d : Dev nD) : Valuation τ sig (Elt F) := (opQ (F := F)).result ((opR (F := F)).result (V7 m d))

abbrev V7' : Vals F := fun d b => V7 m d (rf b)

theorem V7_8 (d : Dev nD) : V7' m d main_v6_0 = (dat (V6' m) 8 d).arrAt 8 cfg1.N := by
  show Function.update _ _ _ _ = _
  rw [Function.update_of_ne (show rf main_v6_0 ≠ rf main_v6_1 by decide), Function.update_self]
theorem V7_9 (d : Dev nD) : V7' m d main_v6_1 = (dat (V6' m) 8 d).arrAt 9 cfg1.N := by
  show Function.update _ _ _ _ = _
  rw [Function.update_self]
theorem V7_ne (d : Dev nD) (r : Ref sig .tc) (h0 : r ≠ main_v6_0) (h1 : r ≠ main_v6_1) : V7' m d r = V6' m d r := by
  show Function.update _ _ _ _ = _
  rw [Function.update_of_ne (StableHlo.devRef_ne_of_ne h1), Function.update_of_ne (StableHlo.devRef_ne_of_ne h0)]

/-! ## The steps -/

abbrev U : Finset (DevRef τ sig) := Pipeline.ucRefs τ sig

theorem wp_op (d : Dev nD) (op : HloOp τ sig (Elt F)) (hop : op.bufs ⊆ StableHlo.tcRefs τ sig) (hf : op.fresh = ∅) (V V' : Valuation τ sig (Elt F)) (hV : V' = op.result V) (Φ : PUnit → sProp 𝕄) :
    iprop((boundary (SparseCore.T d) ∗ StableHlo.held (SparseCore.T d) U V)
        ∗ ((boundary (SparseCore.T d) ∗ StableHlo.held (SparseCore.T d) U V') -∗ Φ ⟨⟩))
      ⊢ wp frame (wpE ((K (F := F)).defs (D (F := F))) 𝒱 (SparseCore.T d) none) Set.univ (hlo rfl op (fun _ => .ret ⟨⟩)) Φ := by
  subst hV
  iintro ⟨Hbh, HΦ⟩
  iapply (StableHlo.wp_hlo_within 𝒱 (SparseCore.T d) none Set.univ (op := op) (S := U) (Pipeline.sub_ucRefs op hop) (V := V) hf) $$ Hbh
  iintro Hbh
  rw [wp_ret]; imodintro
  iapply HΦ; iexact Hbh

/-- The gather's arrays. -/
abbrev S6 : Finset (DevRef τ sig) := {rf main_arg0, rf main_arg1, rf main_v0, rf main_v1, rf main_v2_0, rf main_v2_1}

theorem held_S6 (d : Dev nD) (W : Valuation τ sig (Elt F)) :
    (StableHlo.held (SparseCore.T d) S6 W : sProp 𝕄) = iprop((ciLoc d ↦{fullShare} W (rf main_arg0)) ∗ (siLoc d ↦{fullShare} W (rf main_arg1))
      ∗ (ctLoc d ↦{fullShare} W (rf main_v0)) ∗ (stLoc d ↦{fullShare} W (rf main_v1)) ∗ (coLoc d ↦{fullShare} W (rf main_v2_0)) ∗ (soLoc d ↦{fullShare} W (rf main_v2_1))) := by
  unfold StableHlo.held S6
  rw [SparseCore.bigSep_insert' (by decide), SparseCore.bigSep_insert' (by decide), SparseCore.bigSep_insert' (by decide), SparseCore.bigSep_insert' (by decide),
    SparseCore.bigSep_insert' (by decide), bigSep_singleton]

theorem S6_sub : S6 ⊆ U := by decide

theorem V3_ne (d : Dev nD) (b : DevRef τ sig) (h0 : b ≠ rf main_v2_0) (h1 : b ≠ rf main_v2_1) : V3 m d b = V2 m d b := by
  unfold V3
  rw [Function.update_of_ne h1, Function.update_of_ne h0]
theorem V3_0 (d : Dev nD) : V3 m d (rf main_v2_0) = (ins m).co d := by
  unfold V3
  rw [Function.update_of_ne (show rf main_v2_0 ≠ rf main_v2_1 by decide), Function.update_self]
theorem V3_1 (d : Dev nD) : V3 m d (rf main_v2_1) = (ins m).so d := by
  unfold V3
  rw [Function.update_self]

theorem gather_open (d : Dev nD) : (StableHlo.held (SparseCore.T d) U (V2 m d) : sProp 𝕄)
    ⊢ iprop((insAt (ins m) d fullShare ∗ (∃ g, coLoc d ↦{fullShare} g) ∗ (∃ g, soLoc d ↦{fullShare} g)) ∗ StableHlo.held (SparseCore.T d) (U \ S6) (V2 m d)) := by
  rw [StableHlo.held_sub_split _ S6_sub, held_S6]
  unfold insAt
  iintro ⟨⟨H0, H1, H2, H3, H4, H5⟩, HR⟩
  isplitr [HR]
  · isplitl [H0 H1 H2 H3]
    · isplitl [H0]; · iexact H0
      isplitl [H1]; · iexact H1
      isplitl [H2]; · iexact H2
      iexact H3
    isplitl [H4]
    · iexists _; iexact H4
    · iexists _; iexact H5
  iexact HR

theorem gather_close (d : Dev nD) : iprop((insAt (ins m) d fullShare ∗ (coLoc d ↦{fullShare} (ins m).co d) ∗ (soLoc d ↦{fullShare} (ins m).so d))
      ∗ StableHlo.held (SparseCore.T d) (U \ S6) (V2 m d)) ⊢ (StableHlo.held (SparseCore.T d) U (V3 m d) : sProp 𝕄) := by
  rw [StableHlo.held_sub_split _ S6_sub, held_S6, V3_0, V3_1, V3_ne m d (rf main_arg0) (by decide) (by decide), V3_ne m d (rf main_arg1) (by decide) (by decide),
    V3_ne m d (rf main_v0) (by decide) (by decide), V3_ne m d (rf main_v1) (by decide) (by decide)]
  rw [show (StableHlo.held (SparseCore.T d) (U \ S6) (V3 m d) : sProp 𝕄) = StableHlo.held (SparseCore.T d) (U \ S6) (V2 m d) from
    bigSep_congr fun b hb => by
      rw [V3_ne m d b (fun h => (Finset.mem_sdiff.mp hb).2 (by rw [h]; decide)) (fun h => (Finset.mem_sdiff.mp hb).2 (by rw [h]; decide))]]
  unfold insAt
  iintro ⟨⟨⟨H0, H1, H2, H3⟩, H4, H5⟩, HR⟩
  isplitr [HR]
  · isplitl [H0]; · iexact H0
    isplitl [H1]; · iexact H1
    isplitl [H2]; · iexact H2
    isplitl [H3]; · iexact H3
    isplitl [H4] <;> iassumption
  iexact HR

/-! ## What the calls leave of the handshakes -/

theorem Otc_one (d : Dev nD) : (K (F := F)).Otc (N := 1) d 1 = 0 := by
  unfold SparseCore.Cfg.Otc
  exact Finset.sum_eq_zero fun q _ => if_neg (by have := q.isLt; omega)

def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) : ((K (F := F)).tcSt EH d 1 : sProp 𝕄) = iprop(owes0 8 d ∗ tcRest d) := by
  unfold SparseCore.Cfg.tcSt tcRest owes0
  rw [Otc_one]
  rfl

/-! ## The launch's ghost state -/

def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

theorem ownU_parts (a : UH) (b : UK) : (ownU (a, (b, 1)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

abbrev G (d : Dev nD) : sProp 𝕄 :=
  iprop(Pipeline.cellsGhost (Pipeline.pin (pcfgs (F := F)) adm) EP 0 d ∗ Pipeline.toksInit (Pipeline.pin (pcfgs (F := F)) adm) EP 0 d)

theorem ghost_deal : (BI.own (EP (initOf (Pipeline.cells (nD := nD) (τ := τ) (Pipeline.pin (pcfgs (F := F)) adm) cellOf_inj) (Pipeline.launchToks (nD := nD) (τ := τ) (Pipeline.pin (pcfgs (F := F)) adm) cellOf_inj))) : sProp 𝕄)
    ⊢ iprop(|==> bigSep Finset.univ fun d : Dev nD => G (F := F) d) := by
  refine BIBase.Entails.trans (Pipeline.fund_ghost (Pipeline.pin (pcfgs (F := F)) adm) EP cellOf_inj) ?_
  iintro H
  imod H with ⟨HA, HB⟩
  imodintro
  unfold G
  rw [bigSep_sep']
  isplitl [HA]
  · iapply (Entails.of_eq (bigSep_congr fun d _ => bigSep_univ_of_subsingleton (0 : Fin 1))) $$ HA
  · iapply (Entails.of_eq (bigSep_congr fun d _ => bigSep_univ_of_subsingleton (0 : Fin 1))) $$ HB

theorem emp_all {I : Type} (s : Finset I) : (bigSep s fun _ => iprop(emp)) = (iprop(emp) : sProp 𝕄) := bigSep_emp_const s

theorem hu₀ (N : Ins F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P N).x q thr) := by
  unfold u₀
  iintro Hu
  ihave H := (ownU_parts _ _) $$ Hu
  icases H with ⟨HH, HK⟩
  imod (ghost_deal (F := F)) $$ HK with HG
  imodintro
  isplitl [HH]; · iexact HH
  isplitl [HG]; · iexact HG
  iapply (Entails.of_eq (show (iprop(emp) : sProp 𝕄) = bigSep Finset.univ fun thr : Thread nD τ => bigSep Finset.univ fun q : Fin 1 => (P N).x q thr by
    show (iprop(emp) : sProp 𝕄) = bigSep Finset.univ fun _ : Thread nD τ => bigSep Finset.univ fun _ : Fin 1 => iprop(emp)
    rw [show (fun _ : Thread nD τ => bigSep (Finset.univ : Finset (Fin 1)) fun _ => (iprop(emp) : sProp 𝕄)) = fun _ => iprop(emp) from
      funext fun _ => emp_all (F := F) (I := Fin 1) Finset.univ, emp_all (F := F) (I := Thread nD τ) Finset.univ]))
  iempintro

/-! ## The run -/

abbrev FIN (d : Dev nD) : sProp 𝕄 := StableHlo.held (SparseCore.T d) U (V9 m d)

theorem held_of_unscoped (d : Dev nD) (W : Valuation τ sig (Elt F)) :
    (unscopedBufs d (fun b => W (rf b)) : sProp 𝕄) = StableHlo.held (SparseCore.T d) U W := Pipeline.unscopedBufs_held d W

theorem hmain [∀ e, Nonempty (Elt F e)] (κ : GSem nD τ sig → ℕ) (d : Dev nD) :
    iprop((K (F := F)).ctx EH (P (ins m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d : Thread nD τ).loc b)) : sProp 𝕄) = StableHlo.held (SparseCore.T d) U (V0 m d) from held_of_unscoped d (V0 m d)]
  simp only [main, wp_bind, wp_pure]
  iintro ⟨#Hctx, Hst, ⟨Hb, Hheld, Hts, -⟩, HG1, HG2⟩
  iapply (wp_op d opC (StableHlo.reshape_bufs_sub _ _ _ _ _ _) rfl (V0 m d) (opC.result (V0 m d)) rfl) $$ [Hb Hheld Hst Hts HG1 HG2]
  isplitl [Hb Hheld]; · isplitl [Hb] <;> iassumption
  iintro ⟨Hb, Hheld⟩
  iapply (wp_op d opS (StableHlo.reshape_bufs_sub _ _ _ _ _ _) rfl _ (V2 m d) rfl) $$ [Hb Hheld Hst Hts HG1 HG2]
  isplitl [Hb Hheld]; · isplitl [Hb] <;> iassumption
  iintro ⟨Hb, Hheld⟩
  -- the gather
  ihave Ho := (gather_open m d) $$ Hheld
  icases Ho with ⟨Hio, HR⟩
  iapply (wp_call (ins m) d κ) $$ [Hb Hio HR Hst Hts HG1 HG2]
  isplitr; · iexact Hctx
  isplitl [Hst]; · iexact Hst
  isplitl [Hio]; · iexact Hio
  iintro ⟨Hst, Hio⟩
  ihave Hheld := (gather_close m d) $$ [Hio HR]
  · isplitl [Hio] <;> iassumption
  -- the biases
  iapply (wp_op d opB1 (StableHlo.reshape_bufs_sub _ _ _ _ _ _) rfl (V3 m d) (opB1.result (V3 m d)) rfl) $$ [Hb Hheld Hst Hts HG1 HG2]
  isplitl [Hb Hheld]; · isplitl [Hb] <;> iassumption
  iintro ⟨Hb, Hheld⟩
  iapply (wp_op d opB2 (StableHlo.reshape_bufs_sub _ _ _ _ _ _) rfl _ _ rfl) $$ [Hb Hheld Hst Hts HG1 HG2]
  isplitl [Hb Hheld]; · isplitl [Hb] <;> iassumption
  iintro ⟨Hb, Hheld⟩
  iapply (wp_op d opB3 (StableHlo.reshape_bufs_sub _ _ _ _ _ _) rfl _ (V6 m d) rfl) $$ [Hb Hheld Hst Hts HG1 HG2]
  isplitl [Hb Hheld]; · isplitl [Hb] <;> iassumption
  iintro ⟨Hb, Hheld⟩
  -- the second kernel
  ihave Hst := (Entails.of_eq (tcSt_one (F := F) d)) $$ Hst
  icases Hst with ⟨HO, Hrest⟩
  ihave Hub := (Entails.of_eq (held_of_unscoped d (V6 m d)).symm) $$ Hheld
  ihave #Hlev := ((K (F := F)).ctx_levAts (EH := EH) (P := P (ins m)) κ) $$ Hctx
  iapply (wp_region (V6' m) 8 (V7' m) (V7_8 m) (V7_9 m) (V7_ne m) d) $$ [Hb Hub HO Hrest Hts HG1 HG2]
  isplitl [Hrest Hts]
  · iintro ⟨Hb, Hub, HO⟩
    ihave Hheld := (Entails.of_eq (held_of_unscoped d (V7 m d))) $$ Hub
    iapply (wp_op d opR (StableHlo.reshape_bufs_sub _ _ _ _ _ _) rfl (V7 m d) (opR.result (V7 m d)) rfl) $$ [Hb Hheld HO Hrest Hts]
    isplitl [Hb Hheld]; · isplitl [Hb] <;> iassumption
    iintro ⟨Hb, Hheld⟩
    iapply (wp_op d opQ (StableHlo.reshape_bufs_sub _ _ _ _ _ _) rfl _ (V9 m d) rfl) $$ [Hb Hheld HO Hrest Hts]
    isplitl [Hb Hheld]; · isplitl [Hb] <;> iassumption
    iintro ⟨Hb, Hheld⟩
    imodintro
    isplitl [HO Hrest]
    · iapply (Entails.of_eq (tcSt_one (F := F) d).symm) $$ [HO Hrest]
      isplitl [HO] <;> iassumption
    isplitl [Hheld]; · iexact Hheld
    isplitl [Hb] <;> iassumption
  isplitl [Hb]; · iexact Hb
  isplitl [Hub HO]; · isplitl [Hub] <;> iassumption
  isplitr; · iexact Hlev
  isplitl [HG1] <;> iassumption

def fq (d : Dev nD) (s' : Phys nD τ sig (Elt F)) : Prop := ∀ b ∈ U, s'.mem.mem (d, b) = V9 m d b

theorem hfin (d : Dev nD) (s' : Phys nD τ sig (Elt F)) : iprop(FIN m d ∗ SI s') ⊢ (⌜fq m d s'⌝ : sProp 𝕄) := by
  have h : iprop(SI s' ∗ FIN m d) ⊢ (⌜∀ b ∈ U, s'.mem.mem (d, b) = V9 m d b⌝ : sProp 𝕄) := SI_pointsTo_bufs_agree U
  iintro ⟨Hx, HSI⟩
  iapply h
  isplitl [HSI] <;> iassumption

def QC : PUnit × MemSt nD τ sig (Elt F) → Prop := fun r => (∀ d : Dev nD, ∀ b ∈ U, r.2.mem (d, b) = V9 m d b) ∧ r.2.sem = fun _ => 0

theorem run_main [∀ e, Nonempty (Elt F e)] (hN : (ins m).OK) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ins m)) (A := ∅) facts v₀
    (fun q hq => match q with | 0 => nomatch hq)
    (fun q _ => match q with | 0 => tileObl (ins m) hN)
    (fun q _ => match q with | 0 => SparseCore.Cfg.VecSplit.of_plain (vecSplit (ins m)))
    m ρ main (fun d => G d) (FIN m) (u₀ (F := F)) (sep_elim_left.trans (hu₀ (ins m))) (hmain m ρ) (fq m) (hfin m) (QC m) (fun _ h hz => ⟨h, hz⟩)

end Cert.Proof

end
-- ==== Proof.Same.lean ====
/-
  The printed kernel and its idealization have the same body tables.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Proof

open Idealize.ShloMosaic

variable {F : FTy → Type} [FloatOps F]

set_option maxHeartbeats 20000000 in
theorem body0_eq : @Cert.Kernel.cc0__gather_body F _ _ = @Cert.KernelIdeal.cc0__gather_body F _ _ := by
  rfl

set_option maxHeartbeats 2000000 in
set_option smartUnfolding false in
theorem defs₀_eq : Cert.Kernel.defs₀ (F := F) = Cert.KernelIdeal.defs₀ (F := F) := by
  funext p ℓ a
  match p, ℓ, a with
  | .tc, 0, _ => rfl
  | .tc, 1, (_, _) => rfl
  | .scScalar _, 0, _ => rfl
  | .scScalar _, 1, _ => rfl
  | .scVector c s, 0, _ =>
    unfold Cert.Kernel.defs₀ Cert.KernelIdeal.defs₀
    dsimp only
    rw [body0_eq]
    rfl
  | .scVector _ _, 1, _ => rfl

theorem defs_eq : Cert.Kernel.defs (F := F) = Cert.KernelIdeal.defs (F := F) := by
  unfold Cert.Kernel.defs
  rw [defs₀_eq]
  rfl

end Cert.Proof

end
-- ==== Proof.Frames.lean ====
/-
  The precondition read off, and the frames.
-/
module

public import proofs.«01_k».proof.Proof.Main
public import proofs.«01_k».proof.Proof.Same
public import proofs.«01_k».proof.Defs
public import proofs.«01_k».proof.Proof.Gen.Kernel
public import proofs.«01_k».proof.Proof.Gen.Pre_in_range
public import proofs.«01_k».proof.Proof.Gen.ReferenceIdeal.Run
public import Idealize.ShloMosaic.Lib.ReduceAll
public import Idealize.ShloMosaic.Lib.Pipeline.Frame

@[expose] public section

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

/-! ## The arguments at the end -/

section Args
variable (m : (ℓ : Loc nD τ sig) → Buf (Elt F) ℓ)

theorem V2_of_ne (d : Dev nD) (r : Ref sig .tc) (h0 : r ≠ main_v0) (h1 : r ≠ main_v1) : V2 m d (rf r) = m (d, rf r) := by
  unfold V2
  rw [StableHlo.reshape_result_ne _ _ _ _ _ _ _ h1, StableHlo.reshape_result_ne _ _ _ _ _ _ _ h0]
  rfl

theorem V6_of_ne (d : Dev nD) (r : Ref sig .tc) (h3 : r ≠ main_v3) (h4 : r ≠ main_v4) (h5 : r ≠ main_v5) : V6 m d (rf r) = V3 m d (rf r) := by
  unfold V6
  rw [StableHlo.reshape_result_ne _ _ _ _ _ _ _ h5, StableHlo.reshape_result_ne _ _ _ _ _ _ _ h4, StableHlo.reshape_result_ne _ _ _ _ _ _ _ h3]

/-- The buffers the program writes, results excepted. -/
theorem V6_arg (d : Dev nD) (r : Ref sig .tc) (h : r ∉ ([main_v0, main_v1, main_v2_0, main_v2_1, main_v3, main_v4, main_v5] : List (Ref sig .tc))) :
    V6 m d (rf r) = m (d, rf r) := by
  simp only [List.mem_cons, not_or, List.not_mem_nil, not_false_eq_true, and_true] at h
  obtain ⟨h0, h1, h20, h21, h3, h4, h5⟩ := h
  rw [V6_of_ne m d r h3 h4 h5, V3_ne m d (rf r) (StableHlo.devRef_ne_of_ne h20) (StableHlo.devRef_ne_of_ne h21), V2_of_ne m d r h0 h1]

theorem V9_arg (d : Dev nD) (r : Ref sig .tc)
    (h : r ∉ ([main_v0, main_v1, main_v2_0, main_v2_1, main_v3, main_v4, main_v5] : List (Ref sig .tc))) (h' : r ∉ ([main_v6_0, main_v6_1, main_v7, main_v8] : List (Ref sig .tc))) :
    V9 m d (rf r) = m (d, rf r) := by
  simp only [List.mem_cons, not_or, List.not_mem_nil, not_false_eq_true, and_true] at h'
  obtain ⟨h60, h61, h7, h8⟩ := h'
  unfold V9
  rw [StableHlo.reshape_result_ne _ _ _ _ _ _ _ h8, StableHlo.reshape_result_ne _ _ _ _ _ _ _ h7]
  exact (V7_ne m d r h60 h61).trans (V6_arg m d r h)

/-- The frame's conjuncts, of any final state the run allows. -/
theorem args_end (r : PUnit × MemSt nD τ sig (Elt F)) (h : QC m r) (d : Dev nD) :
    ∀ b ∈ ([main_arg0, main_arg1, main_arg2, main_arg3, main_arg4, main_arg5, main_arg6, main_arg7, main_arg8, main_arg9] : List (Ref sig .tc)),
      r.2.mem ((d.tc : Thread nD τ).loc b) = m ((d.tc : Thread nD τ).loc b) := by
  intro b hb
  have hU : rf b ∈ U := by
    have : ∀ b ∈ ([main_arg0, main_arg1, main_arg2, main_arg3, main_arg4, main_arg5, main_arg6, main_arg7, main_arg8, main_arg9] : List (Ref sig .tc)), rf b ∈ U := by decide
    exact this b hb
  refine (h.1 d (rf b) hU).trans (V9_arg m d b ?_ ?_) <;> revert b <;> decide

/-! ## What the precondition says -/

/-- Every index names a row of its table. -/
def InRange : Prop := ∀ d : Dev nD, (∀ i, (m ((d.tc : Thread nD τ).loc main_arg0) i).toNat < 1000000) ∧ (∀ i, (m ((d.tc : Thread nD τ).loc main_arg1) i).toNat < 100000)

theorem ins_OK (h : InRange m) : (ins m).OK := by
  refine ⟨fun d i => ?_, fun d i => ?_⟩
  · show (V2 m d (rf main_arg0) i).toNat < _
    rw [V2_of_ne m d main_arg0 (by decide) (by decide)]
    exact (h d).1 i
  · show (V2 m d (rf main_arg1) i).toNat < _
    rw [V2_of_ne m d main_arg1 (by decide) (by decide)]
    exact (h d).2 i

theorem nat_of_cmp (n : ℕ) (hn : n < 2 ^ 31) (v : BitVec 32) (h0 : IntOp.cmpi .sge v 0#32 = 1#1) (h1 : IntOp.cmpi .slt v (BitVec.ofNat 32 n) = 1#1) : v.toNat < n := by
  have ofBool_eq_one (p : Bool) : (BitVec.ofBool p = 1#1) ↔ p = true := by cases p <;> decide
  simp only [IntOp.cmpi, ofBool_eq_one, BitVec.sle_eq_decide, BitVec.slt_eq_decide, decide_eq_true_eq, BitVec.toInt_eq_toNat_cond, BitVec.toNat_ofNat] at h0 h1
  have hm : n % 2 ^ 32 = n := Nat.mod_eq_of_lt (by omega)
  rw [hm] at h1
  split at h1 <;> simp at h0 <;> omega

instance : Subsingleton Cert.Pre_in_range.S_.Idx := ⟨fun a b => funext fun i => i.elim0⟩

theorem inRange_of (x0 x1 : IVec Cert.Pre_in_range.S16384 32) (x2 x3 x4 x5 x6 x7 x8 x9)
    (h : Cert.Pre_in_range.fn (F := F) x0 x1 x2 x3 x4 x5 x6 x7 x8 x9 = fun _ => 1#1) :
    (∀ i, (x0 i).toNat < 1000000) ∧ ∀ i, (x1 i).toNat < 100000 := by
  have e := congrFun h (fun i => i.elim0)
  simp only [Cert.Pre_in_range.fn, andi] at e
  obtain ⟨e, e4⟩ := IntOp.andi_eq_one.1 e
  obtain ⟨e, e3⟩ := IntOp.andi_eq_one.1 e
  obtain ⟨e1, e2⟩ := IntOp.andi_eq_one.1 e
  exact ⟨fun i => nat_of_cmp 1000000 (by norm_num) _ (Host.reduce_andi_all _ _ _ _ _ e1 i) (Host.reduce_andi_all _ _ _ _ _ e2 i),
    fun i => nat_of_cmp 100000 (by norm_num) _ (Host.reduce_andi_all _ _ _ _ _ e3 i) (Host.reduce_andi_all _ _ _ _ _ e4 i)⟩

end Args

theorem inRange_Kernel (m : (ℓ : Loc Cert.Kernel.nD Cert.Kernel.τ Cert.Kernel.sig) → Buf (Elt Bits) ℓ) (h : Cert.Pre_Kernel m) : InRange (F := Bits) m :=
  fun d => inRange_of _ _ _ _ _ _ _ _ _ _ (h d)
theorem inRange_KernelIdeal (m : (ℓ : Loc nD τ sig) → Buf (Elt Ideal) ℓ) (h : Cert.Pre_KernelIdeal m) : InRange (F := Ideal) m :=
  fun d => inRange_of _ _ _ _ _ _ _ _ _ _ (h d)

/-! ## The frames -/

theorem frame_KernelIdeal : Cert.quiescent_KernelIdeal := fun m ρ h =>
  (θ_run Cert.KernelIdeal.defs _ _).mono (fun r hr => ⟨fun c => by
      have e := args_end m r hr c
      exact ⟨e _ (by decide), e _ (by decide), e _ (by decide), e _ (by decide), e _ (by decide), e _ (by decide), e _ (by decide), e _ (by decide), e _ (by decide), e _ (by decide)⟩, hr.2⟩)
    (run_main (F := Ideal) m ρ (ins_OK m (inRange_KernelIdeal m h)))

theorem frame_Kernel : Cert.quiescent_Kernel := by
  intro m ρ h
  rw [defs_eq]
  exact (θ_run (Cert.KernelIdeal.defs (F := Bits)) _ _).mono (fun r hr => ⟨fun c => by
      have e := args_end (F := Bits) m r hr c
      exact ⟨e _ (by decide), e _ (by decide), e _ (by decide), e _ (by decide), e _ (by decide), e _ (by decide), e _ (by decide), e _ (by decide), e _ (by decide), e _ (by decide)⟩, hr.2⟩)
    (run_main (F := Bits) m ρ (ins_OK m (inRange_Kernel m h)))

theorem frame_ReferenceIdeal : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

end Cert.Proof

end
-- ==== Proof.Spec.lean ====
/-
  The mathematics both programs compute: one sample's hidden layer, and a linear head over it.
-/
module

public import Idealize.ShloMosaic.Lib.Pointwise

@[expose] public section

noncomputable section

namespace Cert.Proof

open Idealize.ShloMosaic

/-- Hidden unit `h` of a sample whose two embedding rows are `xc` and `xs`: the first 32 rows of the weights meet `xc`, the last 32 `xs`. -/
def hid (xc xs : Fin 32 → Ideal .f32) (W : (⟨2, ![64, 64]⟩ : Shape).Idx → Ideal .f32) (b : Fin 64 → Ideal .f32) (h : Fin 64) : Ideal .f32 :=
  max (∑ e : Fin 32, xc e * W (ix2 (⟨e.val, by omega⟩ : Fin 64) h) + ∑ e : Fin 32, xs e * W (ix2 (⟨32 + e.val, by omega⟩ : Fin 64) h) + b h) 0

/-- Output `j` of a linear head over the hidden units. -/
def head {n : ℕ} (H : Fin 64 → Ideal .f32) (W : (⟨2, ![64, n]⟩ : Shape).Idx → Ideal .f32) (b : Fin n → Ideal .f32) (j : Fin n) : Ideal .f32 :=
  ∑ h : Fin 64, H h * W (ix2 h j) + b j

end Cert.Proof

end
-- ==== Proof.Payload.lean ====
/-
  The second kernel's two result blocks at the ideal reals, entry by entry: lane group `k` of packed row `r` is the sample whose embedding rows
  lie in lanes `32 k` to `32 k + 31` of that row.
-/
module

public import proofs.«01_k».proof.Proof.Mlp
public import proofs.«01_k».proof.Proof.Spec

@[expose] public section

noncomputable section

namespace Cert.Proof

open Cert.KernelIdeal Cert.KernelIdeal.Gen
open Idealize.ShloMosaic Idealize.ShloMosaic.TcCoe Idealize.ShloMosaic.Tactic

/-- Lanes `32 k` to `32 k + 31` of row `r` of a packed block. -/
def grp (X : FVec Ideal S512x128 .f32) (r : Fin 512) (k : ℕ) (hk : k < 4) (e : Fin 32) : Ideal .f32 := X (ix2 r (⟨32 * k + e.val, by omega⟩ : Fin 128))

variable (X1 X2 : FVec Ideal S512x128 .f32) (X3 : FVec Ideal S64x64 .f32) (X4 : FVec Ideal S1x64 .f32)
  (X5 : FVec Ideal S64x16 .f32) (X6 : FVec Ideal S1x16 .f32) (X7 : FVec Ideal S64x8 .f32) (X8 : FVec Ideal S1x8 .f32)

theorem roles_at (k : ℕ) (hk : k < 4) (r : Fin 512) (j : Fin 16) :
    roles X1 X2 X3 X4 X5 X6 k (ix2 r j) = head (hid (grp X1 r k hk) (grp X2 r k hk) X3 (fun h => X4 (ix2 0 h))) X5 (fun j => X6 (ix2 0 j)) j := by
  obtain rfl | rfl | rfl | rfl : k = 0 ∨ k = 1 ∨ k = 2 ∨ k = 3 := by omega
  all_goals
    unfold roles head hid grp
    dsimp only
    unfold_payloads
    pointwise

theorem peds_at (k : ℕ) (hk : k < 4) (r : Fin 512) (j : Fin 8) :
    peds X1 X2 X3 X4 X7 X8 k (ix2 r j) = head (hid (grp X1 r k hk) (grp X2 r k hk) X3 (fun h => X4 (ix2 0 h))) X7 (fun j => X8 (ix2 0 j)) j := by
  obtain rfl | rfl | rfl | rfl : k = 0 ∨ k = 1 ∨ k = 2 ∨ k = 3 := by omega
  all_goals
    unfold peds head hid grp
    dsimp only
    unfold_payloads
    pointwise

end Cert.Proof

end
-- ==== Proof.Value.lean ====
/-
  The kernel's results at the ideal reals, entry by entry: sample `B` is hidden layer and heads over the rows of the tables that its two index
  words name.
-/
module

public import proofs.«01_k».proof.Proof.Frames
public import proofs.«01_k».proof.Proof.Payload
public import Idealize.ShloMosaic.Lib.Pipeline.Value

@[expose] public section

noncomputable section

namespace Cert.Proof

open Cert.KernelIdeal Cert.KernelIdeal.Gen
open Idealize.ShloMosaic Idealize.ShloMosaic.TcCoe Idealize.ShloMosaic.Tactic

variable (m : (ℓ : Loc nD τ sig) → Buf (Elt Ideal) ℓ) (d : Dev nD)

/-- The arguments, at their shapes. -/
abbrev aci : IVec S16384 32 := m (d, rf main_arg0)
abbrev asi : IVec S16384 32 := m (d, rf main_arg1)
abbrev act : FVec Ideal S1000000x32 .f32 := m (d, rf main_arg2)
abbrev ast : FVec Ideal S100000x32 .f32 := m (d, rf main_arg3)
abbrev aw1 : FVec Ideal S64x64 .f32 := m (d, rf main_arg4)
abbrev ab1 : FVec Ideal S64 .f32 := m (d, rf main_arg5)
abbrev awr : FVec Ideal S64x16 .f32 := m (d, rf main_arg6)
abbrev abr : FVec Ideal S16 .f32 := m (d, rf main_arg7)
abbrev awp : FVec Ideal S64x8 .f32 := m (d, rf main_arg8)
abbrev abp : FVec Ideal S8 .f32 := m (d, rf main_arg9)

/-- The rows sample `B` looks up. -/
def rowC (B : Fin 16384) (e : Fin 32) : Ideal .f32 := act m d (ix2 (Fin.ofNat 1000000 (aci m d (ix1 B)).toNat) e)
def rowS (B : Fin 16384) (e : Fin 32) : Ideal .f32 := ast m d (ix2 (Fin.ofNat 100000 (asi m d (ix1 B)).toNat) e)

/-- Its hidden units and its two results. -/
def hidden (B : Fin 16384) : Fin 64 → Ideal .f32 := hid (rowC m d B) (rowS m d B) (aw1 m d) (fun h => ab1 m d (ix1 h))
def role (B : Fin 16384) (j : Fin 16) : Ideal .f32 := head (hidden m d B) (awr m d) (fun j => abr m d (ix1 j)) j
def ped (B : Fin 16384) (j : Fin 8) : Ideal .f32 := head (hidden m d B) (awp m d) (fun j => abp m d (ix1 j)) j

/-! ## The arrays the second kernel reads -/

theorem V2_v0 : V2 m d (rf main_v0) = shapeCast S125000x8x32 (act m d) shapeCasts_S1000000x32_S125000x8x32 := by
  unfold V2
  rw [StableHlo.reshape_result_ne _ _ _ _ _ _ _ (by decide), StableHlo.reshape_result' _ _ _ _ _]
  rfl
theorem V2_v1 : V2 m d (rf main_v1) = shapeCast S12500x8x32 (ast m d) shapeCasts_S100000x32_S12500x8x32 := by
  unfold V2
  rw [StableHlo.reshape_result' _ _ _ _ _, StableHlo.reshape_result_ne _ _ _ _ _ _ _ (by decide)]
  rfl

theorem tableC (w : ℕ) (hw : w < 1000000) (e : ℕ) (he : e < 32) :
    V2 m d (rf main_v0) (rowIx 125000 w e) = act m d (ix2 (Fin.ofNat 1000000 w) ⟨e, he⟩) := by
  have hr : rowIx 125000 w e = ix3 (Fin.ofNat 125000 (w / 8)) (Fin.ofNat 8 (w % 8)) (Fin.ofNat 32 e) := by
    funext a; fin_cases a <;> rfl
  rw [V2_v0, hr]
  pointwise
  refine congrArg (act m d) ?_
  rw [ix2_inj]
  constructor
  · refine Fin.ext ?_
    simp only [Fin.val_ofNat]; omega
  · refine Fin.ext ?_
    simp only [Fin.val_ofNat]; omega
theorem tableS (w : ℕ) (hw : w < 100000) (e : ℕ) (he : e < 32) :
    V2 m d (rf main_v1) (rowIx 12500 w e) = ast m d (ix2 (Fin.ofNat 100000 w) ⟨e, he⟩) := by
  have hr : rowIx 12500 w e = ix3 (Fin.ofNat 12500 (w / 8)) (Fin.ofNat 8 (w % 8)) (Fin.ofNat 32 e) := by
    funext a; fin_cases a <;> rfl
  rw [V2_v1, hr]
  pointwise
  refine congrArg (ast m d) ?_
  rw [ix2_inj]
  constructor
  · refine Fin.ext ?_
    simp only [Fin.val_ofNat]; omega
  · refine Fin.ext ?_
    simp only [Fin.val_ofNat]; omega

/-- The sample packed at lane group `k` of row `R`. -/
def sample (R : Fin 4096) (k : ℕ) (hk : k < 4) : Fin 16384 := ⟨4 * R.val + k, by omega⟩

theorem idxIx_eq (R : Fin 4096) (k : ℕ) (hk : k < 4) (e : Fin 32) : idxIx (ix2 R (⟨32 * k + e.val, by omega⟩ : Fin 128)) = ix1 (sample R k hk) := by
  funext a; fin_cases a
  refine Fin.ext ?_
  show 4 * R.val + (32 * k + e.val) / 32 = 4 * R.val + k
  omega

theorem v2_0_at (h : InRange m) (R : Fin 4096) (k : ℕ) (hk : k < 4) (e : Fin 32) :
    V6 m d (rf main_v2_0) (ix2 R (⟨32 * k + e.val, by omega⟩ : Fin 128)) = rowC m d (sample R k hk) e := by
  rw [V6_of_ne m d main_v2_0 (by decide) (by decide) (by decide), V3_0]
  show V2 m d (rf main_v0) (rowIx 125000 (V2 m d (rf main_arg0) (idxIx _)).toNat ((32 * k + e.val) % 32)) = _
  rw [idxIx_eq R k hk e, V2_of_ne m d main_arg0 (by decide) (by decide)]
  have he : (32 * k + e.val) % 32 = e.val := by omega
  rw [he]
  exact tableC m d _ ((h d).1 _) e.val e.isLt
theorem v2_1_at (h : InRange m) (R : Fin 4096) (k : ℕ) (hk : k < 4) (e : Fin 32) :
    V6 m d (rf main_v2_1) (ix2 R (⟨32 * k + e.val, by omega⟩ : Fin 128)) = rowS m d (sample R k hk) e := by
  rw [V6_of_ne m d main_v2_1 (by decide) (by decide) (by decide), V3_1]
  show V2 m d (rf main_v1) (rowIx 12500 (V2 m d (rf main_arg1) (idxIx _)).toNat ((32 * k + e.val) % 32)) = _
  rw [idxIx_eq R k hk e, V2_of_ne m d main_arg1 (by decide) (by decide)]
  have he : (32 * k + e.val) % 32 = e.val := by omega
  rw [he]
  exact tableS m d _ ((h d).2 _) e.val e.isLt

theorem V6_v3 (h : Fin 64) : V6 m d (rf main_v3) (ix2 (0 : Fin 1) h) = ab1 m d (ix1 h) := by
  have e : V6 m d (rf main_v3) = shapeCast S1x64 (ab1 m d) shapeCasts_S64_S1x64 := by
    unfold V6
    rw [StableHlo.reshape_result_ne _ _ _ _ _ _ _ (by decide), StableHlo.reshape_result_ne _ _ _ _ _ _ _ (by decide), StableHlo.reshape_result' _ _ _ _ _,
      V3_ne m d (rf main_arg5) (by decide) (by decide), V2_of_ne m d main_arg5 (by decide) (by decide)]
    rfl
  rw [e]
  pointwise
theorem V6_v4 (j : Fin 16) : V6 m d (rf main_v4) (ix2 (0 : Fin 1) j) = abr m d (ix1 j) := by
  have e : V6 m d (rf main_v4) = shapeCast S1x16 (abr m d) shapeCasts_S16_S1x16 := by
    unfold V6
    rw [StableHlo.reshape_result_ne _ _ _ _ _ _ _ (by decide), StableHlo.reshape_result' _ _ _ _ _, StableHlo.reshape_result_ne _ _ _ _ _ _ _ (by decide),
      V3_ne m d (rf main_arg7) (by decide) (by decide), V2_of_ne m d main_arg7 (by decide) (by decide)]
    rfl
  rw [e]
  pointwise
theorem V6_v5 (j : Fin 8) : V6 m d (rf main_v5) (ix2 (0 : Fin 1) j) = abp m d (ix1 j) := by
  have e : V6 m d (rf main_v5) = shapeCast S1x8 (abp m d) shapeCasts_S8_S1x8 := by
    unfold V6
    rw [StableHlo.reshape_result' _ _ _ _ _, StableHlo.reshape_result_ne _ _ _ _ _ _ _ (by decide), StableHlo.reshape_result_ne _ _ _ _ _ _ _ (by decide),
      V3_ne m d (rf main_arg9) (by decide) (by decide), V2_of_ne m d main_arg9 (by decide) (by decide)]
    rfl
  rw [e]
  pointwise

/-! ## The blocks -/

theorem index0 : ∀ t : Fin cfg1.N, win1_0.index t 0 = t.val ∧ win1_0.index t 1 = 0 := by decide +kernel
theorem index1 : ∀ t : Fin cfg1.N, win1_1.index t 0 = t.val ∧ win1_1.index t 1 = 0 := by decide +kernel
theorem index2 : ∀ t : Fin cfg1.N, win1_2.index t 0 = 0 ∧ win1_2.index t 1 = 0 := by decide +kernel
theorem index3 : ∀ t : Fin cfg1.N, win1_3.index t 0 = 0 ∧ win1_3.index t 1 = 0 := by decide +kernel
theorem index4 : ∀ t : Fin cfg1.N, win1_4.index t 0 = 0 ∧ win1_4.index t 1 = 0 := by decide +kernel
theorem index5 : ∀ t : Fin cfg1.N, win1_5.index t 0 = 0 ∧ win1_5.index t 1 = 0 := by decide +kernel
theorem index6 : ∀ t : Fin cfg1.N, win1_6.index t 0 = 0 ∧ win1_6.index t 1 = 0 := by decide +kernel
theorem index7 : ∀ t : Fin cfg1.N, win1_7.index t 0 = 0 ∧ win1_7.index t 1 = 0 := by decide +kernel
theorem index8 : ∀ t : Fin cfg1.N, win1_8.index t 0 = t.val ∧ win1_8.index t 1 = 0 := by decide +kernel
theorem index9 : ∀ t : Fin cfg1.N, win1_9.index t 0 = t.val ∧ win1_9.index t 1 = 0 := by decide +kernel

theorem points (t : Fin cfg1.N) : t.val < 8 := t.isLt

/-- Row `r` of block `t` in the packed arrays. -/
def rowOf (t : Fin cfg1.N) (r : Fin 512) : Fin 4096 := ⟨512 * t.val + r.val, by have := points t; omega⟩

theorem emb0 (t : Fin cfg1.N) (r : Fin 512) (l : Fin 128) : ((cfg1.win 0).blk t).view.emb (ix2 r l) = (ix2 (rowOf t r) l : S4096x128.Idx) := by
  obtain ⟨e0, e1⟩ := index0 t
  funext a; apply Fin.ext
  match a with
  | ⟨0, _⟩ => show win1_0.index t (0 : Fin 2) * 512 + 1 * r.val = 512 * t.val + r.val; omega
  | ⟨1, _⟩ => show win1_0.index t (1 : Fin 2) * 128 + 1 * l.val = l.val; omega
theorem emb1 (t : Fin cfg1.N) (r : Fin 512) (l : Fin 128) : ((cfg1.win 1).blk t).view.emb (ix2 r l) = (ix2 (rowOf t r) l : S4096x128.Idx) := by
  obtain ⟨e0, e1⟩ := index1 t
  funext a; apply Fin.ext
  match a with
  | ⟨0, _⟩ => show win1_1.index t (0 : Fin 2) * 512 + 1 * r.val = 512 * t.val + r.val; omega
  | ⟨1, _⟩ => show win1_1.index t (1 : Fin 2) * 128 + 1 * l.val = l.val; omega
theorem emb2 (t : Fin cfg1.N) (j : S64x64.Idx) : ((cfg1.win 2).blk t).view.emb j = j := by
  obtain ⟨e0, e1⟩ := index2 t
  funext a; apply Fin.ext
  match a with
  | ⟨0, _⟩ => show win1_2.index t (0 : Fin 2) * 64 + 1 * (j 0).val = (j 0).val; omega
  | ⟨1, _⟩ => show win1_2.index t (1 : Fin 2) * 64 + 1 * (j 1).val = (j 1).val; omega
theorem emb3 (t : Fin cfg1.N) (j : S1x64.Idx) : ((cfg1.win 3).blk t).view.emb j = j := by
  obtain ⟨e0, e1⟩ := index3 t
  funext a; apply Fin.ext
  match a with
  | ⟨0, _⟩ => show win1_3.index t (0 : Fin 2) * 1 + 1 * (j 0).val = (j 0).val; omega
  | ⟨1, _⟩ => show win1_3.index t (1 : Fin 2) * 64 + 1 * (j 1).val = (j 1).val; omega
theorem emb4 (t : Fin cfg1.N) (j : S64x16.Idx) : ((cfg1.win 4).blk t).view.emb j = j := by
  obtain ⟨e0, e1⟩ := index4 t
  funext a; apply Fin.ext
  match a with
  | ⟨0, _⟩ => show win1_4.index t (0 : Fin 2) * 64 + 1 * (j 0).val = (j 0).val; omega
  | ⟨1, _⟩ => show win1_4.index t (1 : Fin 2) * 16 + 1 * (j 1).val = (j 1).val; omega
theorem emb5 (t : Fin cfg1.N) (j : S1x16.Idx) : ((cfg1.win 5).blk t).view.emb j = j := by
  obtain ⟨e0, e1⟩ := index5 t
  funext a; apply Fin.ext
  match a with
  | ⟨0, _⟩ => show win1_5.index t (0 : Fin 2) * 1 + 1 * (j 0).val = (j 0).val; omega
  | ⟨1, _⟩ => show win1_5.index t (1 : Fin 2) * 16 + 1 * (j 1).val = (j 1).val; omega
theorem emb6 (t : Fin cfg1.N) (j : S64x8.Idx) : ((cfg1.win 6).blk t).view.emb j = j := by
  obtain ⟨e0, e1⟩ := index6 t
  funext a; apply Fin.ext
  match a with
  | ⟨0, _⟩ => show win1_6.index t (0 : Fin 2) * 64 + 1 * (j 0).val = (j 0).val; omega
  | ⟨1, _⟩ => show win1_6.index t (1 : Fin 2) * 8 + 1 * (j 1).val = (j 1).val; omega
theorem emb7 (t : Fin cfg1.N) (j : S1x8.Idx) : ((cfg1.win 7).blk t).view.emb j = j := by
  obtain ⟨e0, e1⟩ := index7 t
  funext a; apply Fin.ext
  match a with
  | ⟨0, _⟩ => show win1_7.index t (0 : Fin 2) * 1 + 1 * (j 0).val = (j 0).val; omega
  | ⟨1, _⟩ => show win1_7.index t (1 : Fin 2) * 8 + 1 * (j 1).val = (j 1).val; omega
theorem emb8 (t : Fin cfg1.N) (r : Fin 512) (l : Fin 64) : ((cfg1.win 8).blk t).view.emb (ix2 r l) = (ix2 (rowOf t r) l : S4096x64.Idx) := by
  obtain ⟨e0, e1⟩ := index8 t
  funext a; apply Fin.ext
  match a with
  | ⟨0, _⟩ => show win1_8.index t (0 : Fin 2) * 512 + 1 * r.val = 512 * t.val + r.val; omega
  | ⟨1, _⟩ => show win1_8.index t (1 : Fin 2) * 64 + 1 * l.val = l.val; omega
theorem emb9 (t : Fin cfg1.N) (r : Fin 512) (l : Fin 32) : ((cfg1.win 9).blk t).view.emb (ix2 r l) = (ix2 (rowOf t r) l : S4096x32.Idx) := by
  obtain ⟨e0, e1⟩ := index9 t
  funext a; apply Fin.ext
  match a with
  | ⟨0, _⟩ => show win1_9.index t (0 : Fin 2) * 512 + 1 * r.val = 512 * t.val + r.val; omega
  | ⟨1, _⟩ => show win1_9.index t (1 : Fin 2) * 32 + 1 * l.val = l.val; omega

theorem grp0 (h : InRange m) (t : Fin cfg1.N) (r : Fin 512) (k : ℕ) (hk : k < 4) : grp (blk0 (V6' m) d t) r k hk = rowC m d (sample (rowOf t r) k hk) := by
  funext e
  show V6 m d (rf main_v2_0) (((cfg1.win 0).blk t).view.emb (ix2 r _)) = _
  rw [emb0]
  exact v2_0_at m d h _ k hk e
theorem grp1 (h : InRange m) (t : Fin cfg1.N) (r : Fin 512) (k : ℕ) (hk : k < 4) : grp (blk1 (V6' m) d t) r k hk = rowS m d (sample (rowOf t r) k hk) := by
  funext e
  show V6 m d (rf main_v2_1) (((cfg1.win 1).blk t).view.emb (ix2 r _)) = _
  rw [emb1]
  exact v2_1_at m d h _ k hk e
theorem blk2_eq (t : Fin cfg1.N) : blk2 (V6' m) d t = aw1 m d := by
  funext j
  show V6 m d (rf main_arg4) (((cfg1.win 2).blk t).view.emb j) = _
  rw [emb2, V6_arg m d main_arg4 (by decide)]
theorem blk3_at (t : Fin cfg1.N) (h : Fin 64) : blk3 (V6' m) d t (ix2 0 h) = ab1 m d (ix1 h) := by
  show V6 m d (rf main_v3) (((cfg1.win 3).blk t).view.emb (ix2 0 h)) = _
  rw [emb3]; exact V6_v3 m d h
theorem blk4_eq (t : Fin cfg1.N) : blk4 (V6' m) d t = awr m d := by
  funext j
  show V6 m d (rf main_arg6) (((cfg1.win 4).blk t).view.emb j) = _
  rw [emb4, V6_arg m d main_arg6 (by decide)]
theorem blk5_at (t : Fin cfg1.N) (j : Fin 16) : blk5 (V6' m) d t (ix2 0 j) = abr m d (ix1 j) := by
  show V6 m d (rf main_v4) (((cfg1.win 5).blk t).view.emb (ix2 0 j)) = _
  rw [emb5]; exact V6_v4 m d j
theorem blk6_eq (t : Fin cfg1.N) : blk6 (V6' m) d t = awp m d := by
  funext j
  show V6 m d (rf main_arg8) (((cfg1.win 6).blk t).view.emb j) = _
  rw [emb6, V6_arg m d main_arg8 (by decide)]
theorem blk7_at (t : Fin cfg1.N) (j : Fin 8) : blk7 (V6' m) d t (ix2 0 j) = abp m d (ix1 j) := by
  show V6 m d (rf main_v5) (((cfg1.win 7).blk t).view.emb (ix2 0 j)) = _
  rw [emb7]; exact V6_v5 m d j

/-! ## The second kernel's results -/

/-- The packed results, whole. -/
def packedRole : S4096x64.Idx → Ideal .f32 := fun z =>
  role m d (sample (z 0) ((z 1).val / 16) (by have : (z 1).val < 64 := (z 1).isLt; omega)) ⟨(z 1).val % 16, Nat.mod_lt _ (by decide)⟩
def packedPed : S4096x32.Idx → Ideal .f32 := fun z =>
  ped m d (sample (z 0) ((z 1).val / 8) (by have : (z 1).val < 32 := (z 1).isLt; omega)) ⟨(z 1).val % 8, Nat.mod_lt _ (by decide)⟩

theorem out9_eq (h : InRange m) (t : Fin cfg1.N) (r : Fin 512) (l : Fin 64) :
    out9 (blk0 (V6' m) d t) (blk1 (V6' m) d t) (blk2 (V6' m) d t) (blk3 (V6' m) d t) (blk4 (V6' m) d t) (blk5 (V6' m) d t) (ix2 r l)
      = packedRole m d (ix2 (rowOf t r) l) := by
  have hk : l.val / 16 < 4 := by omega
  refine (congrArg _ (ix2_eq_valueIdx _ _).symm).trans ((roles_at _ _ _ _ _ _ (l.val / 16) hk r ⟨l.val % 16, Nat.mod_lt _ (by decide)⟩).trans ?_)
  rw [grp0 m d h, grp1 m d h, blk2_eq, blk4_eq]
  simp only [blk3_at, blk5_at]
  rfl
theorem out10_eq (h : InRange m) (t : Fin cfg1.N) (r : Fin 512) (l : Fin 32) :
    out10 (blk0 (V6' m) d t) (blk1 (V6' m) d t) (blk2 (V6' m) d t) (blk3 (V6' m) d t) (blk6 (V6' m) d t) (blk7 (V6' m) d t) (ix2 r l)
      = packedPed m d (ix2 (rowOf t r) l) := by
  have hk : l.val / 8 < 4 := by omega
  refine (congrArg _ (ix2_eq_valueIdx _ _).symm).trans ((peds_at _ _ _ _ _ _ (l.val / 8) hk r ⟨l.val % 8, Nat.mod_lt _ (by decide)⟩).trans ?_)
  rw [grp0 m d h, grp1 m d h, blk2_eq, blk6_eq]
  simp only [blk3_at, blk7_at]
  rfl

theorem final8 (h : InRange m) : (dat (V6' m) 8 d).arrAt 8 cfg1.N = packedRole m d := by
  refine (dat (V6' m) 8 d).arrAt_eq_of_cover 8 (packedRole m d) (fun t _ => ?_) (fun i => ?_)
  · funext j
    obtain ⟨r, l, rfl⟩ : ∃ (r : Fin 512) (l : Fin 64), j = ix2 r l := ⟨j 0, j 1, eq_ix2 j⟩
    show out9 (blk0 (V6' m) d t) (blk1 (V6' m) d t) (blk2 (V6' m) d t) (blk3 (V6' m) d t) (blk4 (V6' m) d t) (blk5 (V6' m) d t) (ix2 r l)
      = packedRole m d (((cfg1.win 8).blk t).view.emb (ix2 r l))
    rw [emb8]
    exact out9_eq m d h t r l
  · have h0 : (i 0).val < 4096 := (i 0).isLt
    have ht : (i 0).val / 512 < 8 := by omega
    refine ⟨⟨(i 0).val / 512, ht⟩, flush1_8 _, ?_⟩
    refine (Set.mem_of_eq_of_mem ?_ (((cfg1.win 8).blk ⟨(i 0).val / 512, ht⟩).view.emb_mem_set (ix2 (⟨(i 0).val % 512, Nat.mod_lt _ (by decide)⟩ : Fin 512) (⟨(i 1).val, (i 1).isLt⟩ : Fin 64))))
    refine ((eq_ix2 (n0 := 4096) (n1 := 64) i).trans (congrArg (ix2 · (⟨(i 1).val, (i 1).isLt⟩ : Fin 64)) (Fin.ext ?_))).trans (emb8 _ _ _).symm
    show (i 0).val = 512 * ((i 0).val / 512) + (i 0).val % 512
    omega
theorem final9 (h : InRange m) : (dat (V6' m) 8 d).arrAt 9 cfg1.N = packedPed m d := by
  refine (dat (V6' m) 8 d).arrAt_eq_of_cover 9 (packedPed m d) (fun t _ => ?_) (fun i => ?_)
  · funext j
    obtain ⟨r, l, rfl⟩ : ∃ (r : Fin 512) (l : Fin 32), j = ix2 r l := ⟨j 0, j 1, eq_ix2 j⟩
    show out10 (blk0 (V6' m) d t) (blk1 (V6' m) d t) (blk2 (V6' m) d t) (blk3 (V6' m) d t) (blk6 (V6' m) d t) (blk7 (V6' m) d t) (ix2 r l)
      = packedPed m d (((cfg1.win 9).blk t).view.emb (ix2 r l))
    rw [emb9]
    exact out10_eq m d h t r l
  · have h0 : (i 0).val < 4096 := (i 0).isLt
    have ht : (i 0).val / 512 < 8 := by omega
    refine ⟨⟨(i 0).val / 512, ht⟩, flush1_9 _, ?_⟩
    refine (Set.mem_of_eq_of_mem ?_ (((cfg1.win 9).blk ⟨(i 0).val / 512, ht⟩).view.emb_mem_set (ix2 (⟨(i 0).val % 512, Nat.mod_lt _ (by decide)⟩ : Fin 512) (⟨(i 1).val, (i 1).isLt⟩ : Fin 32))))
    refine ((eq_ix2 (n0 := 4096) (n1 := 32) i).trans (congrArg (ix2 · (⟨(i 1).val, (i 1).isLt⟩ : Fin 32)) (Fin.ext ?_))).trans (emb9 _ _ _).symm
    show (i 0).val = 512 * ((i 0).val / 512) + (i 0).val % 512
    omega

/-! ## The results -/

theorem V9_v7 (h : InRange m) (B : Fin 16384) (j : Fin 16) : V9 m d (rf main_v7) (ix2 B j) = role m d B j := by
  have e : V9 m d (rf main_v7) = shapeCast S16384x16 (packedRole m d) shapeCasts_S4096x64_S16384x16 := by
    unfold V9
    rw [StableHlo.reshape_result_ne _ _ _ _ _ _ _ (by decide), StableHlo.reshape_result' _ _ _ _ _]
    rw [show V7 m d (rf main_v6_0) = packedRole m d from (V7_8 m d).trans (final8 m d h)]
    rfl
  rw [e]
  pointwise
  show role m d _ _ = _
  congr 1
  · refine Fin.ext ?_
    show 4 * (B.val / 4) + (B.val % 4 * 16 + j.val) / 16 = B.val
    omega
  · refine Fin.ext ?_
    show (B.val % 4 * 16 + j.val) % 16 = j.val
    omega
theorem V9_v8 (h : InRange m) (B : Fin 16384) (j : Fin 8) : V9 m d (rf main_v8) (ix2 B j) = ped m d B j := by
  have e : V9 m d (rf main_v8) = shapeCast S16384x8 (packedPed m d) shapeCasts_S4096x32_S16384x8 := by
    unfold V9
    rw [StableHlo.reshape_result' _ _ _ _ _, StableHlo.reshape_result_ne _ _ _ _ _ _ _ (by decide)]
    rw [show V7 m d (rf main_v6_1) = packedPed m d from (V7_9 m d).trans (final9 m d h)]
    rfl
  rw [e]
  pointwise
  show ped m d _ _ = _
  congr 1
  · refine Fin.ext ?_
    show 4 * (B.val / 4) + (B.val % 4 * 8 + j.val) / 8 = B.val
    omega
  · refine Fin.ext ?_
    show (B.val % 4 * 8 + j.val) % 8 = j.val
    omega

end Cert.Proof

end
-- ==== Proof.RefValue.lean ====
/-
  The reference's results, entry by entry: where the index words are in range, the two rows a sample looks up are the tables' own rows, and
  the product with the joined row is the sum of the products with the two halves.
-/
module

public import proofs.«01_k».proof.Proof.Spec
public import proofs.«01_k».proof.Proof.Gen.ReferenceIdeal.Run
public import Idealize.ShloMosaic.Lib.Routing.Ops
public import Idealize.ShloMosaic.Lib.Routing.OpsPair
public import Idealize.ShloMosaic.Lib.ReduceAll

@[expose] public section

noncomputable section

namespace Cert.Proof.Ref

open Cert.ReferenceIdeal Cert.ReferenceIdeal.Gen
open Idealize.ShloMosaic Idealize.ShloMosaic.TcCoe Idealize.ShloMosaic.Tactic

/-- The index words, wrapped: `n` is added to those below zero. -/
abbrev wrapped (n : BitVec 32) (x : IVec S16384 32) : IVec S16384x1 32 :=
  broadcastInDim S16384x1 ![0] bcast_S16384_S16384x1_0 (select (cmpi .slt x (broadcastInDim S16384 ![] bcast_S_S16384 (constantI S_ 32 0#32)))
    (addi x (broadcastInDim S16384 ![] bcast_S_S16384 (constantI S_ 32 n))) x)

theorem wrapped_at (n : BitVec 32) (x : IVec S16384 32) (i : S16384x1.Idx) (h : (x (ix1 (i 0))).toNat < 2 ^ 31) : wrapped n x i = x (ix1 (i 0)) := by
  unfold wrapped
  pointwise
  exact Routing.wrap_of_lt _ _ h

/-- Which wrapped words lie in the table: all of them are at least zero and at most `k`. -/
abbrev mask (n : BitVec 32) (k : BitVec 32) (x : IVec S16384 32) : IVec S16384 1 :=
  Host.reduce IntOp.andi (andi (cmpi .sge (wrapped n x) (broadcastInDim S16384x1 ![] bcast_S_S16384x1 (constantI S_ 32 0#32)))
    (cmpi .sle (wrapped n x) (broadcastInDim S16384x1 ![0, 1] bcast_S1x1_S16384x1_0_1 (broadcastInDim S1x1 ![1] bcast_S1_S1x1_1 (constantI S1 32 k)))))
    (constantI S_ 1 1#1) reducesTo_S16384x1_S16384_d1 h_S_

theorem cmp_of_nat (n : ℕ) (hn : n < 2 ^ 31) (v : BitVec 32) (h : v.toNat ≤ n) :
    IntOp.cmpi .sge v 0#32 = 1#1 ∧ IntOp.cmpi .sle v (BitVec.ofNat 32 n) = 1#1 := by
  have one (p : Bool) : (BitVec.ofBool p = 1#1) ↔ p = true := by cases p <;> decide
  have hm : n % 2 ^ 32 = n := Nat.mod_eq_of_lt (by omega)
  simp only [IntOp.cmpi, one, BitVec.sle_eq_decide, decide_eq_true_eq, BitVec.toInt_eq_toNat_cond, BitVec.toNat_ofNat, hm]
  constructor <;> split <;> simp <;> omega

theorem mask_at (n : BitVec 32) (k : ℕ) (hk : k < 2 ^ 31) (x : IVec S16384 32) (h : ∀ i, (x i).toNat ≤ k) (j : S16384.Idx) :
    mask n (BitVec.ofNat 32 k) x j = 1#1 := by
  refine Host.reduce_andi_one _ _ _ _ _ rfl fun i => ?_
  have e : wrapped n x i = x (ix1 (i 0)) := wrapped_at n x i (lt_of_le_of_lt (h _) hk)
  have := cmp_of_nat k hk (x (ix1 (i 0))) (h _)
  show IntOp.andi (IntOp.cmpi .sge (wrapped n x i) _) (IntOp.cmpi .sle (wrapped n x i) _) = 1#1
  rw [e]
  exact IntOp.andi_eq_one.2 this

/-- The rows looked up in the first table. -/
abbrev rowsC (x : IVec S16384 32) (T : FVec Ideal S1000000x32 .f32) : FVec Ideal S16384x32 .f32 :=
  select (broadcastInDim S16384x32 ![0] bcast_S16384_S16384x32_0 (mask 1000000#32 999999#32 x))
    (Host.gather gather_S1000000x32_S16384x1_S16384x32_1_0_n_n_0_1_132 T (wrapped 1000000#32 x))
    (broadcastInDim S16384x32 ![] bcast_S_S16384x32 (constant S_ .f32 0x7FC00000#32))

/-- The rows looked up in the second. -/
abbrev rowsS (x : IVec S16384 32) (T : FVec Ideal S100000x32 .f32) : FVec Ideal S16384x32 .f32 :=
  select (broadcastInDim S16384x32 ![0] bcast_S16384_S16384x32_0 (mask 100000#32 99999#32 x))
    (Host.gather gather_S100000x32_S16384x1_S16384x32_1_0_n_n_0_1_132 T (wrapped 100000#32 x))
    (broadcastInDim S16384x32 ![] bcast_S_S16384x32 (constant S_ .f32 0x7FC00000#32))

theorem rowsC_at (x : IVec S16384 32) (T : FVec Ideal S1000000x32 .f32) (h : ∀ i, (x i).toNat < 1000000) (B : Fin 16384) (e : Fin 32) :
    rowsC x T (ix2 B e) = T (ix2 (⟨(x (ix1 B)).toNat, h _⟩ : Fin 1000000) e) := by
  have hm : broadcastInDim S16384x32 ![0] bcast_S16384_S16384x32_0 (mask 1000000#32 999999#32 x) (ix2 B e) = 1#1 :=
    mask_at _ 999999 (by norm_num) x (fun i => by have := h i; omega) _
  show Scalar.select (broadcastInDim S16384x32 ![0] bcast_S16384_S16384x32_0 (mask 1000000#32 999999#32 x) (ix2 B e)) _ _ = _
  rw [hm]
  refine (if_pos rfl).trans ?_
  have hw : wrapped 1000000#32 x (ix2 B 0) = BitVec.ofNat 32 (x (ix1 B)).toNat := by
    rw [wrapped_at _ _ _ (lt_trans (h _) (by norm_num))]; simp
  rw [ix2_eq_valueIdx, ix2_eq_valueIdx]
  rw [ix2_eq_valueIdx] at hw
  exact Routing.gather_row gather_S1000000x32_S16384x1_S16384x32_1_0_n_n_0_1_132 rfl rfl rfl rfl rfl T _ B e ⟨(x (ix1 B)).toNat, h _⟩ hw (by norm_num)

theorem rowsS_at (x : IVec S16384 32) (T : FVec Ideal S100000x32 .f32) (h : ∀ i, (x i).toNat < 100000) (B : Fin 16384) (e : Fin 32) :
    rowsS x T (ix2 B e) = T (ix2 (⟨(x (ix1 B)).toNat, h _⟩ : Fin 100000) e) := by
  have hm : broadcastInDim S16384x32 ![0] bcast_S16384_S16384x32_0 (mask 100000#32 99999#32 x) (ix2 B e) = 1#1 :=
    mask_at _ 99999 (by norm_num) x (fun i => by have := h i; omega) _
  show Scalar.select (broadcastInDim S16384x32 ![0] bcast_S16384_S16384x32_0 (mask 100000#32 99999#32 x) (ix2 B e)) _ _ = _
  rw [hm]
  refine (if_pos rfl).trans ?_
  have hw : wrapped 100000#32 x (ix2 B 0) = BitVec.ofNat 32 (x (ix1 B)).toNat := by
    rw [wrapped_at _ _ _ (lt_trans (h _) (by norm_num))]; simp
  rw [ix2_eq_valueIdx, ix2_eq_valueIdx]
  rw [ix2_eq_valueIdx] at hw
  exact Routing.gather_row gather_S100000x32_S16384x1_S16384x32_1_0_n_n_0_1_132 rfl rfl rfl rfl rfl T _ B e ⟨(x (ix1 B)).toNat, h _⟩ hw (by norm_num)

/-- The hidden layer over two arrays of rows. -/
abbrev layer (xc xs : FVec Ideal S16384x32 .f32) (W : FVec Ideal S64x64 .f32) (b : FVec Ideal S64 .f32) : FVec Ideal S16384x64 .f32 :=
  maximumf (addf (Host.dotGeneral dot_S16384x64_S64x64_S16384x64_1_0_0_1_n_n none
      (concatenate S16384x64 1 [⟨S16384x32, xc⟩, ⟨S16384x32, xs⟩] concatenates_S16384x32_S16384x32_S16384x64_d1) W)
    (broadcastInDim S16384x64 ![0, 1] bcast_S1x64_S16384x64_0_1 (broadcastInDim S1x64 ![1] bcast_S64_S1x64_1 b)))
    (broadcastInDim S16384x64 ![] bcast_S_S16384x64 (constant S_ .f32 0x00000000#32))

theorem layer_at (xc xs : FVec Ideal S16384x32 .f32) (W : FVec Ideal S64x64 .f32) (b : FVec Ideal S64 .f32) (B : Fin 16384) (h : Fin 64) :
    layer xc xs W b (ix2 B h) = hid (fun e => xc (ix2 B e)) (fun e => xs (ix2 B e)) W (fun h => b (ix1 h)) h := by
  unfold layer hid
  pointwise

theorem out16_at (H : FVec Ideal S16384x64 .f32) (W : FVec Ideal S64x16 .f32) (b : FVec Ideal S16 .f32) (B : Fin 16384) (j : Fin 16) :
    addf (Host.dotGeneral dot_S16384x64_S64x16_S16384x16_1_0_0_1_n_n none H W)
      (broadcastInDim S16384x16 ![0, 1] bcast_S1x16_S16384x16_0_1 (broadcastInDim S1x16 ![1] bcast_S16_S1x16_1 b)) (ix2 B j)
      = head (fun h => H (ix2 B h)) W (fun j => b (ix1 j)) j := by
  unfold head
  pointwise

theorem out8_at (H : FVec Ideal S16384x64 .f32) (W : FVec Ideal S64x8 .f32) (b : FVec Ideal S8 .f32) (B : Fin 16384) (j : Fin 8) :
    addf (Host.dotGeneral dot_S16384x64_S64x8_S16384x8_1_0_0_1_n_n none H W)
      (broadcastInDim S16384x8 ![0, 1] bcast_S1x8_S16384x8_0_1 (broadcastInDim S1x8 ![1] bcast_S8_S1x8_1 b)) (ix2 B j)
      = head (fun h => H (ix2 B h)) W (fun j => b (ix1 j)) j := by
  unfold head
  pointwise

end Cert.Proof.Ref

end
-- ==== Proof.Algebraic.lean ====
/-
  The kernel's results are the reference's, at the ideal reals.
-/
module

public import proofs.«01_k».proof.Proof.Value
public import proofs.«01_k».proof.Proof.RefValue

@[expose] public section

noncomputable section

namespace Cert.Proof

open Cert.KernelIdeal Cert.KernelIdeal.Gen
open Idealize.ShloMosaic Idealize.ShloMosaic.TcCoe Idealize.ShloMosaic.Tactic Idealize.SL.Sem

/-- The reference's hidden layer, sample by sample. -/
theorem layer_eq (m : (ℓ : Loc nD τ sig) → Buf (Elt Ideal) ℓ) (h : InRange m) (d : Dev nD) (B : Fin 16384) (u : Fin 64) :
    Ref.layer (Ref.rowsC (aci m d) (act m d)) (Ref.rowsS (asi m d) (ast m d)) (aw1 m d) (ab1 m d) (ix2 B u) = hidden m d B u := by
  rw [Ref.layer_at]
  have eC : (fun e => Ref.rowsC (aci m d) (act m d) (ix2 B e)) = rowC m d B := funext fun e => by
    rw [Ref.rowsC_at _ _ (h d).1]
    exact congrArg (fun w => act m d (ix2 w e)) (Fin.ext (Nat.mod_eq_of_lt ((h d).1 (ix1 B))).symm)
  have eS : (fun e => Ref.rowsS (asi m d) (ast m d) (ix2 B e)) = rowS m d B := funext fun e => by
    rw [Ref.rowsS_at _ _ (h d).2]
    exact congrArg (fun w => ast m d (ix2 w e)) (Fin.ext (Nat.mod_eq_of_lt ((h d).2 (ix1 B))).symm)
  rw [eC, eS]
  rfl

/-- The reference's two results over the kernel's arguments. -/
abbrev refRole (m : (ℓ : Loc nD τ sig) → Buf (Elt Ideal) ℓ) (d : Dev nD) : FVec Ideal Cert.ReferenceIdeal.S16384x16 .f32 :=
  addf (Host.dotGeneral Cert.ReferenceIdeal.dot_S16384x64_S64x16_S16384x16_1_0_0_1_n_n none
      (Ref.layer (Ref.rowsC (aci m d) (act m d)) (Ref.rowsS (asi m d) (ast m d)) (aw1 m d) (ab1 m d)) (awr m d))
    (broadcastInDim Cert.ReferenceIdeal.S16384x16 ![0, 1] Cert.ReferenceIdeal.Gen.bcast_S1x16_S16384x16_0_1
      (broadcastInDim Cert.ReferenceIdeal.S1x16 ![1] Cert.ReferenceIdeal.Gen.bcast_S16_S1x16_1 (abr m d)))
abbrev refPed (m : (ℓ : Loc nD τ sig) → Buf (Elt Ideal) ℓ) (d : Dev nD) : FVec Ideal Cert.ReferenceIdeal.S16384x8 .f32 :=
  addf (Host.dotGeneral Cert.ReferenceIdeal.dot_S16384x64_S64x8_S16384x8_1_0_0_1_n_n none
      (Ref.layer (Ref.rowsC (aci m d) (act m d)) (Ref.rowsS (asi m d) (ast m d)) (aw1 m d) (ab1 m d)) (awp m d))
    (broadcastInDim Cert.ReferenceIdeal.S16384x8 ![0, 1] Cert.ReferenceIdeal.Gen.bcast_S1x8_S16384x8_0_1
      (broadcastInDim Cert.ReferenceIdeal.S1x8 ![1] Cert.ReferenceIdeal.Gen.bcast_S8_S1x8_1 (abp m d)))

theorem refRole_eq (m : (ℓ : Loc nD τ sig) → Buf (Elt Ideal) ℓ) (h : InRange m) (d : Dev nD) : refRole m d = V9 m d (rf main_v7) := by
  funext z
  obtain ⟨B, j, rfl⟩ : ∃ (B : Fin 16384) (j : Fin 16), z = ix2 B j := ⟨z 0, z 1, eq_ix2 z⟩
  refine (Ref.out16_at _ _ _ B j).trans (Eq.trans ?_ (V9_v7 m d h B j).symm)
  rw [show (fun u => Ref.layer (Ref.rowsC (aci m d) (act m d)) (Ref.rowsS (asi m d) (ast m d)) (aw1 m d) (ab1 m d) (ix2 B u)) = hidden m d B from
    funext fun u => layer_eq m h d B u]
  rfl
theorem refPed_eq (m : (ℓ : Loc nD τ sig) → Buf (Elt Ideal) ℓ) (h : InRange m) (d : Dev nD) : refPed m d = V9 m d (rf main_v8) := by
  funext z
  obtain ⟨B, j, rfl⟩ : ∃ (B : Fin 16384) (j : Fin 8), z = ix2 B j := ⟨z 0, z 1, eq_ix2 z⟩
  refine (Ref.out8_at _ _ _ B j).trans (Eq.trans ?_ (V9_v8 m d h B j).symm)
  rw [show (fun u => Ref.layer (Ref.rowsC (aci m d) (act m d)) (Ref.rowsS (asi m d) (ast m d)) (aw1 m d) (ab1 m d) (ix2 B u)) = hidden m d B from
    funext fun u => layer_eq m h d B u]
  rfl

theorem frame_ReferenceIdeal_pre : Cert.quiescent_ReferenceIdeal_pre_in_range := fun m ρ _ => frame_ReferenceIdeal m ρ trivial

theorem algebraic : Cert.algebraic_KernelIdeal_ReferenceIdeal := fun m g m' g' hpre hag => by
  have h : InRange m := inRange_KernelIdeal m hpre
  refine ⟨fun d => V9 m d (rf main_v7), fun d => V9 m d (rf main_v8), ?_, ?_⟩
  · refine (θ_run Cert.KernelIdeal.defs _ _).mono (fun r hr c => ?_) (run_main m g (ins_OK m h))
    have e := args_end m r hr c
    exact ⟨hr.1 c (rf main_v7) (by decide), hr.1 c (rf main_v8) (by decide), e _ (by decide), e _ (by decide), e _ (by decide), e _ (by decide),
      e _ (by decide), e _ (by decide), e _ (by decide), e _ (by decide), e _ (by decide), e _ (by decide)⟩
  · refine (θ_run Cert.ReferenceIdeal.defs _ _).mono (fun r hr c => ?_) (Cert.ReferenceIdeal.Value.run m' g')
    obtain ⟨e0, e1, hargs⟩ := hr c
    obtain ⟨a0, a1, a2, a3, a4, a5, a6, a7, a8, a9⟩ := hag c
    refine ⟨e0.trans ?_, e1.trans ?_, hargs⟩
    · rw [a0, a1, a2, a3, a4, a5, a6, a7]
      exact refRole_eq m h c
    · rw [a0, a1, a2, a3, a4, a5, a8, a9]
      exact refPed_eq m h c

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.ReferenceIdeal.Run
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts, by
  exact ⟨frame_Kernel, frame_KernelIdeal, frame_ReferenceIdeal, frame_ReferenceIdeal_pre, trivial, algebraic⟩⟩

end Cert.Proof

end
